-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S1024x1024 : Shape := ⟨2, ![1024, 1024]⟩
abbrev S16x64x1024 : Shape := ⟨3, ![16, 64, 1024]⟩
abbrev S2x1024x2048 : Shape := ⟨3, ![2, 1024, 2048]⟩
abbrev S2x2048x1024 : Shape := ⟨3, ![2, 2048, 1024]⟩
abbrev S16 : Shape := ⟨1, ![16]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S256x1024 : Shape := ⟨2, ![256, 1024]⟩
abbrev S256x2048 : Shape := ⟨2, ![256, 2048]⟩
abbrev S1x64x1024 : Shape := ⟨3, ![1, 64, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .local _ .vmem, ⟨0, _⟩ => ⟨S64x1024, .bf16⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x64x1024, .bf16⟩
  | .local _ .vmem, ⟨5, _⟩ => ⟨S64x1024, .f32⟩
  | .local _ .vmem, ⟨6, _⟩ => ⟨S1024x2048, .f32⟩
  | .local _ .vmem, ⟨7, _⟩ => ⟨S2048x1024, .f32⟩
  | .local _ .vmem, ⟨8, _⟩ => ⟨S2x1024x2048, .bf16⟩
  | .local _ .vmem, ⟨9, _⟩ => ⟨S2x2048x1024, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

@[reducible] def k0_t1_loop : Scf.Loop 32 :=
  let c1_i32_1 : BitVec 32 := 1#32
  let c15_i32 : BitVec 32 := 15#32
  let v8 : BitVec 32 := Scalar.addi c1_i32_1 c15_i32
  let c1_i32_2 : BitVec 32 := 1#32
  ⟨c1_i32_1, v8, c1_i32_2⟩
def k0_dev1 (d0 : Dev nD) (k0_t1 : Fin k0_t1_loop.trips) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let c1_i32_2 : BitVec 32 := 1#32
  let arg21 : BitVec 32 := Scf.iv c1_i32_1 c1_i32_2 k0_t1
  let v1287 : BitVec 32 := Scalar.addi v2 arg21
  let c16_i32_885 : BitVec 32 := 16#32
  let v1288 : BitVec 32 := Scalar.remsi v1287 c16_i32_885
  let c1_i32_887 : BitVec 32 := 1#32
  let v1289 : BitVec 32 := Scalar.muli v1288 c1_i32_887
  let v1290 : BitVec 32 := Scalar.addi c0_i32_888 v1289
  v1290.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v11 : BitVec 32 := Scalar.muli v2 c64_i32
  let v12 : Index := Scalar.indexCast v11
  let c0_6 : Index := 0#32
  ![v12.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_7 : BitVec 32 := 0#32
  let v16 : BitVec 1 := Scalar.cmpi .ne v2 c0_i32_7
  let v17 : BitVec 32 := Scalar.extui v16
  let c0_i32_8 : BitVec 32 := 0#32
  let v18 : BitVec 1 := Scalar.cmpi .ne v17 c0_i32_8
  v18

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev2 : Nat :=
  let c0_i32_890 : BitVec 32 := 0#32
  let c0_i32_888 : BitVec 32 := 0#32
  let c1_i32_889 : BitVec 32 := 1#32
  let v1289 : BitVec 32 := Scalar.muli c0_i32_888 c1_i32_889
  let v1290 : BitVec 32 := Scalar.addi c0_i32_890 v1289
  v1290.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_9 : BitVec 32 := 1#32
  let v19 : BitVec 1 := Scalar.cmpi .ne v2 c1_i32_9
  let v20 : BitVec 32 := Scalar.extui v19
  let c0_i32_10 : BitVec 32 := 0#32
  let v21 : BitVec 1 := Scalar.cmpi .ne v20 c0_i32_10
  v21

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev3 : Nat :=
  let c0_i32_890 : BitVec 32 := 0#32
  let c1_i32_888 : BitVec 32 := 1#32
  let c1_i32_889 : BitVec 32 := 1#32
  let v1289 : BitVec 32 := Scalar.muli c1_i32_888 c1_i32_889
  let v1290 : BitVec 32 := Scalar.addi c0_i32_890 v1289
  v1290.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v22 : BitVec 1 := Scalar.cmpi .ne v2 c2_i32
  let v23 : BitVec 32 := Scalar.extui v22
  let c0_i32_11 : BitVec 32 := 0#32
  let v24 : BitVec 1 := Scalar.cmpi .ne v23 c0_i32_11
  v24

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev4 : Nat :=
  let c0_i32_890 : BitVec 32 := 0#32
  let c2_i32_888 : BitVec 32 := 2#32
  let c1_i32_889 : BitVec 32 := 1#32
  let v1289 : BitVec 32 := Scalar.muli c2_i32_888 c1_i32_889
  let v1290 : BitVec 32 := Scalar.addi c0_i32_890 v1289
  v1290.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v25 : BitVec 1 := Scalar.cmpi .ne v2 c3_i32
  let v26 : BitVec 32 := Scalar.extui v25
  let c0_i32_12 : BitVec 32 := 0#32
  let v27 : BitVec 1 := Scalar.cmpi .ne v26 c0_i32_12
  v27

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev5 : Nat :=
  let c0_i32_890 : BitVec 32 := 0#32
  let c3_i32_888 : BitVec 32 := 3#32
  let c1_i32_889 : BitVec 32 := 1#32
  let v1289 : BitVec 32 := Scalar.muli c3_i32_888 c1_i32_889
  let v1290 : BitVec 32 := Scalar.addi c0_i32_890 v1289
  v1290.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 1 := Scalar.cmpi .ne v2 c4_i32
  let v29 : BitVec 32 := Scalar.extui v28
  let c0_i32_13 : BitVec 32 := 0#32
  let v30 : BitVec 1 := Scalar.cmpi .ne v29 c0_i32_13
  v30

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev6 : Nat :=
  let c0_i32_890 : BitVec 32 := 0#32
  let c4_i32_888 : BitVec 32 := 4#32
  let c1_i32_889 : BitVec 32 := 1#32
  let v1289 : BitVec 32 := Scalar.muli c4_i32_888 c1_i32_889
  let v1290 : BitVec 32 := Scalar.addi c0_i32_890 v1289
  v1290.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v31 : BitVec 1 := Scalar.cmpi .ne v2 c5_i32
  let v32 : BitVec 32 := Scalar.extui v31
  let c0_i32_14 : BitVec 32 := 0#32
  let v33 : BitVec 1 := Scalar.cmpi .ne v32 c0_i32_14
  v33

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev7 : Nat :=
  let c0_i32_890 : BitVec 32 := 0#32
  let c5_i32_888 : BitVec 32 := 5#32
  let c1_i32_889 : BitVec 32 := 1#32
  let v1289 : BitVec 32 := Scalar.muli c5_i32_888 c1_i32_889
  let v1290 : BitVec 32 := Scalar.addi c0_i32_890 v1289
  v1290.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 1 := Scalar.cmpi .ne v2 c6_i32
  let v35 : BitVec 32 := Scalar.extui v34
  let c0_i32_15 : BitVec 32 := 0#32
  let v36 : BitVec 1 := Scalar.cmpi .ne v35 c0_i32_15
  v36

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev8 : Nat :=
  let c0_i32_890 : BitVec 32 := 0#32
  let c6_i32_888 : BitVec 32 := 6#32
  let c1_i32_889 : BitVec 32 := 1#32
  let v1289 : BitVec 32 := Scalar.muli c6_i32_888 c1_i32_889
  let v1290 : BitVec 32 := Scalar.addi c0_i32_890 v1289
  v1290.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v37 : BitVec 1 := Scalar.cmpi .ne v2 c7_i32
  let v38 : BitVec 32 := Scalar.extui v37
  let c0_i32_16 : BitVec 32 := 0#32
  let v39 : BitVec 1 := Scalar.cmpi .ne v38 c0_i32_16
  v39

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev9 : Nat :=
  let c0_i32_890 : BitVec 32 := 0#32
  let c7_i32_888 : BitVec 32 := 7#32
  let c1_i32_889 : BitVec 32 := 1#32
  let v1289 : BitVec 32 := Scalar.muli c7_i32_888 c1_i32_889
  let v1290 : BitVec 32 := Scalar.addi c0_i32_890 v1289
  v1290.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v40 : BitVec 1 := Scalar.cmpi .ne v2 c8_i32
  let v41 : BitVec 32 := Scalar.extui v40
  let c0_i32_17 : BitVec 32 := 0#32
  let v42 : BitVec 1 := Scalar.cmpi .ne v41 c0_i32_17
  v42

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev10 : Nat :=
  let c0_i32_890 : BitVec 32 := 0#32
  let c8_i32_888 : BitVec 32 := 8#32
  let c1_i32_889 : BitVec 32 := 1#32
  let v1289 : BitVec 32 := Scalar.muli c8_i32_888 c1_i32_889
  let v1290 : BitVec 32 := Scalar.addi c0_i32_890 v1289
  v1290.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v43 : BitVec 1 := Scalar.cmpi .ne v2 c9_i32
  let v44 : BitVec 32 := Scalar.extui v43
  let c0_i32_18 : BitVec 32 := 0#32
  let v45 : BitVec 1 := Scalar.cmpi .ne v44 c0_i32_18
  v45

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev11 : Nat :=
  let c0_i32_890 : BitVec 32 := 0#32
  let c9_i32_888 : BitVec 32 := 9#32
  let c1_i32_889 : BitVec 32 := 1#32
  let v1289 : BitVec 32 := Scalar.muli c9_i32_888 c1_i32_889
  let v1290 : BitVec 32 := Scalar.addi c0_i32_890 v1289
  v1290.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v46 : BitVec 1 := Scalar.cmpi .ne v2 c10_i32
  let v47 : BitVec 32 := Scalar.extui v46
  let c0_i32_19 : BitVec 32 := 0#32
  let v48 : BitVec 1 := Scalar.cmpi .ne v47 c0_i32_19
  v48

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev12 : Nat :=
  let c0_i32_890 : BitVec 32 := 0#32
  let c10_i32_888 : BitVec 32 := 10#32
  let c1_i32_889 : BitVec 32 := 1#32
  let v1289 : BitVec 32 := Scalar.muli c10_i32_888 c1_i32_889
  let v1290 : BitVec 32 := Scalar.addi c0_i32_890 v1289
  v1290.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 1 := Scalar.cmpi .ne v2 c11_i32
  let v50 : BitVec 32 := Scalar.extui v49
  let c0_i32_20 : BitVec 32 := 0#32
  let v51 : BitVec 1 := Scalar.cmpi .ne v50 c0_i32_20
  v51

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev13 : Nat :=
  let c0_i32_890 : BitVec 32 := 0#32
  let c11_i32_888 : BitVec 32 := 11#32
  let c1_i32_889 : BitVec 32 := 1#32
  let v1289 : BitVec 32 := Scalar.muli c11_i32_888 c1_i32_889
  let v1290 : BitVec 32 := Scalar.addi c0_i32_890 v1289
  v1290.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v52 : BitVec 1 := Scalar.cmpi .ne v2 c12_i32
  let v53 : BitVec 32 := Scalar.extui v52
  let c0_i32_21 : BitVec 32 := 0#32
  let v54 : BitVec 1 := Scalar.cmpi .ne v53 c0_i32_21
  v54

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev14 : Nat :=
  let c0_i32_890 : BitVec 32 := 0#32
  let c12_i32_888 : BitVec 32 := 12#32
  let c1_i32_889 : BitVec 32 := 1#32
  let v1289 : BitVec 32 := Scalar.muli c12_i32_888 c1_i32_889
  let v1290 : BitVec 32 := Scalar.addi c0_i32_890 v1289
  v1290.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v55 : BitVec 1 := Scalar.cmpi .ne v2 c13_i32
  let v56 : BitVec 32 := Scalar.extui v55
  let c0_i32_22 : BitVec 32 := 0#32
  let v57 : BitVec 1 := Scalar.cmpi .ne v56 c0_i32_22
  v57

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev15 : Nat :=
  let c0_i32_890 : BitVec 32 := 0#32
  let c13_i32_888 : BitVec 32 := 13#32
  let c1_i32_889 : BitVec 32 := 1#32
  let v1289 : BitVec 32 := Scalar.muli c13_i32_888 c1_i32_889
  let v1290 : BitVec 32 := Scalar.addi c0_i32_890 v1289
  v1290.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v58 : BitVec 1 := Scalar.cmpi .ne v2 c14_i32
  let v59 : BitVec 32 := Scalar.extui v58
  let c0_i32_23 : BitVec 32 := 0#32
  let v60 : BitVec 1 := Scalar.cmpi .ne v59 c0_i32_23
  v60

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev16 : Nat :=
  let c0_i32_890 : BitVec 32 := 0#32
  let c14_i32_888 : BitVec 32 := 14#32
  let c1_i32_889 : BitVec 32 := 1#32
  let v1289 : BitVec 32 := Scalar.muli c14_i32_888 c1_i32_889
  let v1290 : BitVec 32 := Scalar.addi c0_i32_890 v1289
  v1290.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_24 : BitVec 32 := 15#32
  let v61 : BitVec 1 := Scalar.cmpi .ne v2 c15_i32_24
  let v62 : BitVec 32 := Scalar.extui v61
  let c0_i32_25 : BitVec 32 := 0#32
  let v63 : BitVec 1 := Scalar.cmpi .ne v62 c0_i32_25
  v63

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev17 : Nat :=
  let c0_i32_890 : BitVec 32 := 0#32
  let c15_i32_888 : BitVec 32 := 15#32
  let c1_i32_889 : BitVec 32 := 1#32
  let v1289 : BitVec 32 := Scalar.muli c15_i32_888 c1_i32_889
  let v1290 : BitVec 32 := Scalar.addi c0_i32_890 v1289
  v1290.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_40 : BitVec 32 := 0#32
  let v82 : BitVec 1 := Scalar.cmpi .ne v2 c0_i32_40
  let v83 : BitVec 32 := Scalar.extui v82
  let c0_i32_41 : BitVec 32 := 0#32
  let v84 : BitVec 1 := Scalar.cmpi .ne v83 c0_i32_41
  v84

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_42 : BitVec 32 := 1#32
  let v85 : BitVec 1 := Scalar.cmpi .ne v2 c1_i32_42
  let v86 : BitVec 32 := Scalar.extui v85
  let c0_i32_43 : BitVec 32 := 0#32
  let v87 : BitVec 1 := Scalar.cmpi .ne v86 c0_i32_43
  v87

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_44 : BitVec 32 := 2#32
  let v88 : BitVec 1 := Scalar.cmpi .ne v2 c2_i32_44
  let v89 : BitVec 32 := Scalar.extui v88
  let c0_i32_45 : BitVec 32 := 0#32
  let v90 : BitVec 1 := Scalar.cmpi .ne v89 c0_i32_45
  v90

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_46 : BitVec 32 := 3#32
  let v91 : BitVec 1 := Scalar.cmpi .ne v2 c3_i32_46
  let v92 : BitVec 32 := Scalar.extui v91
  let c0_i32_47 : BitVec 32 := 0#32
  let v93 : BitVec 1 := Scalar.cmpi .ne v92 c0_i32_47
  v93

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_60 : BitVec 32 := 0#32
  let v108 : BitVec 1 := Scalar.cmpi .ne v2 c0_i32_60
  let v109 : BitVec 32 := Scalar.extui v108
  let c0_i32_61 : BitVec 32 := 0#32
  let v110 : BitVec 1 := Scalar.cmpi .ne v109 c0_i32_61
  v110

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev18 : Nat :=
  let c0_i32_888 : BitVec 32 := 0#32
  let c0_i32_886 : BitVec 32 := 0#32
  let c1_i32_887 : BitVec 32 := 1#32
  let v1287 : BitVec 32 := Scalar.muli c0_i32_886 c1_i32_887
  let v1288 : BitVec 32 := Scalar.addi c0_i32_888 v1287
  v1288.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v111 : BitVec 1 := Scalar.cmpi .ne v2 c1_i32_62
  let v112 : BitVec 32 := Scalar.extui v111
  let c0_i32_63 : BitVec 32 := 0#32
  let v113 : BitVec 1 := Scalar.cmpi .ne v112 c0_i32_63
  v113

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev19 : Nat :=
  let c0_i32_888 : BitVec 32 := 0#32
  let c1_i32_886 : BitVec 32 := 1#32
  let c1_i32_887 : BitVec 32 := 1#32
  let v1287 : BitVec 32 := Scalar.muli c1_i32_886 c1_i32_887
  let v1288 : BitVec 32 := Scalar.addi c0_i32_888 v1287
  v1288.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_64 : BitVec 32 := 2#32
  let v114 : BitVec 1 := Scalar.cmpi .ne v2 c2_i32_64
  let v115 : BitVec 32 := Scalar.extui v114
  let c0_i32_65 : BitVec 32 := 0#32
  let v116 : BitVec 1 := Scalar.cmpi .ne v115 c0_i32_65
  v116

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev20 : Nat :=
  let c0_i32_888 : BitVec 32 := 0#32
  let c2_i32_886 : BitVec 32 := 2#32
  let c1_i32_887 : BitVec 32 := 1#32
  let v1287 : BitVec 32 := Scalar.muli c2_i32_886 c1_i32_887
  let v1288 : BitVec 32 := Scalar.addi c0_i32_888 v1287
  v1288.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_66 : BitVec 32 := 3#32
  let v117 : BitVec 1 := Scalar.cmpi .ne v2 c3_i32_66
  let v118 : BitVec 32 := Scalar.extui v117
  let c0_i32_67 : BitVec 32 := 0#32
  let v119 : BitVec 1 := Scalar.cmpi .ne v118 c0_i32_67
  v119

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev21 : Nat :=
  let c0_i32_888 : BitVec 32 := 0#32
  let c3_i32_886 : BitVec 32 := 3#32
  let c1_i32_887 : BitVec 32 := 1#32
  let v1287 : BitVec 32 := Scalar.muli c3_i32_886 c1_i32_887
  let v1288 : BitVec 32 := Scalar.addi c0_i32_888 v1287
  v1288.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_68 : BitVec 32 := 4#32
  let v120 : BitVec 1 := Scalar.cmpi .ne v2 c4_i32_68
  let v121 : BitVec 32 := Scalar.extui v120
  let c0_i32_69 : BitVec 32 := 0#32
  let v122 : BitVec 1 := Scalar.cmpi .ne v121 c0_i32_69
  v122

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_70 : BitVec 32 := 5#32
  let v123 : BitVec 1 := Scalar.cmpi .ne v2 c5_i32_70
  let v124 : BitVec 32 := Scalar.extui v123
  let c0_i32_71 : BitVec 32 := 0#32
  let v125 : BitVec 1 := Scalar.cmpi .ne v124 c0_i32_71
  v125

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_72 : BitVec 32 := 6#32
  let v126 : BitVec 1 := Scalar.cmpi .ne v2 c6_i32_72
  let v127 : BitVec 32 := Scalar.extui v126
  let c0_i32_73 : BitVec 32 := 0#32
  let v128 : BitVec 1 := Scalar.cmpi .ne v127 c0_i32_73
  v128

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_74 : BitVec 32 := 7#32
  let v129 : BitVec 1 := Scalar.cmpi .ne v2 c7_i32_74
  let v130 : BitVec 32 := Scalar.extui v129
  let c0_i32_75 : BitVec 32 := 0#32
  let v131 : BitVec 1 := Scalar.cmpi .ne v130 c0_i32_75
  v131

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let v132 : BitVec 1 := Scalar.cmpi .ne v2 c0_i32_76
  let v133 : BitVec 32 := Scalar.extui v132
  let c0_i32_77 : BitVec 32 := 0#32
  let v134 : BitVec 1 := Scalar.cmpi .ne v133 c0_i32_77
  v134

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_78 : BitVec 32 := 1#32
  let v135 : BitVec 1 := Scalar.cmpi .ne v2 c1_i32_78
  let v136 : BitVec 32 := Scalar.extui v135
  let c0_i32_79 : BitVec 32 := 0#32
  let v137 : BitVec 1 := Scalar.cmpi .ne v136 c0_i32_79
  v137

def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v138 : BitVec 1 := Scalar.cmpi .ne v2 c2_i32_80
  let v139 : BitVec 32 := Scalar.extui v138
  let c0_i32_81 : BitVec 32 := 0#32
  let v140 : BitVec 1 := Scalar.cmpi .ne v139 c0_i32_81
  v140

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v141 : BitVec 1 := Scalar.cmpi .ne v2 c3_i32_82
  let v142 : BitVec 32 := Scalar.extui v141
  let c0_i32_83 : BitVec 32 := 0#32
  let v143 : BitVec 1 := Scalar.cmpi .ne v142 c0_i32_83
  v143

def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_84 : BitVec 32 := 4#32
  let v144 : BitVec 1 := Scalar.cmpi .ne v2 c4_i32_84
  let v145 : BitVec 32 := Scalar.extui v144
  let c0_i32_85 : BitVec 32 := 0#32
  let v146 : BitVec 1 := Scalar.cmpi .ne v145 c0_i32_85
  v146

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_86 : BitVec 32 := 5#32
  let v147 : BitVec 1 := Scalar.cmpi .ne v2 c5_i32_86
  let v148 : BitVec 32 := Scalar.extui v147
  let c0_i32_87 : BitVec 32 := 0#32
  let v149 : BitVec 1 := Scalar.cmpi .ne v148 c0_i32_87
  v149

def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_88 : BitVec 32 := 6#32
  let v150 : BitVec 1 := Scalar.cmpi .ne v2 c6_i32_88
  let v151 : BitVec 32 := Scalar.extui v150
  let c0_i32_89 : BitVec 32 := 0#32
  let v152 : BitVec 1 := Scalar.cmpi .ne v151 c0_i32_89
  v152

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_90 : BitVec 32 := 7#32
  let v153 : BitVec 1 := Scalar.cmpi .ne v2 c7_i32_90
  let v154 : BitVec 32 := Scalar.extui v153
  let c0_i32_91 : BitVec 32 := 0#32
  let v155 : BitVec 1 := Scalar.cmpi .ne v154 c0_i32_91
  v155

def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_92 : BitVec 32 := 8#32
  let v156 : BitVec 1 := Scalar.cmpi .ne v2 c8_i32_92
  let v157 : BitVec 32 := Scalar.extui v156
  let c0_i32_93 : BitVec 32 := 0#32
  let v158 : BitVec 1 := Scalar.cmpi .ne v157 c0_i32_93
  v158

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_94 : BitVec 32 := 9#32
  let v159 : BitVec 1 := Scalar.cmpi .ne v2 c9_i32_94
  let v160 : BitVec 32 := Scalar.extui v159
  let c0_i32_95 : BitVec 32 := 0#32
  let v161 : BitVec 1 := Scalar.cmpi .ne v160 c0_i32_95
  v161

def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_96 : BitVec 32 := 10#32
  let v162 : BitVec 1 := Scalar.cmpi .ne v2 c10_i32_96
  let v163 : BitVec 32 := Scalar.extui v162
  let c0_i32_97 : BitVec 32 := 0#32
  let v164 : BitVec 1 := Scalar.cmpi .ne v163 c0_i32_97
  v164

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_98 : BitVec 32 := 11#32
  let v165 : BitVec 1 := Scalar.cmpi .ne v2 c11_i32_98
  let v166 : BitVec 32 := Scalar.extui v165
  let c0_i32_99 : BitVec 32 := 0#32
  let v167 : BitVec 1 := Scalar.cmpi .ne v166 c0_i32_99
  v167

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_100 : BitVec 32 := 12#32
  let v168 : BitVec 1 := Scalar.cmpi .ne v2 c12_i32_100
  let v169 : BitVec 32 := Scalar.extui v168
  let c0_i32_101 : BitVec 32 := 0#32
  let v170 : BitVec 1 := Scalar.cmpi .ne v169 c0_i32_101
  v170

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_102 : BitVec 32 := 13#32
  let v171 : BitVec 1 := Scalar.cmpi .ne v2 c13_i32_102
  let v172 : BitVec 32 := Scalar.extui v171
  let c0_i32_103 : BitVec 32 := 0#32
  let v173 : BitVec 1 := Scalar.cmpi .ne v172 c0_i32_103
  v173

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_104 : BitVec 32 := 14#32
  let v174 : BitVec 1 := Scalar.cmpi .ne v2 c14_i32_104
  let v175 : BitVec 32 := Scalar.extui v174
  let c0_i32_105 : BitVec 32 := 0#32
  let v176 : BitVec 1 := Scalar.cmpi .ne v175 c0_i32_105
  v176

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_106 : BitVec 32 := 15#32
  let v177 : BitVec 1 := Scalar.cmpi .ne v2 c15_i32_106
  let v178 : BitVec 32 := Scalar.extui v177
  let c0_i32_107 : BitVec 32 := 0#32
  let v179 : BitVec 1 := Scalar.cmpi .ne v178 c0_i32_107
  v179

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_120 : BitVec 32 := 4#32
  let v194 : BitVec 1 := Scalar.cmpi .ne v2 c4_i32_120
  let v195 : BitVec 32 := Scalar.extui v194
  let c0_i32_121 : BitVec 32 := 0#32
  let v196 : BitVec 1 := Scalar.cmpi .ne v195 c0_i32_121
  v196

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev22 : Nat :=
  let c0_i32_888 : BitVec 32 := 0#32
  let c4_i32_886 : BitVec 32 := 4#32
  let c1_i32_887 : BitVec 32 := 1#32
  let v1287 : BitVec 32 := Scalar.muli c4_i32_886 c1_i32_887
  let v1288 : BitVec 32 := Scalar.addi c0_i32_888 v1287
  v1288.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_122 : BitVec 32 := 5#32
  let v197 : BitVec 1 := Scalar.cmpi .ne v2 c5_i32_122
  let v198 : BitVec 32 := Scalar.extui v197
  let c0_i32_123 : BitVec 32 := 0#32
  let v199 : BitVec 1 := Scalar.cmpi .ne v198 c0_i32_123
  v199

def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev23 : Nat :=
  let c0_i32_888 : BitVec 32 := 0#32
  let c5_i32_886 : BitVec 32 := 5#32
  let c1_i32_887 : BitVec 32 := 1#32
  let v1287 : BitVec 32 := Scalar.muli c5_i32_886 c1_i32_887
  let v1288 : BitVec 32 := Scalar.addi c0_i32_888 v1287
  v1288.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_124 : BitVec 32 := 6#32
  let v200 : BitVec 1 := Scalar.cmpi .ne v2 c6_i32_124
  let v201 : BitVec 32 := Scalar.extui v200
  let c0_i32_125 : BitVec 32 := 0#32
  let v202 : BitVec 1 := Scalar.cmpi .ne v201 c0_i32_125
  v202

def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev24 : Nat :=
  let c0_i32_888 : BitVec 32 := 0#32
  let c6_i32_886 : BitVec 32 := 6#32
  let c1_i32_887 : BitVec 32 := 1#32
  let v1287 : BitVec 32 := Scalar.muli c6_i32_886 c1_i32_887
  let v1288 : BitVec 32 := Scalar.addi c0_i32_888 v1287
  v1288.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v203 : BitVec 1 := Scalar.cmpi .ne v2 c7_i32_126
  let v204 : BitVec 32 := Scalar.extui v203
  let c0_i32_127 : BitVec 32 := 0#32
  let v205 : BitVec 1 := Scalar.cmpi .ne v204 c0_i32_127
  v205

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev25 : Nat :=
  let c0_i32_888 : BitVec 32 := 0#32
  let c7_i32_886 : BitVec 32 := 7#32
  let c1_i32_887 : BitVec 32 := 1#32
  let v1287 : BitVec 32 := Scalar.muli c7_i32_886 c1_i32_887
  let v1288 : BitVec 32 := Scalar.addi c0_i32_888 v1287
  v1288.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_128 : BitVec 32 := 8#32
  let v206 : BitVec 1 := Scalar.cmpi .ne v2 c8_i32_128
  let v207 : BitVec 32 := Scalar.extui v206
  let c0_i32_129 : BitVec 32 := 0#32
  let v208 : BitVec 1 := Scalar.cmpi .ne v207 c0_i32_129
  v208

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_130 : BitVec 32 := 9#32
  let v209 : BitVec 1 := Scalar.cmpi .ne v2 c9_i32_130
  let v210 : BitVec 32 := Scalar.extui v209
  let c0_i32_131 : BitVec 32 := 0#32
  let v211 : BitVec 1 := Scalar.cmpi .ne v210 c0_i32_131
  v211

def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_132 : BitVec 32 := 10#32
  let v212 : BitVec 1 := Scalar.cmpi .ne v2 c10_i32_132
  let v213 : BitVec 32 := Scalar.extui v212
  let c0_i32_133 : BitVec 32 := 0#32
  let v214 : BitVec 1 := Scalar.cmpi .ne v213 c0_i32_133
  v214

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_134 : BitVec 32 := 11#32
  let v215 : BitVec 1 := Scalar.cmpi .ne v2 c11_i32_134
  let v216 : BitVec 32 := Scalar.extui v215
  let c0_i32_135 : BitVec 32 := 0#32
  let v217 : BitVec 1 := Scalar.cmpi .ne v216 c0_i32_135
  v217

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_161 : BitVec 32 := 8#32
  let v250 : BitVec 1 := Scalar.cmpi .ne v2 c8_i32_161
  let v251 : BitVec 32 := Scalar.extui v250
  let c0_i32_162 : BitVec 32 := 0#32
  let v252 : BitVec 1 := Scalar.cmpi .ne v251 c0_i32_162
  v252

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev26 : Nat :=
  let c0_i32_888 : BitVec 32 := 0#32
  let c8_i32_886 : BitVec 32 := 8#32
  let c1_i32_887 : BitVec 32 := 1#32
  let v1287 : BitVec 32 := Scalar.muli c8_i32_886 c1_i32_887
  let v1288 : BitVec 32 := Scalar.addi c0_i32_888 v1287
  v1288.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_163 : BitVec 32 := 9#32
  let v253 : BitVec 1 := Scalar.cmpi .ne v2 c9_i32_163
  let v254 : BitVec 32 := Scalar.extui v253
  let c0_i32_164 : BitVec 32 := 0#32
  let v255 : BitVec 1 := Scalar.cmpi .ne v254 c0_i32_164
  v255

def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev27 : Nat :=
  let c0_i32_888 : BitVec 32 := 0#32
  let c9_i32_886 : BitVec 32 := 9#32
  let c1_i32_887 : BitVec 32 := 1#32
  let v1287 : BitVec 32 := Scalar.muli c9_i32_886 c1_i32_887
  let v1288 : BitVec 32 := Scalar.addi c0_i32_888 v1287
  v1288.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_165 : BitVec 32 := 10#32
  let v256 : BitVec 1 := Scalar.cmpi .ne v2 c10_i32_165
  let v257 : BitVec 32 := Scalar.extui v256
  let c0_i32_166 : BitVec 32 := 0#32
  let v258 : BitVec 1 := Scalar.cmpi .ne v257 c0_i32_166
  v258

def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev28 : Nat :=
  let c0_i32_888 : BitVec 32 := 0#32
  let c10_i32_886 : BitVec 32 := 10#32
  let c1_i32_887 : BitVec 32 := 1#32
  let v1287 : BitVec 32 := Scalar.muli c10_i32_886 c1_i32_887
  let v1288 : BitVec 32 := Scalar.addi c0_i32_888 v1287
  v1288.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_167 : BitVec 32 := 11#32
  let v259 : BitVec 1 := Scalar.cmpi .ne v2 c11_i32_167
  let v260 : BitVec 32 := Scalar.extui v259
  let c0_i32_168 : BitVec 32 := 0#32
  let v261 : BitVec 1 := Scalar.cmpi .ne v260 c0_i32_168
  v261

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev29 : Nat :=
  let c0_i32_888 : BitVec 32 := 0#32
  let c11_i32_886 : BitVec 32 := 11#32
  let c1_i32_887 : BitVec 32 := 1#32
  let v1287 : BitVec 32 := Scalar.muli c11_i32_886 c1_i32_887
  let v1288 : BitVec 32 := Scalar.addi c0_i32_888 v1287
  v1288.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_169 : BitVec 32 := 12#32
  let v262 : BitVec 1 := Scalar.cmpi .ne v2 c12_i32_169
  let v263 : BitVec 32 := Scalar.extui v262
  let c0_i32_170 : BitVec 32 := 0#32
  let v264 : BitVec 1 := Scalar.cmpi .ne v263 c0_i32_170
  v264

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_171 : BitVec 32 := 13#32
  let v265 : BitVec 1 := Scalar.cmpi .ne v2 c13_i32_171
  let v266 : BitVec 32 := Scalar.extui v265
  let c0_i32_172 : BitVec 32 := 0#32
  let v267 : BitVec 1 := Scalar.cmpi .ne v266 c0_i32_172
  v267

def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_173 : BitVec 32 := 14#32
  let v268 : BitVec 1 := Scalar.cmpi .ne v2 c14_i32_173
  let v269 : BitVec 32 := Scalar.extui v268
  let c0_i32_174 : BitVec 32 := 0#32
  let v270 : BitVec 1 := Scalar.cmpi .ne v269 c0_i32_174
  v270

def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_175 : BitVec 32 := 15#32
  let v271 : BitVec 1 := Scalar.cmpi .ne v2 c15_i32_175
  let v272 : BitVec 32 := Scalar.extui v271
  let c0_i32_176 : BitVec 32 := 0#32
  let v273 : BitVec 1 := Scalar.cmpi .ne v272 c0_i32_176
  v273

def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_189 : BitVec 32 := 12#32
  let v288 : BitVec 1 := Scalar.cmpi .ne v2 c12_i32_189
  let v289 : BitVec 32 := Scalar.extui v288
  let c0_i32_190 : BitVec 32 := 0#32
  let v290 : BitVec 1 := Scalar.cmpi .ne v289 c0_i32_190
  v290

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev30 : Nat :=
  let c0_i32_888 : BitVec 32 := 0#32
  let c12_i32_886 : BitVec 32 := 12#32
  let c1_i32_887 : BitVec 32 := 1#32
  let v1287 : BitVec 32 := Scalar.muli c12_i32_886 c1_i32_887
  let v1288 : BitVec 32 := Scalar.addi c0_i32_888 v1287
  v1288.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_191 : BitVec 32 := 13#32
  let v291 : BitVec 1 := Scalar.cmpi .ne v2 c13_i32_191
  let v292 : BitVec 32 := Scalar.extui v291
  let c0_i32_192 : BitVec 32 := 0#32
  let v293 : BitVec 1 := Scalar.cmpi .ne v292 c0_i32_192
  v293

def k0_off92 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev31 : Nat :=
  let c0_i32_888 : BitVec 32 := 0#32
  let c13_i32_886 : BitVec 32 := 13#32
  let c1_i32_887 : BitVec 32 := 1#32
  let v1287 : BitVec 32 := Scalar.muli c13_i32_886 c1_i32_887
  let v1288 : BitVec 32 := Scalar.addi c0_i32_888 v1287
  v1288.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_193 : BitVec 32 := 14#32
  let v294 : BitVec 1 := Scalar.cmpi .ne v2 c14_i32_193
  let v295 : BitVec 32 := Scalar.extui v294
  let c0_i32_194 : BitVec 32 := 0#32
  let v296 : BitVec 1 := Scalar.cmpi .ne v295 c0_i32_194
  v296

def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev32 : Nat :=
  let c0_i32_888 : BitVec 32 := 0#32
  let c14_i32_886 : BitVec 32 := 14#32
  let c1_i32_887 : BitVec 32 := 1#32
  let v1287 : BitVec 32 := Scalar.muli c14_i32_886 c1_i32_887
  let v1288 : BitVec 32 := Scalar.addi c0_i32_888 v1287
  v1288.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_195 : BitVec 32 := 15#32
  let v297 : BitVec 1 := Scalar.cmpi .ne v2 c15_i32_195
  let v298 : BitVec 32 := Scalar.extui v297
  let c0_i32_196 : BitVec 32 := 0#32
  let v299 : BitVec 1 := Scalar.cmpi .ne v298 c0_i32_196
  v299

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev33 : Nat :=
  let c0_i32_888 : BitVec 32 := 0#32
  let c15_i32_886 : BitVec 32 := 15#32
  let c1_i32_887 : BitVec 32 := 1#32
  let v1287 : BitVec 32 := Scalar.muli c15_i32_886 c1_i32_887
  let v1288 : BitVec 32 := Scalar.addi c0_i32_888 v1287
  v1288.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_201 : BitVec 32 := 0#32
  let v307 : BitVec 1 := Scalar.cmpi .ne v2 c0_i32_201
  let v308 : BitVec 32 := Scalar.extui v307
  let c0_i32_202 : BitVec 32 := 0#32
  let v309 : BitVec 1 := Scalar.cmpi .ne v308 c0_i32_202
  v309

def k0_off98 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_203 : BitVec 32 := 1#32
  let v310 : BitVec 1 := Scalar.cmpi .ne v2 c1_i32_203
  let v311 : BitVec 32 := Scalar.extui v310
  let c0_i32_204 : BitVec 32 := 0#32
  let v312 : BitVec 1 := Scalar.cmpi .ne v311 c0_i32_204
  v312

def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_205 : BitVec 32 := 2#32
  let v313 : BitVec 1 := Scalar.cmpi .ne v2 c2_i32_205
  let v314 : BitVec 32 := Scalar.extui v313
  let c0_i32_206 : BitVec 32 := 0#32
  let v315 : BitVec 1 := Scalar.cmpi .ne v314 c0_i32_206
  v315

def k0_off100 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_207 : BitVec 32 := 3#32
  let v316 : BitVec 1 := Scalar.cmpi .ne v2 c3_i32_207
  let v317 : BitVec 32 := Scalar.extui v316
  let c0_i32_208 : BitVec 32 := 0#32
  let v318 : BitVec 1 := Scalar.cmpi .ne v317 c0_i32_208
  v318

def k0_off101 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_209 : BitVec 32 := 4#32
  let v319 : BitVec 1 := Scalar.cmpi .ne v2 c4_i32_209
  let v320 : BitVec 32 := Scalar.extui v319
  let c0_i32_210 : BitVec 32 := 0#32
  let v321 : BitVec 1 := Scalar.cmpi .ne v320 c0_i32_210
  v321

def k0_off102 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_211 : BitVec 32 := 5#32
  let v322 : BitVec 1 := Scalar.cmpi .ne v2 c5_i32_211
  let v323 : BitVec 32 := Scalar.extui v322
  let c0_i32_212 : BitVec 32 := 0#32
  let v324 : BitVec 1 := Scalar.cmpi .ne v323 c0_i32_212
  v324

def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_213 : BitVec 32 := 6#32
  let v325 : BitVec 1 := Scalar.cmpi .ne v2 c6_i32_213
  let v326 : BitVec 32 := Scalar.extui v325
  let c0_i32_214 : BitVec 32 := 0#32
  let v327 : BitVec 1 := Scalar.cmpi .ne v326 c0_i32_214
  v327

def k0_off104 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_215 : BitVec 32 := 7#32
  let v328 : BitVec 1 := Scalar.cmpi .ne v2 c7_i32_215
  let v329 : BitVec 32 := Scalar.extui v328
  let c0_i32_216 : BitVec 32 := 0#32
  let v330 : BitVec 1 := Scalar.cmpi .ne v329 c0_i32_216
  v330

def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_217 : BitVec 32 := 8#32
  let v331 : BitVec 1 := Scalar.cmpi .ne v2 c8_i32_217
  let v332 : BitVec 32 := Scalar.extui v331
  let c0_i32_218 : BitVec 32 := 0#32
  let v333 : BitVec 1 := Scalar.cmpi .ne v332 c0_i32_218
  v333

def k0_off106 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_219 : BitVec 32 := 9#32
  let v334 : BitVec 1 := Scalar.cmpi .ne v2 c9_i32_219
  let v335 : BitVec 32 := Scalar.extui v334
  let c0_i32_220 : BitVec 32 := 0#32
  let v336 : BitVec 1 := Scalar.cmpi .ne v335 c0_i32_220
  v336

def k0_off107 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_221 : BitVec 32 := 10#32
  let v337 : BitVec 1 := Scalar.cmpi .ne v2 c10_i32_221
  let v338 : BitVec 32 := Scalar.extui v337
  let c0_i32_222 : BitVec 32 := 0#32
  let v339 : BitVec 1 := Scalar.cmpi .ne v338 c0_i32_222
  v339

def k0_off108 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_223 : BitVec 32 := 11#32
  let v340 : BitVec 1 := Scalar.cmpi .ne v2 c11_i32_223
  let v341 : BitVec 32 := Scalar.extui v340
  let c0_i32_224 : BitVec 32 := 0#32
  let v342 : BitVec 1 := Scalar.cmpi .ne v341 c0_i32_224
  v342

def k0_off109 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_225 : BitVec 32 := 12#32
  let v343 : BitVec 1 := Scalar.cmpi .ne v2 c12_i32_225
  let v344 : BitVec 32 := Scalar.extui v343
  let c0_i32_226 : BitVec 32 := 0#32
  let v345 : BitVec 1 := Scalar.cmpi .ne v344 c0_i32_226
  v345

def k0_off110 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_227 : BitVec 32 := 13#32
  let v346 : BitVec 1 := Scalar.cmpi .ne v2 c13_i32_227
  let v347 : BitVec 32 := Scalar.extui v346
  let c0_i32_228 : BitVec 32 := 0#32
  let v348 : BitVec 1 := Scalar.cmpi .ne v347 c0_i32_228
  v348

def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_229 : BitVec 32 := 14#32
  let v349 : BitVec 1 := Scalar.cmpi .ne v2 c14_i32_229
  let v350 : BitVec 32 := Scalar.extui v349
  let c0_i32_230 : BitVec 32 := 0#32
  let v351 : BitVec 1 := Scalar.cmpi .ne v350 c0_i32_230
  v351

def k0_off112 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v352 : BitVec 1 := Scalar.cmpi .ne v2 c15_i32_231
  let v353 : BitVec 32 := Scalar.extui v352
  let c0_i32_232 : BitVec 32 := 0#32
  let v354 : BitVec 1 := Scalar.cmpi .ne v353 c0_i32_232
  v354

def k0_off113 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_233 : BitVec 32 := 0#32
  let v355 : BitVec 1 := Scalar.cmpi .ne v2 c0_i32_233
  let v356 : BitVec 32 := Scalar.extui v355
  let c0_i32_234 : BitVec 32 := 0#32
  let v357 : BitVec 1 := Scalar.cmpi .ne v356 c0_i32_234
  v357

def k0_off114 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_235 : BitVec 32 := 1#32
  let v358 : BitVec 1 := Scalar.cmpi .ne v2 c1_i32_235
  let v359 : BitVec 32 := Scalar.extui v358
  let c0_i32_236 : BitVec 32 := 0#32
  let v360 : BitVec 1 := Scalar.cmpi .ne v359 c0_i32_236
  v360

def k0_off115 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_237 : BitVec 32 := 2#32
  let v361 : BitVec 1 := Scalar.cmpi .ne v2 c2_i32_237
  let v362 : BitVec 32 := Scalar.extui v361
  let c0_i32_238 : BitVec 32 := 0#32
  let v363 : BitVec 1 := Scalar.cmpi .ne v362 c0_i32_238
  v363

def k0_off116 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_239 : BitVec 32 := 3#32
  let v364 : BitVec 1 := Scalar.cmpi .ne v2 c3_i32_239
  let v365 : BitVec 32 := Scalar.extui v364
  let c0_i32_240 : BitVec 32 := 0#32
  let v366 : BitVec 1 := Scalar.cmpi .ne v365 c0_i32_240
  v366

def k0_off117 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_241 : BitVec 32 := 4#32
  let v367 : BitVec 1 := Scalar.cmpi .ne v2 c4_i32_241
  let v368 : BitVec 32 := Scalar.extui v367
  let c0_i32_242 : BitVec 32 := 0#32
  let v369 : BitVec 1 := Scalar.cmpi .ne v368 c0_i32_242
  v369

def k0_off118 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_243 : BitVec 32 := 5#32
  let v370 : BitVec 1 := Scalar.cmpi .ne v2 c5_i32_243
  let v371 : BitVec 32 := Scalar.extui v370
  let c0_i32_244 : BitVec 32 := 0#32
  let v372 : BitVec 1 := Scalar.cmpi .ne v371 c0_i32_244
  v372

def k0_off119 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_245 : BitVec 32 := 6#32
  let v373 : BitVec 1 := Scalar.cmpi .ne v2 c6_i32_245
  let v374 : BitVec 32 := Scalar.extui v373
  let c0_i32_246 : BitVec 32 := 0#32
  let v375 : BitVec 1 := Scalar.cmpi .ne v374 c0_i32_246
  v375

def k0_off120 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_247 : BitVec 32 := 7#32
  let v376 : BitVec 1 := Scalar.cmpi .ne v2 c7_i32_247
  let v377 : BitVec 32 := Scalar.extui v376
  let c0_i32_248 : BitVec 32 := 0#32
  let v378 : BitVec 1 := Scalar.cmpi .ne v377 c0_i32_248
  v378

def k0_off121 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_249 : BitVec 32 := 8#32
  let v379 : BitVec 1 := Scalar.cmpi .ne v2 c8_i32_249
  let v380 : BitVec 32 := Scalar.extui v379
  let c0_i32_250 : BitVec 32 := 0#32
  let v381 : BitVec 1 := Scalar.cmpi .ne v380 c0_i32_250
  v381

def k0_off122 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_251 : BitVec 32 := 9#32
  let v382 : BitVec 1 := Scalar.cmpi .ne v2 c9_i32_251
  let v383 : BitVec 32 := Scalar.extui v382
  let c0_i32_252 : BitVec 32 := 0#32
  let v384 : BitVec 1 := Scalar.cmpi .ne v383 c0_i32_252
  v384

def k0_off123 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_253 : BitVec 32 := 10#32
  let v385 : BitVec 1 := Scalar.cmpi .ne v2 c10_i32_253
  let v386 : BitVec 32 := Scalar.extui v385
  let c0_i32_254 : BitVec 32 := 0#32
  let v387 : BitVec 1 := Scalar.cmpi .ne v386 c0_i32_254
  v387

def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_255 : BitVec 32 := 11#32
  let v388 : BitVec 1 := Scalar.cmpi .ne v2 c11_i32_255
  let v389 : BitVec 32 := Scalar.extui v388
  let c0_i32_256 : BitVec 32 := 0#32
  let v390 : BitVec 1 := Scalar.cmpi .ne v389 c0_i32_256
  v390

def k0_off125 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_257 : BitVec 32 := 12#32
  let v391 : BitVec 1 := Scalar.cmpi .ne v2 c12_i32_257
  let v392 : BitVec 32 := Scalar.extui v391
  let c0_i32_258 : BitVec 32 := 0#32
  let v393 : BitVec 1 := Scalar.cmpi .ne v392 c0_i32_258
  v393

def k0_off126 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_259 : BitVec 32 := 13#32
  let v394 : BitVec 1 := Scalar.cmpi .ne v2 c13_i32_259
  let v395 : BitVec 32 := Scalar.extui v394
  let c0_i32_260 : BitVec 32 := 0#32
  let v396 : BitVec 1 := Scalar.cmpi .ne v395 c0_i32_260
  v396

def k0_off127 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_261 : BitVec 32 := 14#32
  let v397 : BitVec 1 := Scalar.cmpi .ne v2 c14_i32_261
  let v398 : BitVec 32 := Scalar.extui v397
  let c0_i32_262 : BitVec 32 := 0#32
  let v399 : BitVec 1 := Scalar.cmpi .ne v398 c0_i32_262
  v399

def k0_off128 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_263 : BitVec 32 := 15#32
  let v400 : BitVec 1 := Scalar.cmpi .ne v2 c15_i32_263
  let v401 : BitVec 32 := Scalar.extui v400
  let c0_i32_264 : BitVec 32 := 0#32
  let v402 : BitVec 1 := Scalar.cmpi .ne v401 c0_i32_264
  v402

def k0_off129 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_269 : BitVec 32 := 0#32
  let v410 : BitVec 1 := Scalar.cmpi .ne v2 c0_i32_269
  let v411 : BitVec 32 := Scalar.extui v410
  let c0_i32_270 : BitVec 32 := 0#32
  let v412 : BitVec 1 := Scalar.cmpi .ne v411 c0_i32_270
  v412

def k0_off130 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off131 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev34 : Nat :=
  let c0_i32_890 : BitVec 32 := 0#32
  let c0_i32_888 : BitVec 32 := 0#32
  let c1_i32_889 : BitVec 32 := 1#32
  let v1289 : BitVec 32 := Scalar.muli c0_i32_888 c1_i32_889
  let v1290 : BitVec 32 := Scalar.addi c0_i32_890 v1289
  v1290.toNat
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_271 : BitVec 32 := 1#32
  let v413 : BitVec 1 := Scalar.cmpi .ne v2 c1_i32_271
  let v414 : BitVec 32 := Scalar.extui v413
  let c0_i32_272 : BitVec 32 := 0#32
  let v415 : BitVec 1 := Scalar.cmpi .ne v414 c0_i32_272
  v415

def k0_off132 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off133 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev35 : Nat :=
  let c0_i32_890 : BitVec 32 := 0#32
  let c1_i32_888 : BitVec 32 := 1#32
  let c1_i32_889 : BitVec 32 := 1#32
  let v1289 : BitVec 32 := Scalar.muli c1_i32_888 c1_i32_889
  let v1290 : BitVec 32 := Scalar.addi c0_i32_890 v1289
  v1290.toNat
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_273 : BitVec 32 := 2#32
  let v416 : BitVec 1 := Scalar.cmpi .ne v2 c2_i32_273
  let v417 : BitVec 32 := Scalar.extui v416
  let c0_i32_274 : BitVec 32 := 0#32
  let v418 : BitVec 1 := Scalar.cmpi .ne v417 c0_i32_274
  v418

def k0_off134 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off135 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev36 : Nat :=
  let c0_i32_890 : BitVec 32 := 0#32
  let c2_i32_888 : BitVec 32 := 2#32
  let c1_i32_889 : BitVec 32 := 1#32
  let v1289 : BitVec 32 := Scalar.muli c2_i32_888 c1_i32_889
  let v1290 : BitVec 32 := Scalar.addi c0_i32_890 v1289
  v1290.toNat
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_275 : BitVec 32 := 3#32
  let v419 : BitVec 1 := Scalar.cmpi .ne v2 c3_i32_275
  let v420 : BitVec 32 := Scalar.extui v419
  let c0_i32_276 : BitVec 32 := 0#32
  let v421 : BitVec 1 := Scalar.cmpi .ne v420 c0_i32_276
  v421

def k0_off136 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off137 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev37 : Nat :=
  let c0_i32_890 : BitVec 32 := 0#32
  let c3_i32_888 : BitVec 32 := 3#32
  let c1_i32_889 : BitVec 32 := 1#32
  let v1289 : BitVec 32 := Scalar.muli c3_i32_888 c1_i32_889
  let v1290 : BitVec 32 := Scalar.addi c0_i32_890 v1289
  v1290.toNat
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_277 : BitVec 32 := 4#32
  let v422 : BitVec 1 := Scalar.cmpi .ne v2 c4_i32_277
  let v423 : BitVec 32 := Scalar.extui v422
  let c0_i32_278 : BitVec 32 := 0#32
  let v424 : BitVec 1 := Scalar.cmpi .ne v423 c0_i32_278
  v424

def k0_off138 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off139 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev38 : Nat :=
  let c0_i32_890 : BitVec 32 := 0#32
  let c4_i32_888 : BitVec 32 := 4#32
  let c1_i32_889 : BitVec 32 := 1#32
  let v1289 : BitVec 32 := Scalar.muli c4_i32_888 c1_i32_889
  let v1290 : BitVec 32 := Scalar.addi c0_i32_890 v1289
  v1290.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_279 : BitVec 32 := 5#32
  let v425 : BitVec 1 := Scalar.cmpi .ne v2 c5_i32_279
  let v426 : BitVec 32 := Scalar.extui v425
  let c0_i32_280 : BitVec 32 := 0#32
  let v427 : BitVec 1 := Scalar.cmpi .ne v426 c0_i32_280
  v427

def k0_off140 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off141 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev39 : Nat :=
  let c0_i32_890 : BitVec 32 := 0#32
  let c5_i32_888 : BitVec 32 := 5#32
  let c1_i32_889 : BitVec 32 := 1#32
  let v1289 : BitVec 32 := Scalar.muli c5_i32_888 c1_i32_889
  let v1290 : BitVec 32 := Scalar.addi c0_i32_890 v1289
  v1290.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_281 : BitVec 32 := 6#32
  let v428 : BitVec 1 := Scalar.cmpi .ne v2 c6_i32_281
  let v429 : BitVec 32 := Scalar.extui v428
  let c0_i32_282 : BitVec 32 := 0#32
  let v430 : BitVec 1 := Scalar.cmpi .ne v429 c0_i32_282
  v430

def k0_off142 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off143 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev40 : Nat :=
  let c0_i32_890 : BitVec 32 := 0#32
  let c6_i32_888 : BitVec 32 := 6#32
  let c1_i32_889 : BitVec 32 := 1#32
  let v1289 : BitVec 32 := Scalar.muli c6_i32_888 c1_i32_889
  let v1290 : BitVec 32 := Scalar.addi c0_i32_890 v1289
  v1290.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_283 : BitVec 32 := 7#32
  let v431 : BitVec 1 := Scalar.cmpi .ne v2 c7_i32_283
  let v432 : BitVec 32 := Scalar.extui v431
  let c0_i32_284 : BitVec 32 := 0#32
  let v433 : BitVec 1 := Scalar.cmpi .ne v432 c0_i32_284
  v433

def k0_off144 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off145 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev41 : Nat :=
  let c0_i32_890 : BitVec 32 := 0#32
  let c7_i32_888 : BitVec 32 := 7#32
  let c1_i32_889 : BitVec 32 := 1#32
  let v1289 : BitVec 32 := Scalar.muli c7_i32_888 c1_i32_889
  let v1290 : BitVec 32 := Scalar.addi c0_i32_890 v1289
  v1290.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_285 : BitVec 32 := 8#32
  let v434 : BitVec 1 := Scalar.cmpi .ne v2 c8_i32_285
  let v435 : BitVec 32 := Scalar.extui v434
  let c0_i32_286 : BitVec 32 := 0#32
  let v436 : BitVec 1 := Scalar.cmpi .ne v435 c0_i32_286
  v436

def k0_off146 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off147 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev42 : Nat :=
  let c0_i32_890 : BitVec 32 := 0#32
  let c8_i32_888 : BitVec 32 := 8#32
  let c1_i32_889 : BitVec 32 := 1#32
  let v1289 : BitVec 32 := Scalar.muli c8_i32_888 c1_i32_889
  let v1290 : BitVec 32 := Scalar.addi c0_i32_890 v1289
  v1290.toNat
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_287 : BitVec 32 := 9#32
  let v437 : BitVec 1 := Scalar.cmpi .ne v2 c9_i32_287
  let v438 : BitVec 32 := Scalar.extui v437
  let c0_i32_288 : BitVec 32 := 0#32
  let v439 : BitVec 1 := Scalar.cmpi .ne v438 c0_i32_288
  v439

def k0_off148 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off149 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev43 : Nat :=
  let c0_i32_890 : BitVec 32 := 0#32
  let c9_i32_888 : BitVec 32 := 9#32
  let c1_i32_889 : BitVec 32 := 1#32
  let v1289 : BitVec 32 := Scalar.muli c9_i32_888 c1_i32_889
  let v1290 : BitVec 32 := Scalar.addi c0_i32_890 v1289
  v1290.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_289 : BitVec 32 := 10#32
  let v440 : BitVec 1 := Scalar.cmpi .ne v2 c10_i32_289
  let v441 : BitVec 32 := Scalar.extui v440
  let c0_i32_290 : BitVec 32 := 0#32
  let v442 : BitVec 1 := Scalar.cmpi .ne v441 c0_i32_290
  v442

def k0_off150 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off151 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev44 : Nat :=
  let c0_i32_890 : BitVec 32 := 0#32
  let c10_i32_888 : BitVec 32 := 10#32
  let c1_i32_889 : BitVec 32 := 1#32
  let v1289 : BitVec 32 := Scalar.muli c10_i32_888 c1_i32_889
  let v1290 : BitVec 32 := Scalar.addi c0_i32_890 v1289
  v1290.toNat
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_291 : BitVec 32 := 11#32
  let v443 : BitVec 1 := Scalar.cmpi .ne v2 c11_i32_291
  let v444 : BitVec 32 := Scalar.extui v443
  let c0_i32_292 : BitVec 32 := 0#32
  let v445 : BitVec 1 := Scalar.cmpi .ne v444 c0_i32_292
  v445

def k0_off152 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off153 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev45 : Nat :=
  let c0_i32_890 : BitVec 32 := 0#32
  let c11_i32_888 : BitVec 32 := 11#32
  let c1_i32_889 : BitVec 32 := 1#32
  let v1289 : BitVec 32 := Scalar.muli c11_i32_888 c1_i32_889
  let v1290 : BitVec 32 := Scalar.addi c0_i32_890 v1289
  v1290.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_293 : BitVec 32 := 12#32
  let v446 : BitVec 1 := Scalar.cmpi .ne v2 c12_i32_293
  let v447 : BitVec 32 := Scalar.extui v446
  let c0_i32_294 : BitVec 32 := 0#32
  let v448 : BitVec 1 := Scalar.cmpi .ne v447 c0_i32_294
  v448

def k0_off154 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off155 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev46 : Nat :=
  let c0_i32_890 : BitVec 32 := 0#32
  let c12_i32_888 : BitVec 32 := 12#32
  let c1_i32_889 : BitVec 32 := 1#32
  let v1289 : BitVec 32 := Scalar.muli c12_i32_888 c1_i32_889
  let v1290 : BitVec 32 := Scalar.addi c0_i32_890 v1289
  v1290.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_295 : BitVec 32 := 13#32
  let v449 : BitVec 1 := Scalar.cmpi .ne v2 c13_i32_295
  let v450 : BitVec 32 := Scalar.extui v449
  let c0_i32_296 : BitVec 32 := 0#32
  let v451 : BitVec 1 := Scalar.cmpi .ne v450 c0_i32_296
  v451

def k0_off156 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off157 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev47 : Nat :=
  let c0_i32_890 : BitVec 32 := 0#32
  let c13_i32_888 : BitVec 32 := 13#32
  let c1_i32_889 : BitVec 32 := 1#32
  let v1289 : BitVec 32 := Scalar.muli c13_i32_888 c1_i32_889
  let v1290 : BitVec 32 := Scalar.addi c0_i32_890 v1289
  v1290.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_297 : BitVec 32 := 14#32
  let v452 : BitVec 1 := Scalar.cmpi .ne v2 c14_i32_297
  let v453 : BitVec 32 := Scalar.extui v452
  let c0_i32_298 : BitVec 32 := 0#32
  let v454 : BitVec 1 := Scalar.cmpi .ne v453 c0_i32_298
  v454

def k0_off158 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off159 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev48 : Nat :=
  let c0_i32_890 : BitVec 32 := 0#32
  let c14_i32_888 : BitVec 32 := 14#32
  let c1_i32_889 : BitVec 32 := 1#32
  let v1289 : BitVec 32 := Scalar.muli c14_i32_888 c1_i32_889
  let v1290 : BitVec 32 := Scalar.addi c0_i32_890 v1289
  v1290.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_299 : BitVec 32 := 15#32
  let v455 : BitVec 1 := Scalar.cmpi .ne v2 c15_i32_299
  let v456 : BitVec 32 := Scalar.extui v455
  let c0_i32_300 : BitVec 32 := 0#32
  let v457 : BitVec 1 := Scalar.cmpi .ne v456 c0_i32_300
  v457

def k0_off160 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off161 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev49 : Nat :=
  let c0_i32_890 : BitVec 32 := 0#32
  let c15_i32_888 : BitVec 32 := 15#32
  let c1_i32_889 : BitVec 32 := 1#32
  let v1289 : BitVec 32 := Scalar.muli c15_i32_888 c1_i32_889
  let v1290 : BitVec 32 := Scalar.addi c0_i32_890 v1289
  v1290.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_301 : BitVec 32 := 0#32
  let v458 : BitVec 1 := Scalar.cmpi .ne v2 c0_i32_301
  let v459 : BitVec 32 := Scalar.extui v458
  let c0_i32_302 : BitVec 32 := 0#32
  let v460 : BitVec 1 := Scalar.cmpi .ne v459 c0_i32_302
  v460

def k0_off162 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_303 : BitVec 32 := 1#32
  let v461 : BitVec 1 := Scalar.cmpi .ne v2 c1_i32_303
  let v462 : BitVec 32 := Scalar.extui v461
  let c0_i32_304 : BitVec 32 := 0#32
  let v463 : BitVec 1 := Scalar.cmpi .ne v462 c0_i32_304
  v463

def k0_off163 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_305 : BitVec 32 := 2#32
  let v464 : BitVec 1 := Scalar.cmpi .ne v2 c2_i32_305
  let v465 : BitVec 32 := Scalar.extui v464
  let c0_i32_306 : BitVec 32 := 0#32
  let v466 : BitVec 1 := Scalar.cmpi .ne v465 c0_i32_306
  v466

def k0_off164 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_307 : BitVec 32 := 3#32
  let v467 : BitVec 1 := Scalar.cmpi .ne v2 c3_i32_307
  let v468 : BitVec 32 := Scalar.extui v467
  let c0_i32_308 : BitVec 32 := 0#32
  let v469 : BitVec 1 := Scalar.cmpi .ne v468 c0_i32_308
  v469

def k0_off165 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_322 : BitVec 32 := 0#32
  let v484 : BitVec 1 := Scalar.cmpi .ne v2 c0_i32_322
  let v485 : BitVec 32 := Scalar.extui v484
  let c0_i32_323 : BitVec 32 := 0#32
  let v486 : BitVec 1 := Scalar.cmpi .ne v485 c0_i32_323
  v486

def k0_off166 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off167 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev50 : Nat :=
  let c0_i32_888 : BitVec 32 := 0#32
  let c0_i32_886 : BitVec 32 := 0#32
  let c1_i32_887 : BitVec 32 := 1#32
  let v1287 : BitVec 32 := Scalar.muli c0_i32_886 c1_i32_887
  let v1288 : BitVec 32 := Scalar.addi c0_i32_888 v1287
  v1288.toNat
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_324 : BitVec 32 := 1#32
  let v487 : BitVec 1 := Scalar.cmpi .ne v2 c1_i32_324
  let v488 : BitVec 32 := Scalar.extui v487
  let c0_i32_325 : BitVec 32 := 0#32
  let v489 : BitVec 1 := Scalar.cmpi .ne v488 c0_i32_325
  v489

def k0_off168 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off169 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev51 : Nat :=
  let c0_i32_888 : BitVec 32 := 0#32
  let c1_i32_886 : BitVec 32 := 1#32
  let c1_i32_887 : BitVec 32 := 1#32
  let v1287 : BitVec 32 := Scalar.muli c1_i32_886 c1_i32_887
  let v1288 : BitVec 32 := Scalar.addi c0_i32_888 v1287
  v1288.toNat
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_326 : BitVec 32 := 2#32
  let v490 : BitVec 1 := Scalar.cmpi .ne v2 c2_i32_326
  let v491 : BitVec 32 := Scalar.extui v490
  let c0_i32_327 : BitVec 32 := 0#32
  let v492 : BitVec 1 := Scalar.cmpi .ne v491 c0_i32_327
  v492

def k0_off170 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off171 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev52 : Nat :=
  let c0_i32_888 : BitVec 32 := 0#32
  let c2_i32_886 : BitVec 32 := 2#32
  let c1_i32_887 : BitVec 32 := 1#32
  let v1287 : BitVec 32 := Scalar.muli c2_i32_886 c1_i32_887
  let v1288 : BitVec 32 := Scalar.addi c0_i32_888 v1287
  v1288.toNat
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_328 : BitVec 32 := 3#32
  let v493 : BitVec 1 := Scalar.cmpi .ne v2 c3_i32_328
  let v494 : BitVec 32 := Scalar.extui v493
  let c0_i32_329 : BitVec 32 := 0#32
  let v495 : BitVec 1 := Scalar.cmpi .ne v494 c0_i32_329
  v495

def k0_off172 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off173 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev53 : Nat :=
  let c0_i32_888 : BitVec 32 := 0#32
  let c3_i32_886 : BitVec 32 := 3#32
  let c1_i32_887 : BitVec 32 := 1#32
  let v1287 : BitVec 32 := Scalar.muli c3_i32_886 c1_i32_887
  let v1288 : BitVec 32 := Scalar.addi c0_i32_888 v1287
  v1288.toNat
def k0_cond121 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_330 : BitVec 32 := 4#32
  let v496 : BitVec 1 := Scalar.cmpi .ne v2 c4_i32_330
  let v497 : BitVec 32 := Scalar.extui v496
  let c0_i32_331 : BitVec 32 := 0#32
  let v498 : BitVec 1 := Scalar.cmpi .ne v497 c0_i32_331
  v498

def k0_off174 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond122 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_332 : BitVec 32 := 5#32
  let v499 : BitVec 1 := Scalar.cmpi .ne v2 c5_i32_332
  let v500 : BitVec 32 := Scalar.extui v499
  let c0_i32_333 : BitVec 32 := 0#32
  let v501 : BitVec 1 := Scalar.cmpi .ne v500 c0_i32_333
  v501

def k0_off175 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond123 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_334 : BitVec 32 := 6#32
  let v502 : BitVec 1 := Scalar.cmpi .ne v2 c6_i32_334
  let v503 : BitVec 32 := Scalar.extui v502
  let c0_i32_335 : BitVec 32 := 0#32
  let v504 : BitVec 1 := Scalar.cmpi .ne v503 c0_i32_335
  v504

def k0_off176 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond124 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_336 : BitVec 32 := 7#32
  let v505 : BitVec 1 := Scalar.cmpi .ne v2 c7_i32_336
  let v506 : BitVec 32 := Scalar.extui v505
  let c0_i32_337 : BitVec 32 := 0#32
  let v507 : BitVec 1 := Scalar.cmpi .ne v506 c0_i32_337
  v507

def k0_off177 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond125 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_338 : BitVec 32 := 0#32
  let v508 : BitVec 1 := Scalar.cmpi .ne v2 c0_i32_338
  let v509 : BitVec 32 := Scalar.extui v508
  let c0_i32_339 : BitVec 32 := 0#32
  let v510 : BitVec 1 := Scalar.cmpi .ne v509 c0_i32_339
  v510

def k0_off178 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_340 : BitVec 32 := 1#32
  let v511 : BitVec 1 := Scalar.cmpi .ne v2 c1_i32_340
  let v512 : BitVec 32 := Scalar.extui v511
  let c0_i32_341 : BitVec 32 := 0#32
  let v513 : BitVec 1 := Scalar.cmpi .ne v512 c0_i32_341
  v513

def k0_off179 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_342 : BitVec 32 := 2#32
  let v514 : BitVec 1 := Scalar.cmpi .ne v2 c2_i32_342
  let v515 : BitVec 32 := Scalar.extui v514
  let c0_i32_343 : BitVec 32 := 0#32
  let v516 : BitVec 1 := Scalar.cmpi .ne v515 c0_i32_343
  v516

def k0_off180 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond128 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_344 : BitVec 32 := 3#32
  let v517 : BitVec 1 := Scalar.cmpi .ne v2 c3_i32_344
  let v518 : BitVec 32 := Scalar.extui v517
  let c0_i32_345 : BitVec 32 := 0#32
  let v519 : BitVec 1 := Scalar.cmpi .ne v518 c0_i32_345
  v519

def k0_off181 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_346 : BitVec 32 := 4#32
  let v520 : BitVec 1 := Scalar.cmpi .ne v2 c4_i32_346
  let v521 : BitVec 32 := Scalar.extui v520
  let c0_i32_347 : BitVec 32 := 0#32
  let v522 : BitVec 1 := Scalar.cmpi .ne v521 c0_i32_347
  v522

def k0_off182 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_348 : BitVec 32 := 5#32
  let v523 : BitVec 1 := Scalar.cmpi .ne v2 c5_i32_348
  let v524 : BitVec 32 := Scalar.extui v523
  let c0_i32_349 : BitVec 32 := 0#32
  let v525 : BitVec 1 := Scalar.cmpi .ne v524 c0_i32_349
  v525

def k0_off183 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_350 : BitVec 32 := 6#32
  let v526 : BitVec 1 := Scalar.cmpi .ne v2 c6_i32_350
  let v527 : BitVec 32 := Scalar.extui v526
  let c0_i32_351 : BitVec 32 := 0#32
  let v528 : BitVec 1 := Scalar.cmpi .ne v527 c0_i32_351
  v528

def k0_off184 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_352 : BitVec 32 := 7#32
  let v529 : BitVec 1 := Scalar.cmpi .ne v2 c7_i32_352
  let v530 : BitVec 32 := Scalar.extui v529
  let c0_i32_353 : BitVec 32 := 0#32
  let v531 : BitVec 1 := Scalar.cmpi .ne v530 c0_i32_353
  v531

def k0_off185 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_354 : BitVec 32 := 8#32
  let v532 : BitVec 1 := Scalar.cmpi .ne v2 c8_i32_354
  let v533 : BitVec 32 := Scalar.extui v532
  let c0_i32_355 : BitVec 32 := 0#32
  let v534 : BitVec 1 := Scalar.cmpi .ne v533 c0_i32_355
  v534

def k0_off186 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_356 : BitVec 32 := 9#32
  let v535 : BitVec 1 := Scalar.cmpi .ne v2 c9_i32_356
  let v536 : BitVec 32 := Scalar.extui v535
  let c0_i32_357 : BitVec 32 := 0#32
  let v537 : BitVec 1 := Scalar.cmpi .ne v536 c0_i32_357
  v537

def k0_off187 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_358 : BitVec 32 := 10#32
  let v538 : BitVec 1 := Scalar.cmpi .ne v2 c10_i32_358
  let v539 : BitVec 32 := Scalar.extui v538
  let c0_i32_359 : BitVec 32 := 0#32
  let v540 : BitVec 1 := Scalar.cmpi .ne v539 c0_i32_359
  v540

def k0_off188 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_360 : BitVec 32 := 11#32
  let v541 : BitVec 1 := Scalar.cmpi .ne v2 c11_i32_360
  let v542 : BitVec 32 := Scalar.extui v541
  let c0_i32_361 : BitVec 32 := 0#32
  let v543 : BitVec 1 := Scalar.cmpi .ne v542 c0_i32_361
  v543

def k0_off189 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_362 : BitVec 32 := 12#32
  let v544 : BitVec 1 := Scalar.cmpi .ne v2 c12_i32_362
  let v545 : BitVec 32 := Scalar.extui v544
  let c0_i32_363 : BitVec 32 := 0#32
  let v546 : BitVec 1 := Scalar.cmpi .ne v545 c0_i32_363
  v546

def k0_off190 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_364 : BitVec 32 := 13#32
  let v547 : BitVec 1 := Scalar.cmpi .ne v2 c13_i32_364
  let v548 : BitVec 32 := Scalar.extui v547
  let c0_i32_365 : BitVec 32 := 0#32
  let v549 : BitVec 1 := Scalar.cmpi .ne v548 c0_i32_365
  v549

def k0_off191 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_366 : BitVec 32 := 14#32
  let v550 : BitVec 1 := Scalar.cmpi .ne v2 c14_i32_366
  let v551 : BitVec 32 := Scalar.extui v550
  let c0_i32_367 : BitVec 32 := 0#32
  let v552 : BitVec 1 := Scalar.cmpi .ne v551 c0_i32_367
  v552

def k0_off192 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_368 : BitVec 32 := 15#32
  let v553 : BitVec 1 := Scalar.cmpi .ne v2 c15_i32_368
  let v554 : BitVec 32 := Scalar.extui v553
  let c0_i32_369 : BitVec 32 := 0#32
  let v555 : BitVec 1 := Scalar.cmpi .ne v554 c0_i32_369
  v555

def k0_off193 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_383 : BitVec 32 := 4#32
  let v570 : BitVec 1 := Scalar.cmpi .ne v2 c4_i32_383
  let v571 : BitVec 32 := Scalar.extui v570
  let c0_i32_384 : BitVec 32 := 0#32
  let v572 : BitVec 1 := Scalar.cmpi .ne v571 c0_i32_384
  v572

def k0_off194 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off195 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev54 : Nat :=
  let c0_i32_888 : BitVec 32 := 0#32
  let c4_i32_886 : BitVec 32 := 4#32
  let c1_i32_887 : BitVec 32 := 1#32
  let v1287 : BitVec 32 := Scalar.muli c4_i32_886 c1_i32_887
  let v1288 : BitVec 32 := Scalar.addi c0_i32_888 v1287
  v1288.toNat
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_385 : BitVec 32 := 5#32
  let v573 : BitVec 1 := Scalar.cmpi .ne v2 c5_i32_385
  let v574 : BitVec 32 := Scalar.extui v573
  let c0_i32_386 : BitVec 32 := 0#32
  let v575 : BitVec 1 := Scalar.cmpi .ne v574 c0_i32_386
  v575

def k0_off196 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off197 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev55 : Nat :=
  let c0_i32_888 : BitVec 32 := 0#32
  let c5_i32_886 : BitVec 32 := 5#32
  let c1_i32_887 : BitVec 32 := 1#32
  let v1287 : BitVec 32 := Scalar.muli c5_i32_886 c1_i32_887
  let v1288 : BitVec 32 := Scalar.addi c0_i32_888 v1287
  v1288.toNat
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_387 : BitVec 32 := 6#32
  let v576 : BitVec 1 := Scalar.cmpi .ne v2 c6_i32_387
  let v577 : BitVec 32 := Scalar.extui v576
  let c0_i32_388 : BitVec 32 := 0#32
  let v578 : BitVec 1 := Scalar.cmpi .ne v577 c0_i32_388
  v578

def k0_off198 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off199 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev56 : Nat :=
  let c0_i32_888 : BitVec 32 := 0#32
  let c6_i32_886 : BitVec 32 := 6#32
  let c1_i32_887 : BitVec 32 := 1#32
  let v1287 : BitVec 32 := Scalar.muli c6_i32_886 c1_i32_887
  let v1288 : BitVec 32 := Scalar.addi c0_i32_888 v1287
  v1288.toNat
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_389 : BitVec 32 := 7#32
  let v579 : BitVec 1 := Scalar.cmpi .ne v2 c7_i32_389
  let v580 : BitVec 32 := Scalar.extui v579
  let c0_i32_390 : BitVec 32 := 0#32
  let v581 : BitVec 1 := Scalar.cmpi .ne v580 c0_i32_390
  v581

def k0_off200 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off201 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev57 : Nat :=
  let c0_i32_888 : BitVec 32 := 0#32
  let c7_i32_886 : BitVec 32 := 7#32
  let c1_i32_887 : BitVec 32 := 1#32
  let v1287 : BitVec 32 := Scalar.muli c7_i32_886 c1_i32_887
  let v1288 : BitVec 32 := Scalar.addi c0_i32_888 v1287
  v1288.toNat
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_391 : BitVec 32 := 8#32
  let v582 : BitVec 1 := Scalar.cmpi .ne v2 c8_i32_391
  let v583 : BitVec 32 := Scalar.extui v582
  let c0_i32_392 : BitVec 32 := 0#32
  let v584 : BitVec 1 := Scalar.cmpi .ne v583 c0_i32_392
  v584

def k0_off202 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_393 : BitVec 32 := 9#32
  let v585 : BitVec 1 := Scalar.cmpi .ne v2 c9_i32_393
  let v586 : BitVec 32 := Scalar.extui v585
  let c0_i32_394 : BitVec 32 := 0#32
  let v587 : BitVec 1 := Scalar.cmpi .ne v586 c0_i32_394
  v587

def k0_off203 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_395 : BitVec 32 := 10#32
  let v588 : BitVec 1 := Scalar.cmpi .ne v2 c10_i32_395
  let v589 : BitVec 32 := Scalar.extui v588
  let c0_i32_396 : BitVec 32 := 0#32
  let v590 : BitVec 1 := Scalar.cmpi .ne v589 c0_i32_396
  v590

def k0_off204 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_397 : BitVec 32 := 11#32
  let v591 : BitVec 1 := Scalar.cmpi .ne v2 c11_i32_397
  let v592 : BitVec 32 := Scalar.extui v591
  let c0_i32_398 : BitVec 32 := 0#32
  let v593 : BitVec 1 := Scalar.cmpi .ne v592 c0_i32_398
  v593

def k0_off205 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_424 : BitVec 32 := 8#32
  let v622 : BitVec 1 := Scalar.cmpi .ne v2 c8_i32_424
  let v623 : BitVec 32 := Scalar.extui v622
  let c0_i32_425 : BitVec 32 := 0#32
  let v624 : BitVec 1 := Scalar.cmpi .ne v623 c0_i32_425
  v624

def k0_off206 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off207 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev58 : Nat :=
  let c0_i32_888 : BitVec 32 := 0#32
  let c8_i32_886 : BitVec 32 := 8#32
  let c1_i32_887 : BitVec 32 := 1#32
  let v1287 : BitVec 32 := Scalar.muli c8_i32_886 c1_i32_887
  let v1288 : BitVec 32 := Scalar.addi c0_i32_888 v1287
  v1288.toNat
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_426 : BitVec 32 := 9#32
  let v625 : BitVec 1 := Scalar.cmpi .ne v2 c9_i32_426
  let v626 : BitVec 32 := Scalar.extui v625
  let c0_i32_427 : BitVec 32 := 0#32
  let v627 : BitVec 1 := Scalar.cmpi .ne v626 c0_i32_427
  v627

def k0_off208 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off209 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev59 : Nat :=
  let c0_i32_888 : BitVec 32 := 0#32
  let c9_i32_886 : BitVec 32 := 9#32
  let c1_i32_887 : BitVec 32 := 1#32
  let v1287 : BitVec 32 := Scalar.muli c9_i32_886 c1_i32_887
  let v1288 : BitVec 32 := Scalar.addi c0_i32_888 v1287
  v1288.toNat
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_428 : BitVec 32 := 10#32
  let v628 : BitVec 1 := Scalar.cmpi .ne v2 c10_i32_428
  let v629 : BitVec 32 := Scalar.extui v628
  let c0_i32_429 : BitVec 32 := 0#32
  let v630 : BitVec 1 := Scalar.cmpi .ne v629 c0_i32_429
  v630

def k0_off210 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off211 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev60 : Nat :=
  let c0_i32_888 : BitVec 32 := 0#32
  let c10_i32_886 : BitVec 32 := 10#32
  let c1_i32_887 : BitVec 32 := 1#32
  let v1287 : BitVec 32 := Scalar.muli c10_i32_886 c1_i32_887
  let v1288 : BitVec 32 := Scalar.addi c0_i32_888 v1287
  v1288.toNat
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_430 : BitVec 32 := 11#32
  let v631 : BitVec 1 := Scalar.cmpi .ne v2 c11_i32_430
  let v632 : BitVec 32 := Scalar.extui v631
  let c0_i32_431 : BitVec 32 := 0#32
  let v633 : BitVec 1 := Scalar.cmpi .ne v632 c0_i32_431
  v633

def k0_off212 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off213 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev61 : Nat :=
  let c0_i32_888 : BitVec 32 := 0#32
  let c11_i32_886 : BitVec 32 := 11#32
  let c1_i32_887 : BitVec 32 := 1#32
  let v1287 : BitVec 32 := Scalar.muli c11_i32_886 c1_i32_887
  let v1288 : BitVec 32 := Scalar.addi c0_i32_888 v1287
  v1288.toNat
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_432 : BitVec 32 := 12#32
  let v634 : BitVec 1 := Scalar.cmpi .ne v2 c12_i32_432
  let v635 : BitVec 32 := Scalar.extui v634
  let c0_i32_433 : BitVec 32 := 0#32
  let v636 : BitVec 1 := Scalar.cmpi .ne v635 c0_i32_433
  v636

def k0_off214 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_434 : BitVec 32 := 13#32
  let v637 : BitVec 1 := Scalar.cmpi .ne v2 c13_i32_434
  let v638 : BitVec 32 := Scalar.extui v637
  let c0_i32_435 : BitVec 32 := 0#32
  let v639 : BitVec 1 := Scalar.cmpi .ne v638 c0_i32_435
  v639

def k0_off215 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_436 : BitVec 32 := 14#32
  let v640 : BitVec 1 := Scalar.cmpi .ne v2 c14_i32_436
  let v641 : BitVec 32 := Scalar.extui v640
  let c0_i32_437 : BitVec 32 := 0#32
  let v642 : BitVec 1 := Scalar.cmpi .ne v641 c0_i32_437
  v642

def k0_off216 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_438 : BitVec 32 := 15#32
  let v643 : BitVec 1 := Scalar.cmpi .ne v2 c15_i32_438
  let v644 : BitVec 32 := Scalar.extui v643
  let c0_i32_439 : BitVec 32 := 0#32
  let v645 : BitVec 1 := Scalar.cmpi .ne v644 c0_i32_439
  v645

def k0_off217 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_453 : BitVec 32 := 12#32
  let v660 : BitVec 1 := Scalar.cmpi .ne v2 c12_i32_453
  let v661 : BitVec 32 := Scalar.extui v660
  let c0_i32_454 : BitVec 32 := 0#32
  let v662 : BitVec 1 := Scalar.cmpi .ne v661 c0_i32_454
  v662

def k0_off218 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off219 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev62 : Nat :=
  let c0_i32_888 : BitVec 32 := 0#32
  let c12_i32_886 : BitVec 32 := 12#32
  let c1_i32_887 : BitVec 32 := 1#32
  let v1287 : BitVec 32 := Scalar.muli c12_i32_886 c1_i32_887
  let v1288 : BitVec 32 := Scalar.addi c0_i32_888 v1287
  v1288.toNat
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_455 : BitVec 32 := 13#32
  let v663 : BitVec 1 := Scalar.cmpi .ne v2 c13_i32_455
  let v664 : BitVec 32 := Scalar.extui v663
  let c0_i32_456 : BitVec 32 := 0#32
  let v665 : BitVec 1 := Scalar.cmpi .ne v664 c0_i32_456
  v665

def k0_off220 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off221 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev63 : Nat :=
  let c0_i32_888 : BitVec 32 := 0#32
  let c13_i32_886 : BitVec 32 := 13#32
  let c1_i32_887 : BitVec 32 := 1#32
  let v1287 : BitVec 32 := Scalar.muli c13_i32_886 c1_i32_887
  let v1288 : BitVec 32 := Scalar.addi c0_i32_888 v1287
  v1288.toNat
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_457 : BitVec 32 := 14#32
  let v666 : BitVec 1 := Scalar.cmpi .ne v2 c14_i32_457
  let v667 : BitVec 32 := Scalar.extui v666
  let c0_i32_458 : BitVec 32 := 0#32
  let v668 : BitVec 1 := Scalar.cmpi .ne v667 c0_i32_458
  v668

def k0_off222 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off223 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev64 : Nat :=
  let c0_i32_888 : BitVec 32 := 0#32
  let c14_i32_886 : BitVec 32 := 14#32
  let c1_i32_887 : BitVec 32 := 1#32
  let v1287 : BitVec 32 := Scalar.muli c14_i32_886 c1_i32_887
  let v1288 : BitVec 32 := Scalar.addi c0_i32_888 v1287
  v1288.toNat
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_459 : BitVec 32 := 15#32
  let v669 : BitVec 1 := Scalar.cmpi .ne v2 c15_i32_459
  let v670 : BitVec 32 := Scalar.extui v669
  let c0_i32_460 : BitVec 32 := 0#32
  let v671 : BitVec 1 := Scalar.cmpi .ne v670 c0_i32_460
  v671

def k0_off224 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off225 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev65 : Nat :=
  let c0_i32_888 : BitVec 32 := 0#32
  let c15_i32_886 : BitVec 32 := 15#32
  let c1_i32_887 : BitVec 32 := 1#32
  let v1287 : BitVec 32 := Scalar.muli c15_i32_886 c1_i32_887
  let v1288 : BitVec 32 := Scalar.addi c0_i32_888 v1287
  v1288.toNat
def k0_cond161 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_465 : BitVec 32 := 0#32
  let v679 : BitVec 1 := Scalar.cmpi .ne v2 c0_i32_465
  let v680 : BitVec 32 := Scalar.extui v679
  let c0_i32_466 : BitVec 32 := 0#32
  let v681 : BitVec 1 := Scalar.cmpi .ne v680 c0_i32_466
  v681

def k0_off226 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond162 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_467 : BitVec 32 := 1#32
  let v682 : BitVec 1 := Scalar.cmpi .ne v2 c1_i32_467
  let v683 : BitVec 32 := Scalar.extui v682
  let c0_i32_468 : BitVec 32 := 0#32
  let v684 : BitVec 1 := Scalar.cmpi .ne v683 c0_i32_468
  v684

def k0_off227 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond163 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_469 : BitVec 32 := 2#32
  let v685 : BitVec 1 := Scalar.cmpi .ne v2 c2_i32_469
  let v686 : BitVec 32 := Scalar.extui v685
  let c0_i32_470 : BitVec 32 := 0#32
  let v687 : BitVec 1 := Scalar.cmpi .ne v686 c0_i32_470
  v687

def k0_off228 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond164 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_471 : BitVec 32 := 3#32
  let v688 : BitVec 1 := Scalar.cmpi .ne v2 c3_i32_471
  let v689 : BitVec 32 := Scalar.extui v688
  let c0_i32_472 : BitVec 32 := 0#32
  let v690 : BitVec 1 := Scalar.cmpi .ne v689 c0_i32_472
  v690

def k0_off229 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond165 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_473 : BitVec 32 := 4#32
  let v691 : BitVec 1 := Scalar.cmpi .ne v2 c4_i32_473
  let v692 : BitVec 32 := Scalar.extui v691
  let c0_i32_474 : BitVec 32 := 0#32
  let v693 : BitVec 1 := Scalar.cmpi .ne v692 c0_i32_474
  v693

def k0_off230 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond166 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_475 : BitVec 32 := 5#32
  let v694 : BitVec 1 := Scalar.cmpi .ne v2 c5_i32_475
  let v695 : BitVec 32 := Scalar.extui v694
  let c0_i32_476 : BitVec 32 := 0#32
  let v696 : BitVec 1 := Scalar.cmpi .ne v695 c0_i32_476
  v696

def k0_off231 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond167 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_477 : BitVec 32 := 6#32
  let v697 : BitVec 1 := Scalar.cmpi .ne v2 c6_i32_477
  let v698 : BitVec 32 := Scalar.extui v697
  let c0_i32_478 : BitVec 32 := 0#32
  let v699 : BitVec 1 := Scalar.cmpi .ne v698 c0_i32_478
  v699

def k0_off232 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond168 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_479 : BitVec 32 := 7#32
  let v700 : BitVec 1 := Scalar.cmpi .ne v2 c7_i32_479
  let v701 : BitVec 32 := Scalar.extui v700
  let c0_i32_480 : BitVec 32 := 0#32
  let v702 : BitVec 1 := Scalar.cmpi .ne v701 c0_i32_480
  v702

def k0_off233 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond169 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_481 : BitVec 32 := 8#32
  let v703 : BitVec 1 := Scalar.cmpi .ne v2 c8_i32_481
  let v704 : BitVec 32 := Scalar.extui v703
  let c0_i32_482 : BitVec 32 := 0#32
  let v705 : BitVec 1 := Scalar.cmpi .ne v704 c0_i32_482
  v705

def k0_off234 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond170 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_483 : BitVec 32 := 9#32
  let v706 : BitVec 1 := Scalar.cmpi .ne v2 c9_i32_483
  let v707 : BitVec 32 := Scalar.extui v706
  let c0_i32_484 : BitVec 32 := 0#32
  let v708 : BitVec 1 := Scalar.cmpi .ne v707 c0_i32_484
  v708

def k0_off235 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond171 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_485 : BitVec 32 := 10#32
  let v709 : BitVec 1 := Scalar.cmpi .ne v2 c10_i32_485
  let v710 : BitVec 32 := Scalar.extui v709
  let c0_i32_486 : BitVec 32 := 0#32
  let v711 : BitVec 1 := Scalar.cmpi .ne v710 c0_i32_486
  v711

def k0_off236 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond172 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_487 : BitVec 32 := 11#32
  let v712 : BitVec 1 := Scalar.cmpi .ne v2 c11_i32_487
  let v713 : BitVec 32 := Scalar.extui v712
  let c0_i32_488 : BitVec 32 := 0#32
  let v714 : BitVec 1 := Scalar.cmpi .ne v713 c0_i32_488
  v714

def k0_off237 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond173 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_489 : BitVec 32 := 12#32
  let v715 : BitVec 1 := Scalar.cmpi .ne v2 c12_i32_489
  let v716 : BitVec 32 := Scalar.extui v715
  let c0_i32_490 : BitVec 32 := 0#32
  let v717 : BitVec 1 := Scalar.cmpi .ne v716 c0_i32_490
  v717

def k0_off238 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond174 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_491 : BitVec 32 := 13#32
  let v718 : BitVec 1 := Scalar.cmpi .ne v2 c13_i32_491
  let v719 : BitVec 32 := Scalar.extui v718
  let c0_i32_492 : BitVec 32 := 0#32
  let v720 : BitVec 1 := Scalar.cmpi .ne v719 c0_i32_492
  v720

def k0_off239 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond175 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_493 : BitVec 32 := 14#32
  let v721 : BitVec 1 := Scalar.cmpi .ne v2 c14_i32_493
  let v722 : BitVec 32 := Scalar.extui v721
  let c0_i32_494 : BitVec 32 := 0#32
  let v723 : BitVec 1 := Scalar.cmpi .ne v722 c0_i32_494
  v723

def k0_off240 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond176 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_495 : BitVec 32 := 15#32
  let v724 : BitVec 1 := Scalar.cmpi .ne v2 c15_i32_495
  let v725 : BitVec 32 := Scalar.extui v724
  let c0_i32_496 : BitVec 32 := 0#32
  let v726 : BitVec 1 := Scalar.cmpi .ne v725 c0_i32_496
  v726

def k0_off241 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond177 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_497 : BitVec 32 := 0#32
  let v727 : BitVec 1 := Scalar.cmpi .ne v2 c0_i32_497
  let v728 : BitVec 32 := Scalar.extui v727
  let c0_i32_498 : BitVec 32 := 0#32
  let v729 : BitVec 1 := Scalar.cmpi .ne v728 c0_i32_498
  v729

def k0_off242 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_499 : BitVec 32 := 1#32
  let v730 : BitVec 1 := Scalar.cmpi .ne v2 c1_i32_499
  let v731 : BitVec 32 := Scalar.extui v730
  let c0_i32_500 : BitVec 32 := 0#32
  let v732 : BitVec 1 := Scalar.cmpi .ne v731 c0_i32_500
  v732

def k0_off243 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond179 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_501 : BitVec 32 := 2#32
  let v733 : BitVec 1 := Scalar.cmpi .ne v2 c2_i32_501
  let v734 : BitVec 32 := Scalar.extui v733
  let c0_i32_502 : BitVec 32 := 0#32
  let v735 : BitVec 1 := Scalar.cmpi .ne v734 c0_i32_502
  v735

def k0_off244 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_503 : BitVec 32 := 3#32
  let v736 : BitVec 1 := Scalar.cmpi .ne v2 c3_i32_503
  let v737 : BitVec 32 := Scalar.extui v736
  let c0_i32_504 : BitVec 32 := 0#32
  let v738 : BitVec 1 := Scalar.cmpi .ne v737 c0_i32_504
  v738

def k0_off245 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_505 : BitVec 32 := 4#32
  let v739 : BitVec 1 := Scalar.cmpi .ne v2 c4_i32_505
  let v740 : BitVec 32 := Scalar.extui v739
  let c0_i32_506 : BitVec 32 := 0#32
  let v741 : BitVec 1 := Scalar.cmpi .ne v740 c0_i32_506
  v741

def k0_off246 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_507 : BitVec 32 := 5#32
  let v742 : BitVec 1 := Scalar.cmpi .ne v2 c5_i32_507
  let v743 : BitVec 32 := Scalar.extui v742
  let c0_i32_508 : BitVec 32 := 0#32
  let v744 : BitVec 1 := Scalar.cmpi .ne v743 c0_i32_508
  v744

def k0_off247 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_509 : BitVec 32 := 6#32
  let v745 : BitVec 1 := Scalar.cmpi .ne v2 c6_i32_509
  let v746 : BitVec 32 := Scalar.extui v745
  let c0_i32_510 : BitVec 32 := 0#32
  let v747 : BitVec 1 := Scalar.cmpi .ne v746 c0_i32_510
  v747

def k0_off248 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_511 : BitVec 32 := 7#32
  let v748 : BitVec 1 := Scalar.cmpi .ne v2 c7_i32_511
  let v749 : BitVec 32 := Scalar.extui v748
  let c0_i32_512 : BitVec 32 := 0#32
  let v750 : BitVec 1 := Scalar.cmpi .ne v749 c0_i32_512
  v750

def k0_off249 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond185 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_513 : BitVec 32 := 8#32
  let v751 : BitVec 1 := Scalar.cmpi .ne v2 c8_i32_513
  let v752 : BitVec 32 := Scalar.extui v751
  let c0_i32_514 : BitVec 32 := 0#32
  let v753 : BitVec 1 := Scalar.cmpi .ne v752 c0_i32_514
  v753

def k0_off250 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v754 : BitVec 1 := Scalar.cmpi .ne v2 c9_i32_515
  let v755 : BitVec 32 := Scalar.extui v754
  let c0_i32_516 : BitVec 32 := 0#32
  let v756 : BitVec 1 := Scalar.cmpi .ne v755 c0_i32_516
  v756

def k0_off251 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond187 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_517 : BitVec 32 := 10#32
  let v757 : BitVec 1 := Scalar.cmpi .ne v2 c10_i32_517
  let v758 : BitVec 32 := Scalar.extui v757
  let c0_i32_518 : BitVec 32 := 0#32
  let v759 : BitVec 1 := Scalar.cmpi .ne v758 c0_i32_518
  v759

def k0_off252 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_519 : BitVec 32 := 11#32
  let v760 : BitVec 1 := Scalar.cmpi .ne v2 c11_i32_519
  let v761 : BitVec 32 := Scalar.extui v760
  let c0_i32_520 : BitVec 32 := 0#32
  let v762 : BitVec 1 := Scalar.cmpi .ne v761 c0_i32_520
  v762

def k0_off253 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_521 : BitVec 32 := 12#32
  let v763 : BitVec 1 := Scalar.cmpi .ne v2 c12_i32_521
  let v764 : BitVec 32 := Scalar.extui v763
  let c0_i32_522 : BitVec 32 := 0#32
  let v765 : BitVec 1 := Scalar.cmpi .ne v764 c0_i32_522
  v765

def k0_off254 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_523 : BitVec 32 := 13#32
  let v766 : BitVec 1 := Scalar.cmpi .ne v2 c13_i32_523
  let v767 : BitVec 32 := Scalar.extui v766
  let c0_i32_524 : BitVec 32 := 0#32
  let v768 : BitVec 1 := Scalar.cmpi .ne v767 c0_i32_524
  v768

def k0_off255 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_525 : BitVec 32 := 14#32
  let v769 : BitVec 1 := Scalar.cmpi .ne v2 c14_i32_525
  let v770 : BitVec 32 := Scalar.extui v769
  let c0_i32_526 : BitVec 32 := 0#32
  let v771 : BitVec 1 := Scalar.cmpi .ne v770 c0_i32_526
  v771

def k0_off256 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_527 : BitVec 32 := 15#32
  let v772 : BitVec 1 := Scalar.cmpi .ne v2 c15_i32_527
  let v773 : BitVec 32 := Scalar.extui v772
  let c0_i32_528 : BitVec 32 := 0#32
  let v774 : BitVec 1 := Scalar.cmpi .ne v773 c0_i32_528
  v774

def k0_off257 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond193 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_533 : BitVec 32 := 0#32
  let v782 : BitVec 1 := Scalar.cmpi .ne v2 c0_i32_533
  let v783 : BitVec 32 := Scalar.extui v782
  let c0_i32_534 : BitVec 32 := 0#32
  let v784 : BitVec 1 := Scalar.cmpi .ne v783 c0_i32_534
  v784

def k0_off258 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off259 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev66 : Nat :=
  let c0_i32_890 : BitVec 32 := 0#32
  let c0_i32_888 : BitVec 32 := 0#32
  let c1_i32_889 : BitVec 32 := 1#32
  let v1289 : BitVec 32 := Scalar.muli c0_i32_888 c1_i32_889
  let v1290 : BitVec 32 := Scalar.addi c0_i32_890 v1289
  v1290.toNat
def k0_cond194 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_535 : BitVec 32 := 1#32
  let v785 : BitVec 1 := Scalar.cmpi .ne v2 c1_i32_535
  let v786 : BitVec 32 := Scalar.extui v785
  let c0_i32_536 : BitVec 32 := 0#32
  let v787 : BitVec 1 := Scalar.cmpi .ne v786 c0_i32_536
  v787

def k0_off260 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off261 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev67 : Nat :=
  let c0_i32_890 : BitVec 32 := 0#32
  let c1_i32_888 : BitVec 32 := 1#32
  let c1_i32_889 : BitVec 32 := 1#32
  let v1289 : BitVec 32 := Scalar.muli c1_i32_888 c1_i32_889
  let v1290 : BitVec 32 := Scalar.addi c0_i32_890 v1289
  v1290.toNat
def k0_cond195 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_537 : BitVec 32 := 2#32
  let v788 : BitVec 1 := Scalar.cmpi .ne v2 c2_i32_537
  let v789 : BitVec 32 := Scalar.extui v788
  let c0_i32_538 : BitVec 32 := 0#32
  let v790 : BitVec 1 := Scalar.cmpi .ne v789 c0_i32_538
  v790

def k0_off262 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off263 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev68 : Nat :=
  let c0_i32_890 : BitVec 32 := 0#32
  let c2_i32_888 : BitVec 32 := 2#32
  let c1_i32_889 : BitVec 32 := 1#32
  let v1289 : BitVec 32 := Scalar.muli c2_i32_888 c1_i32_889
  let v1290 : BitVec 32 := Scalar.addi c0_i32_890 v1289
  v1290.toNat
def k0_cond196 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_539 : BitVec 32 := 3#32
  let v791 : BitVec 1 := Scalar.cmpi .ne v2 c3_i32_539
  let v792 : BitVec 32 := Scalar.extui v791
  let c0_i32_540 : BitVec 32 := 0#32
  let v793 : BitVec 1 := Scalar.cmpi .ne v792 c0_i32_540
  v793

def k0_off264 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off265 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev69 : Nat :=
  let c0_i32_890 : BitVec 32 := 0#32
  let c3_i32_888 : BitVec 32 := 3#32
  let c1_i32_889 : BitVec 32 := 1#32
  let v1289 : BitVec 32 := Scalar.muli c3_i32_888 c1_i32_889
  let v1290 : BitVec 32 := Scalar.addi c0_i32_890 v1289
  v1290.toNat
def k0_cond197 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_541 : BitVec 32 := 4#32
  let v794 : BitVec 1 := Scalar.cmpi .ne v2 c4_i32_541
  let v795 : BitVec 32 := Scalar.extui v794
  let c0_i32_542 : BitVec 32 := 0#32
  let v796 : BitVec 1 := Scalar.cmpi .ne v795 c0_i32_542
  v796

def k0_off266 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off267 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev70 : Nat :=
  let c0_i32_890 : BitVec 32 := 0#32
  let c4_i32_888 : BitVec 32 := 4#32
  let c1_i32_889 : BitVec 32 := 1#32
  let v1289 : BitVec 32 := Scalar.muli c4_i32_888 c1_i32_889
  let v1290 : BitVec 32 := Scalar.addi c0_i32_890 v1289
  v1290.toNat
def k0_cond198 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_543 : BitVec 32 := 5#32
  let v797 : BitVec 1 := Scalar.cmpi .ne v2 c5_i32_543
  let v798 : BitVec 32 := Scalar.extui v797
  let c0_i32_544 : BitVec 32 := 0#32
  let v799 : BitVec 1 := Scalar.cmpi .ne v798 c0_i32_544
  v799

def k0_off268 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off269 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev71 : Nat :=
  let c0_i32_890 : BitVec 32 := 0#32
  let c5_i32_888 : BitVec 32 := 5#32
  let c1_i32_889 : BitVec 32 := 1#32
  let v1289 : BitVec 32 := Scalar.muli c5_i32_888 c1_i32_889
  let v1290 : BitVec 32 := Scalar.addi c0_i32_890 v1289
  v1290.toNat
def k0_cond199 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_545 : BitVec 32 := 6#32
  let v800 : BitVec 1 := Scalar.cmpi .ne v2 c6_i32_545
  let v801 : BitVec 32 := Scalar.extui v800
  let c0_i32_546 : BitVec 32 := 0#32
  let v802 : BitVec 1 := Scalar.cmpi .ne v801 c0_i32_546
  v802

def k0_off270 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off271 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev72 : Nat :=
  let c0_i32_890 : BitVec 32 := 0#32
  let c6_i32_888 : BitVec 32 := 6#32
  let c1_i32_889 : BitVec 32 := 1#32
  let v1289 : BitVec 32 := Scalar.muli c6_i32_888 c1_i32_889
  let v1290 : BitVec 32 := Scalar.addi c0_i32_890 v1289
  v1290.toNat
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_547 : BitVec 32 := 7#32
  let v803 : BitVec 1 := Scalar.cmpi .ne v2 c7_i32_547
  let v804 : BitVec 32 := Scalar.extui v803
  let c0_i32_548 : BitVec 32 := 0#32
  let v805 : BitVec 1 := Scalar.cmpi .ne v804 c0_i32_548
  v805

def k0_off272 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off273 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev73 : Nat :=
  let c0_i32_890 : BitVec 32 := 0#32
  let c7_i32_888 : BitVec 32 := 7#32
  let c1_i32_889 : BitVec 32 := 1#32
  let v1289 : BitVec 32 := Scalar.muli c7_i32_888 c1_i32_889
  let v1290 : BitVec 32 := Scalar.addi c0_i32_890 v1289
  v1290.toNat
def k0_cond201 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_549 : BitVec 32 := 8#32
  let v806 : BitVec 1 := Scalar.cmpi .ne v2 c8_i32_549
  let v807 : BitVec 32 := Scalar.extui v806
  let c0_i32_550 : BitVec 32 := 0#32
  let v808 : BitVec 1 := Scalar.cmpi .ne v807 c0_i32_550
  v808

def k0_off274 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off275 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev74 : Nat :=
  let c0_i32_890 : BitVec 32 := 0#32
  let c8_i32_888 : BitVec 32 := 8#32
  let c1_i32_889 : BitVec 32 := 1#32
  let v1289 : BitVec 32 := Scalar.muli c8_i32_888 c1_i32_889
  let v1290 : BitVec 32 := Scalar.addi c0_i32_890 v1289
  v1290.toNat
def k0_cond202 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_551 : BitVec 32 := 9#32
  let v809 : BitVec 1 := Scalar.cmpi .ne v2 c9_i32_551
  let v810 : BitVec 32 := Scalar.extui v809
  let c0_i32_552 : BitVec 32 := 0#32
  let v811 : BitVec 1 := Scalar.cmpi .ne v810 c0_i32_552
  v811

def k0_off276 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off277 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev75 : Nat :=
  let c0_i32_890 : BitVec 32 := 0#32
  let c9_i32_888 : BitVec 32 := 9#32
  let c1_i32_889 : BitVec 32 := 1#32
  let v1289 : BitVec 32 := Scalar.muli c9_i32_888 c1_i32_889
  let v1290 : BitVec 32 := Scalar.addi c0_i32_890 v1289
  v1290.toNat
def k0_cond203 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_553 : BitVec 32 := 10#32
  let v812 : BitVec 1 := Scalar.cmpi .ne v2 c10_i32_553
  let v813 : BitVec 32 := Scalar.extui v812
  let c0_i32_554 : BitVec 32 := 0#32
  let v814 : BitVec 1 := Scalar.cmpi .ne v813 c0_i32_554
  v814

def k0_off278 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off279 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev76 : Nat :=
  let c0_i32_890 : BitVec 32 := 0#32
  let c10_i32_888 : BitVec 32 := 10#32
  let c1_i32_889 : BitVec 32 := 1#32
  let v1289 : BitVec 32 := Scalar.muli c10_i32_888 c1_i32_889
  let v1290 : BitVec 32 := Scalar.addi c0_i32_890 v1289
  v1290.toNat
def k0_cond204 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_555 : BitVec 32 := 11#32
  let v815 : BitVec 1 := Scalar.cmpi .ne v2 c11_i32_555
  let v816 : BitVec 32 := Scalar.extui v815
  let c0_i32_556 : BitVec 32 := 0#32
  let v817 : BitVec 1 := Scalar.cmpi .ne v816 c0_i32_556
  v817

def k0_off280 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off281 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev77 : Nat :=
  let c0_i32_890 : BitVec 32 := 0#32
  let c11_i32_888 : BitVec 32 := 11#32
  let c1_i32_889 : BitVec 32 := 1#32
  let v1289 : BitVec 32 := Scalar.muli c11_i32_888 c1_i32_889
  let v1290 : BitVec 32 := Scalar.addi c0_i32_890 v1289
  v1290.toNat
def k0_cond205 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_557 : BitVec 32 := 12#32
  let v818 : BitVec 1 := Scalar.cmpi .ne v2 c12_i32_557
  let v819 : BitVec 32 := Scalar.extui v818
  let c0_i32_558 : BitVec 32 := 0#32
  let v820 : BitVec 1 := Scalar.cmpi .ne v819 c0_i32_558
  v820

def k0_off282 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off283 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev78 : Nat :=
  let c0_i32_890 : BitVec 32 := 0#32
  let c12_i32_888 : BitVec 32 := 12#32
  let c1_i32_889 : BitVec 32 := 1#32
  let v1289 : BitVec 32 := Scalar.muli c12_i32_888 c1_i32_889
  let v1290 : BitVec 32 := Scalar.addi c0_i32_890 v1289
  v1290.toNat
def k0_cond206 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_559 : BitVec 32 := 13#32
  let v821 : BitVec 1 := Scalar.cmpi .ne v2 c13_i32_559
  let v822 : BitVec 32 := Scalar.extui v821
  let c0_i32_560 : BitVec 32 := 0#32
  let v823 : BitVec 1 := Scalar.cmpi .ne v822 c0_i32_560
  v823

def k0_off284 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off285 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev79 : Nat :=
  let c0_i32_890 : BitVec 32 := 0#32
  let c13_i32_888 : BitVec 32 := 13#32
  let c1_i32_889 : BitVec 32 := 1#32
  let v1289 : BitVec 32 := Scalar.muli c13_i32_888 c1_i32_889
  let v1290 : BitVec 32 := Scalar.addi c0_i32_890 v1289
  v1290.toNat
def k0_cond207 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_561 : BitVec 32 := 14#32
  let v824 : BitVec 1 := Scalar.cmpi .ne v2 c14_i32_561
  let v825 : BitVec 32 := Scalar.extui v824
  let c0_i32_562 : BitVec 32 := 0#32
  let v826 : BitVec 1 := Scalar.cmpi .ne v825 c0_i32_562
  v826

def k0_off286 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off287 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev80 : Nat :=
  let c0_i32_890 : BitVec 32 := 0#32
  let c14_i32_888 : BitVec 32 := 14#32
  let c1_i32_889 : BitVec 32 := 1#32
  let v1289 : BitVec 32 := Scalar.muli c14_i32_888 c1_i32_889
  let v1290 : BitVec 32 := Scalar.addi c0_i32_890 v1289
  v1290.toNat
def k0_cond208 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_563 : BitVec 32 := 15#32
  let v827 : BitVec 1 := Scalar.cmpi .ne v2 c15_i32_563
  let v828 : BitVec 32 := Scalar.extui v827
  let c0_i32_564 : BitVec 32 := 0#32
  let v829 : BitVec 1 := Scalar.cmpi .ne v828 c0_i32_564
  v829

def k0_off288 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off289 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev81 : Nat :=
  let c0_i32_890 : BitVec 32 := 0#32
  let c15_i32_888 : BitVec 32 := 15#32
  let c1_i32_889 : BitVec 32 := 1#32
  let v1289 : BitVec 32 := Scalar.muli c15_i32_888 c1_i32_889
  let v1290 : BitVec 32 := Scalar.addi c0_i32_890 v1289
  v1290.toNat
def k0_cond209 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_565 : BitVec 32 := 0#32
  let v830 : BitVec 1 := Scalar.cmpi .ne v2 c0_i32_565
  let v831 : BitVec 32 := Scalar.extui v830
  let c0_i32_566 : BitVec 32 := 0#32
  let v832 : BitVec 1 := Scalar.cmpi .ne v831 c0_i32_566
  v832

def k0_off290 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond210 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_567 : BitVec 32 := 1#32
  let v833 : BitVec 1 := Scalar.cmpi .ne v2 c1_i32_567
  let v834 : BitVec 32 := Scalar.extui v833
  let c0_i32_568 : BitVec 32 := 0#32
  let v835 : BitVec 1 := Scalar.cmpi .ne v834 c0_i32_568
  v835

def k0_off291 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond211 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_569 : BitVec 32 := 2#32
  let v836 : BitVec 1 := Scalar.cmpi .ne v2 c2_i32_569
  let v837 : BitVec 32 := Scalar.extui v836
  let c0_i32_570 : BitVec 32 := 0#32
  let v838 : BitVec 1 := Scalar.cmpi .ne v837 c0_i32_570
  v838

def k0_off292 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond212 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_571 : BitVec 32 := 3#32
  let v839 : BitVec 1 := Scalar.cmpi .ne v2 c3_i32_571
  let v840 : BitVec 32 := Scalar.extui v839
  let c0_i32_572 : BitVec 32 := 0#32
  let v841 : BitVec 1 := Scalar.cmpi .ne v840 c0_i32_572
  v841

def k0_off293 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond213 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_586 : BitVec 32 := 0#32
  let v856 : BitVec 1 := Scalar.cmpi .ne v2 c0_i32_586
  let v857 : BitVec 32 := Scalar.extui v856
  let c0_i32_587 : BitVec 32 := 0#32
  let v858 : BitVec 1 := Scalar.cmpi .ne v857 c0_i32_587
  v858

def k0_off294 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off295 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev82 : Nat :=
  let c0_i32_888 : BitVec 32 := 0#32
  let c0_i32_886 : BitVec 32 := 0#32
  let c1_i32_887 : BitVec 32 := 1#32
  let v1287 : BitVec 32 := Scalar.muli c0_i32_886 c1_i32_887
  let v1288 : BitVec 32 := Scalar.addi c0_i32_888 v1287
  v1288.toNat
def k0_cond214 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_588 : BitVec 32 := 1#32
  let v859 : BitVec 1 := Scalar.cmpi .ne v2 c1_i32_588
  let v860 : BitVec 32 := Scalar.extui v859
  let c0_i32_589 : BitVec 32 := 0#32
  let v861 : BitVec 1 := Scalar.cmpi .ne v860 c0_i32_589
  v861

def k0_off296 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off297 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev83 : Nat :=
  let c0_i32_888 : BitVec 32 := 0#32
  let c1_i32_886 : BitVec 32 := 1#32
  let c1_i32_887 : BitVec 32 := 1#32
  let v1287 : BitVec 32 := Scalar.muli c1_i32_886 c1_i32_887
  let v1288 : BitVec 32 := Scalar.addi c0_i32_888 v1287
  v1288.toNat
def k0_cond215 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_590 : BitVec 32 := 2#32
  let v862 : BitVec 1 := Scalar.cmpi .ne v2 c2_i32_590
  let v863 : BitVec 32 := Scalar.extui v862
  let c0_i32_591 : BitVec 32 := 0#32
  let v864 : BitVec 1 := Scalar.cmpi .ne v863 c0_i32_591
  v864

def k0_off298 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off299 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev84 : Nat :=
  let c0_i32_888 : BitVec 32 := 0#32
  let c2_i32_886 : BitVec 32 := 2#32
  let c1_i32_887 : BitVec 32 := 1#32
  let v1287 : BitVec 32 := Scalar.muli c2_i32_886 c1_i32_887
  let v1288 : BitVec 32 := Scalar.addi c0_i32_888 v1287
  v1288.toNat
def k0_cond216 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_592 : BitVec 32 := 3#32
  let v865 : BitVec 1 := Scalar.cmpi .ne v2 c3_i32_592
  let v866 : BitVec 32 := Scalar.extui v865
  let c0_i32_593 : BitVec 32 := 0#32
  let v867 : BitVec 1 := Scalar.cmpi .ne v866 c0_i32_593
  v867

def k0_off300 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off301 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev85 : Nat :=
  let c0_i32_888 : BitVec 32 := 0#32
  let c3_i32_886 : BitVec 32 := 3#32
  let c1_i32_887 : BitVec 32 := 1#32
  let v1287 : BitVec 32 := Scalar.muli c3_i32_886 c1_i32_887
  let v1288 : BitVec 32 := Scalar.addi c0_i32_888 v1287
  v1288.toNat
def k0_cond217 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_594 : BitVec 32 := 4#32
  let v868 : BitVec 1 := Scalar.cmpi .ne v2 c4_i32_594
  let v869 : BitVec 32 := Scalar.extui v868
  let c0_i32_595 : BitVec 32 := 0#32
  let v870 : BitVec 1 := Scalar.cmpi .ne v869 c0_i32_595
  v870

def k0_off302 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond218 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_596 : BitVec 32 := 5#32
  let v871 : BitVec 1 := Scalar.cmpi .ne v2 c5_i32_596
  let v872 : BitVec 32 := Scalar.extui v871
  let c0_i32_597 : BitVec 32 := 0#32
  let v873 : BitVec 1 := Scalar.cmpi .ne v872 c0_i32_597
  v873

def k0_off303 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond219 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_598 : BitVec 32 := 6#32
  let v874 : BitVec 1 := Scalar.cmpi .ne v2 c6_i32_598
  let v875 : BitVec 32 := Scalar.extui v874
  let c0_i32_599 : BitVec 32 := 0#32
  let v876 : BitVec 1 := Scalar.cmpi .ne v875 c0_i32_599
  v876

def k0_off304 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond220 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_600 : BitVec 32 := 7#32
  let v877 : BitVec 1 := Scalar.cmpi .ne v2 c7_i32_600
  let v878 : BitVec 32 := Scalar.extui v877
  let c0_i32_601 : BitVec 32 := 0#32
  let v879 : BitVec 1 := Scalar.cmpi .ne v878 c0_i32_601
  v879

def k0_off305 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond221 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_602 : BitVec 32 := 0#32
  let v880 : BitVec 1 := Scalar.cmpi .ne v2 c0_i32_602
  let v881 : BitVec 32 := Scalar.extui v880
  let c0_i32_603 : BitVec 32 := 0#32
  let v882 : BitVec 1 := Scalar.cmpi .ne v881 c0_i32_603
  v882

def k0_off306 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond222 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_604 : BitVec 32 := 1#32
  let v883 : BitVec 1 := Scalar.cmpi .ne v2 c1_i32_604
  let v884 : BitVec 32 := Scalar.extui v883
  let c0_i32_605 : BitVec 32 := 0#32
  let v885 : BitVec 1 := Scalar.cmpi .ne v884 c0_i32_605
  v885

def k0_off307 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond223 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_606 : BitVec 32 := 2#32
  let v886 : BitVec 1 := Scalar.cmpi .ne v2 c2_i32_606
  let v887 : BitVec 32 := Scalar.extui v886
  let c0_i32_607 : BitVec 32 := 0#32
  let v888 : BitVec 1 := Scalar.cmpi .ne v887 c0_i32_607
  v888

def k0_off308 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond224 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_608 : BitVec 32 := 3#32
  let v889 : BitVec 1 := Scalar.cmpi .ne v2 c3_i32_608
  let v890 : BitVec 32 := Scalar.extui v889
  let c0_i32_609 : BitVec 32 := 0#32
  let v891 : BitVec 1 := Scalar.cmpi .ne v890 c0_i32_609
  v891

def k0_off309 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond225 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_610 : BitVec 32 := 4#32
  let v892 : BitVec 1 := Scalar.cmpi .ne v2 c4_i32_610
  let v893 : BitVec 32 := Scalar.extui v892
  let c0_i32_611 : BitVec 32 := 0#32
  let v894 : BitVec 1 := Scalar.cmpi .ne v893 c0_i32_611
  v894

def k0_off310 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond226 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_612 : BitVec 32 := 5#32
  let v895 : BitVec 1 := Scalar.cmpi .ne v2 c5_i32_612
  let v896 : BitVec 32 := Scalar.extui v895
  let c0_i32_613 : BitVec 32 := 0#32
  let v897 : BitVec 1 := Scalar.cmpi .ne v896 c0_i32_613
  v897

def k0_off311 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond227 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_614 : BitVec 32 := 6#32
  let v898 : BitVec 1 := Scalar.cmpi .ne v2 c6_i32_614
  let v899 : BitVec 32 := Scalar.extui v898
  let c0_i32_615 : BitVec 32 := 0#32
  let v900 : BitVec 1 := Scalar.cmpi .ne v899 c0_i32_615
  v900

def k0_off312 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond228 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_616 : BitVec 32 := 7#32
  let v901 : BitVec 1 := Scalar.cmpi .ne v2 c7_i32_616
  let v902 : BitVec 32 := Scalar.extui v901
  let c0_i32_617 : BitVec 32 := 0#32
  let v903 : BitVec 1 := Scalar.cmpi .ne v902 c0_i32_617
  v903

def k0_off313 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond229 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_618 : BitVec 32 := 8#32
  let v904 : BitVec 1 := Scalar.cmpi .ne v2 c8_i32_618
  let v905 : BitVec 32 := Scalar.extui v904
  let c0_i32_619 : BitVec 32 := 0#32
  let v906 : BitVec 1 := Scalar.cmpi .ne v905 c0_i32_619
  v906

def k0_off314 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond230 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_620 : BitVec 32 := 9#32
  let v907 : BitVec 1 := Scalar.cmpi .ne v2 c9_i32_620
  let v908 : BitVec 32 := Scalar.extui v907
  let c0_i32_621 : BitVec 32 := 0#32
  let v909 : BitVec 1 := Scalar.cmpi .ne v908 c0_i32_621
  v909

def k0_off315 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond231 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_622 : BitVec 32 := 10#32
  let v910 : BitVec 1 := Scalar.cmpi .ne v2 c10_i32_622
  let v911 : BitVec 32 := Scalar.extui v910
  let c0_i32_623 : BitVec 32 := 0#32
  let v912 : BitVec 1 := Scalar.cmpi .ne v911 c0_i32_623
  v912

def k0_off316 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond232 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_624 : BitVec 32 := 11#32
  let v913 : BitVec 1 := Scalar.cmpi .ne v2 c11_i32_624
  let v914 : BitVec 32 := Scalar.extui v913
  let c0_i32_625 : BitVec 32 := 0#32
  let v915 : BitVec 1 := Scalar.cmpi .ne v914 c0_i32_625
  v915

def k0_off317 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond233 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_626 : BitVec 32 := 12#32
  let v916 : BitVec 1 := Scalar.cmpi .ne v2 c12_i32_626
  let v917 : BitVec 32 := Scalar.extui v916
  let c0_i32_627 : BitVec 32 := 0#32
  let v918 : BitVec 1 := Scalar.cmpi .ne v917 c0_i32_627
  v918

def k0_off318 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond234 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_628 : BitVec 32 := 13#32
  let v919 : BitVec 1 := Scalar.cmpi .ne v2 c13_i32_628
  let v920 : BitVec 32 := Scalar.extui v919
  let c0_i32_629 : BitVec 32 := 0#32
  let v921 : BitVec 1 := Scalar.cmpi .ne v920 c0_i32_629
  v921

def k0_off319 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond235 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_630 : BitVec 32 := 14#32
  let v922 : BitVec 1 := Scalar.cmpi .ne v2 c14_i32_630
  let v923 : BitVec 32 := Scalar.extui v922
  let c0_i32_631 : BitVec 32 := 0#32
  let v924 : BitVec 1 := Scalar.cmpi .ne v923 c0_i32_631
  v924

def k0_off320 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond236 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_632 : BitVec 32 := 15#32
  let v925 : BitVec 1 := Scalar.cmpi .ne v2 c15_i32_632
  let v926 : BitVec 32 := Scalar.extui v925
  let c0_i32_633 : BitVec 32 := 0#32
  let v927 : BitVec 1 := Scalar.cmpi .ne v926 c0_i32_633
  v927

def k0_off321 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond237 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_647 : BitVec 32 := 4#32
  let v942 : BitVec 1 := Scalar.cmpi .ne v2 c4_i32_647
  let v943 : BitVec 32 := Scalar.extui v942
  let c0_i32_648 : BitVec 32 := 0#32
  let v944 : BitVec 1 := Scalar.cmpi .ne v943 c0_i32_648
  v944

def k0_off322 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off323 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev86 : Nat :=
  let c0_i32_888 : BitVec 32 := 0#32
  let c4_i32_886 : BitVec 32 := 4#32
  let c1_i32_887 : BitVec 32 := 1#32
  let v1287 : BitVec 32 := Scalar.muli c4_i32_886 c1_i32_887
  let v1288 : BitVec 32 := Scalar.addi c0_i32_888 v1287
  v1288.toNat
def k0_cond238 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_649 : BitVec 32 := 5#32
  let v945 : BitVec 1 := Scalar.cmpi .ne v2 c5_i32_649
  let v946 : BitVec 32 := Scalar.extui v945
  let c0_i32_650 : BitVec 32 := 0#32
  let v947 : BitVec 1 := Scalar.cmpi .ne v946 c0_i32_650
  v947

def k0_off324 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off325 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev87 : Nat :=
  let c0_i32_888 : BitVec 32 := 0#32
  let c5_i32_886 : BitVec 32 := 5#32
  let c1_i32_887 : BitVec 32 := 1#32
  let v1287 : BitVec 32 := Scalar.muli c5_i32_886 c1_i32_887
  let v1288 : BitVec 32 := Scalar.addi c0_i32_888 v1287
  v1288.toNat
def k0_cond239 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_651 : BitVec 32 := 6#32
  let v948 : BitVec 1 := Scalar.cmpi .ne v2 c6_i32_651
  let v949 : BitVec 32 := Scalar.extui v948
  let c0_i32_652 : BitVec 32 := 0#32
  let v950 : BitVec 1 := Scalar.cmpi .ne v949 c0_i32_652
  v950

def k0_off326 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off327 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev88 : Nat :=
  let c0_i32_888 : BitVec 32 := 0#32
  let c6_i32_886 : BitVec 32 := 6#32
  let c1_i32_887 : BitVec 32 := 1#32
  let v1287 : BitVec 32 := Scalar.muli c6_i32_886 c1_i32_887
  let v1288 : BitVec 32 := Scalar.addi c0_i32_888 v1287
  v1288.toNat
def k0_cond240 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_653 : BitVec 32 := 7#32
  let v951 : BitVec 1 := Scalar.cmpi .ne v2 c7_i32_653
  let v952 : BitVec 32 := Scalar.extui v951
  let c0_i32_654 : BitVec 32 := 0#32
  let v953 : BitVec 1 := Scalar.cmpi .ne v952 c0_i32_654
  v953

def k0_off328 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off329 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev89 : Nat :=
  let c0_i32_888 : BitVec 32 := 0#32
  let c7_i32_886 : BitVec 32 := 7#32
  let c1_i32_887 : BitVec 32 := 1#32
  let v1287 : BitVec 32 := Scalar.muli c7_i32_886 c1_i32_887
  let v1288 : BitVec 32 := Scalar.addi c0_i32_888 v1287
  v1288.toNat
def k0_cond241 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_655 : BitVec 32 := 8#32
  let v954 : BitVec 1 := Scalar.cmpi .ne v2 c8_i32_655
  let v955 : BitVec 32 := Scalar.extui v954
  let c0_i32_656 : BitVec 32 := 0#32
  let v956 : BitVec 1 := Scalar.cmpi .ne v955 c0_i32_656
  v956

def k0_off330 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond242 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_657 : BitVec 32 := 9#32
  let v957 : BitVec 1 := Scalar.cmpi .ne v2 c9_i32_657
  let v958 : BitVec 32 := Scalar.extui v957
  let c0_i32_658 : BitVec 32 := 0#32
  let v959 : BitVec 1 := Scalar.cmpi .ne v958 c0_i32_658
  v959

def k0_off331 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond243 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_659 : BitVec 32 := 10#32
  let v960 : BitVec 1 := Scalar.cmpi .ne v2 c10_i32_659
  let v961 : BitVec 32 := Scalar.extui v960
  let c0_i32_660 : BitVec 32 := 0#32
  let v962 : BitVec 1 := Scalar.cmpi .ne v961 c0_i32_660
  v962

def k0_off332 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond244 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_661 : BitVec 32 := 11#32
  let v963 : BitVec 1 := Scalar.cmpi .ne v2 c11_i32_661
  let v964 : BitVec 32 := Scalar.extui v963
  let c0_i32_662 : BitVec 32 := 0#32
  let v965 : BitVec 1 := Scalar.cmpi .ne v964 c0_i32_662
  v965

def k0_off333 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond245 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_676 : BitVec 32 := 8#32
  let v980 : BitVec 1 := Scalar.cmpi .ne v2 c8_i32_676
  let v981 : BitVec 32 := Scalar.extui v980
  let c0_i32_677 : BitVec 32 := 0#32
  let v982 : BitVec 1 := Scalar.cmpi .ne v981 c0_i32_677
  v982

def k0_off334 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off335 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev90 : Nat :=
  let c0_i32_888 : BitVec 32 := 0#32
  let c8_i32_886 : BitVec 32 := 8#32
  let c1_i32_887 : BitVec 32 := 1#32
  let v1287 : BitVec 32 := Scalar.muli c8_i32_886 c1_i32_887
  let v1288 : BitVec 32 := Scalar.addi c0_i32_888 v1287
  v1288.toNat
def k0_cond246 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_678 : BitVec 32 := 9#32
  let v983 : BitVec 1 := Scalar.cmpi .ne v2 c9_i32_678
  let v984 : BitVec 32 := Scalar.extui v983
  let c0_i32_679 : BitVec 32 := 0#32
  let v985 : BitVec 1 := Scalar.cmpi .ne v984 c0_i32_679
  v985

def k0_off336 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off337 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev91 : Nat :=
  let c0_i32_888 : BitVec 32 := 0#32
  let c9_i32_886 : BitVec 32 := 9#32
  let c1_i32_887 : BitVec 32 := 1#32
  let v1287 : BitVec 32 := Scalar.muli c9_i32_886 c1_i32_887
  let v1288 : BitVec 32 := Scalar.addi c0_i32_888 v1287
  v1288.toNat
def k0_cond247 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_680 : BitVec 32 := 10#32
  let v986 : BitVec 1 := Scalar.cmpi .ne v2 c10_i32_680
  let v987 : BitVec 32 := Scalar.extui v986
  let c0_i32_681 : BitVec 32 := 0#32
  let v988 : BitVec 1 := Scalar.cmpi .ne v987 c0_i32_681
  v988

def k0_off338 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off339 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev92 : Nat :=
  let c0_i32_888 : BitVec 32 := 0#32
  let c10_i32_886 : BitVec 32 := 10#32
  let c1_i32_887 : BitVec 32 := 1#32
  let v1287 : BitVec 32 := Scalar.muli c10_i32_886 c1_i32_887
  let v1288 : BitVec 32 := Scalar.addi c0_i32_888 v1287
  v1288.toNat
def k0_cond248 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_682 : BitVec 32 := 11#32
  let v989 : BitVec 1 := Scalar.cmpi .ne v2 c11_i32_682
  let v990 : BitVec 32 := Scalar.extui v989
  let c0_i32_683 : BitVec 32 := 0#32
  let v991 : BitVec 1 := Scalar.cmpi .ne v990 c0_i32_683
  v991

def k0_off340 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off341 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev93 : Nat :=
  let c0_i32_888 : BitVec 32 := 0#32
  let c11_i32_886 : BitVec 32 := 11#32
  let c1_i32_887 : BitVec 32 := 1#32
  let v1287 : BitVec 32 := Scalar.muli c11_i32_886 c1_i32_887
  let v1288 : BitVec 32 := Scalar.addi c0_i32_888 v1287
  v1288.toNat
def k0_cond249 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_684 : BitVec 32 := 12#32
  let v992 : BitVec 1 := Scalar.cmpi .ne v2 c12_i32_684
  let v993 : BitVec 32 := Scalar.extui v992
  let c0_i32_685 : BitVec 32 := 0#32
  let v994 : BitVec 1 := Scalar.cmpi .ne v993 c0_i32_685
  v994

def k0_off342 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond250 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_686 : BitVec 32 := 13#32
  let v995 : BitVec 1 := Scalar.cmpi .ne v2 c13_i32_686
  let v996 : BitVec 32 := Scalar.extui v995
  let c0_i32_687 : BitVec 32 := 0#32
  let v997 : BitVec 1 := Scalar.cmpi .ne v996 c0_i32_687
  v997

def k0_off343 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond251 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_688 : BitVec 32 := 14#32
  let v998 : BitVec 1 := Scalar.cmpi .ne v2 c14_i32_688
  let v999 : BitVec 32 := Scalar.extui v998
  let c0_i32_689 : BitVec 32 := 0#32
  let v1000 : BitVec 1 := Scalar.cmpi .ne v999 c0_i32_689
  v1000

def k0_off344 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond252 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_690 : BitVec 32 := 15#32
  let v1001 : BitVec 1 := Scalar.cmpi .ne v2 c15_i32_690
  let v1002 : BitVec 32 := Scalar.extui v1001
  let c0_i32_691 : BitVec 32 := 0#32
  let v1003 : BitVec 1 := Scalar.cmpi .ne v1002 c0_i32_691
  v1003

def k0_off345 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond253 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_705 : BitVec 32 := 12#32
  let v1018 : BitVec 1 := Scalar.cmpi .ne v2 c12_i32_705
  let v1019 : BitVec 32 := Scalar.extui v1018
  let c0_i32_706 : BitVec 32 := 0#32
  let v1020 : BitVec 1 := Scalar.cmpi .ne v1019 c0_i32_706
  v1020

def k0_off346 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off347 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev94 : Nat :=
  let c0_i32_888 : BitVec 32 := 0#32
  let c12_i32_886 : BitVec 32 := 12#32
  let c1_i32_887 : BitVec 32 := 1#32
  let v1287 : BitVec 32 := Scalar.muli c12_i32_886 c1_i32_887
  let v1288 : BitVec 32 := Scalar.addi c0_i32_888 v1287
  v1288.toNat
def k0_cond254 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_707 : BitVec 32 := 13#32
  let v1021 : BitVec 1 := Scalar.cmpi .ne v2 c13_i32_707
  let v1022 : BitVec 32 := Scalar.extui v1021
  let c0_i32_708 : BitVec 32 := 0#32
  let v1023 : BitVec 1 := Scalar.cmpi .ne v1022 c0_i32_708
  v1023

def k0_off348 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off349 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev95 : Nat :=
  let c0_i32_888 : BitVec 32 := 0#32
  let c13_i32_886 : BitVec 32 := 13#32
  let c1_i32_887 : BitVec 32 := 1#32
  let v1287 : BitVec 32 := Scalar.muli c13_i32_886 c1_i32_887
  let v1288 : BitVec 32 := Scalar.addi c0_i32_888 v1287
  v1288.toNat
def k0_cond255 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_709 : BitVec 32 := 14#32
  let v1024 : BitVec 1 := Scalar.cmpi .ne v2 c14_i32_709
  let v1025 : BitVec 32 := Scalar.extui v1024
  let c0_i32_710 : BitVec 32 := 0#32
  let v1026 : BitVec 1 := Scalar.cmpi .ne v1025 c0_i32_710
  v1026

def k0_off350 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off351 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev96 : Nat :=
  let c0_i32_888 : BitVec 32 := 0#32
  let c14_i32_886 : BitVec 32 := 14#32
  let c1_i32_887 : BitVec 32 := 1#32
  let v1287 : BitVec 32 := Scalar.muli c14_i32_886 c1_i32_887
  let v1288 : BitVec 32 := Scalar.addi c0_i32_888 v1287
  v1288.toNat
def k0_cond256 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_711 : BitVec 32 := 15#32
  let v1027 : BitVec 1 := Scalar.cmpi .ne v2 c15_i32_711
  let v1028 : BitVec 32 := Scalar.extui v1027
  let c0_i32_712 : BitVec 32 := 0#32
  let v1029 : BitVec 1 := Scalar.cmpi .ne v1028 c0_i32_712
  v1029

def k0_off352 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off353 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let c0_i32_890 : BitVec 32 := 0#32
  ![v2.toNat, 0, 0]
def k0_dev97 : Nat :=
  let c0_i32_888 : BitVec 32 := 0#32
  let c15_i32_886 : BitVec 32 := 15#32
  let c1_i32_887 : BitVec 32 := 1#32
  let v1287 : BitVec 32 := Scalar.muli c15_i32_886 c1_i32_887
  let v1288 : BitVec 32 := Scalar.addi c0_i32_888 v1287
  v1288.toNat
def k0_cond257 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_717 : BitVec 32 := 0#32
  let v1037 : BitVec 1 := Scalar.cmpi .ne v2 c0_i32_717
  let v1038 : BitVec 32 := Scalar.extui v1037
  let c0_i32_718 : BitVec 32 := 0#32
  let v1039 : BitVec 1 := Scalar.cmpi .ne v1038 c0_i32_718
  v1039

def k0_off354 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond258 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_719 : BitVec 32 := 1#32
  let v1040 : BitVec 1 := Scalar.cmpi .ne v2 c1_i32_719
  let v1041 : BitVec 32 := Scalar.extui v1040
  let c0_i32_720 : BitVec 32 := 0#32
  let v1042 : BitVec 1 := Scalar.cmpi .ne v1041 c0_i32_720
  v1042

def k0_off355 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond259 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_721 : BitVec 32 := 2#32
  let v1043 : BitVec 1 := Scalar.cmpi .ne v2 c2_i32_721
  let v1044 : BitVec 32 := Scalar.extui v1043
  let c0_i32_722 : BitVec 32 := 0#32
  let v1045 : BitVec 1 := Scalar.cmpi .ne v1044 c0_i32_722
  v1045

def k0_off356 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond260 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_723 : BitVec 32 := 3#32
  let v1046 : BitVec 1 := Scalar.cmpi .ne v2 c3_i32_723
  let v1047 : BitVec 32 := Scalar.extui v1046
  let c0_i32_724 : BitVec 32 := 0#32
  let v1048 : BitVec 1 := Scalar.cmpi .ne v1047 c0_i32_724
  v1048

def k0_off357 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond261 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_725 : BitVec 32 := 4#32
  let v1049 : BitVec 1 := Scalar.cmpi .ne v2 c4_i32_725
  let v1050 : BitVec 32 := Scalar.extui v1049
  let c0_i32_726 : BitVec 32 := 0#32
  let v1051 : BitVec 1 := Scalar.cmpi .ne v1050 c0_i32_726
  v1051

def k0_off358 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond262 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_727 : BitVec 32 := 5#32
  let v1052 : BitVec 1 := Scalar.cmpi .ne v2 c5_i32_727
  let v1053 : BitVec 32 := Scalar.extui v1052
  let c0_i32_728 : BitVec 32 := 0#32
  let v1054 : BitVec 1 := Scalar.cmpi .ne v1053 c0_i32_728
  v1054

def k0_off359 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond263 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_729 : BitVec 32 := 6#32
  let v1055 : BitVec 1 := Scalar.cmpi .ne v2 c6_i32_729
  let v1056 : BitVec 32 := Scalar.extui v1055
  let c0_i32_730 : BitVec 32 := 0#32
  let v1057 : BitVec 1 := Scalar.cmpi .ne v1056 c0_i32_730
  v1057

def k0_off360 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond264 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_731 : BitVec 32 := 7#32
  let v1058 : BitVec 1 := Scalar.cmpi .ne v2 c7_i32_731
  let v1059 : BitVec 32 := Scalar.extui v1058
  let c0_i32_732 : BitVec 32 := 0#32
  let v1060 : BitVec 1 := Scalar.cmpi .ne v1059 c0_i32_732
  v1060

def k0_off361 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond265 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_733 : BitVec 32 := 8#32
  let v1061 : BitVec 1 := Scalar.cmpi .ne v2 c8_i32_733
  let v1062 : BitVec 32 := Scalar.extui v1061
  let c0_i32_734 : BitVec 32 := 0#32
  let v1063 : BitVec 1 := Scalar.cmpi .ne v1062 c0_i32_734
  v1063

def k0_off362 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond266 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_735 : BitVec 32 := 9#32
  let v1064 : BitVec 1 := Scalar.cmpi .ne v2 c9_i32_735
  let v1065 : BitVec 32 := Scalar.extui v1064
  let c0_i32_736 : BitVec 32 := 0#32
  let v1066 : BitVec 1 := Scalar.cmpi .ne v1065 c0_i32_736
  v1066

def k0_off363 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond267 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_737 : BitVec 32 := 10#32
  let v1067 : BitVec 1 := Scalar.cmpi .ne v2 c10_i32_737
  let v1068 : BitVec 32 := Scalar.extui v1067
  let c0_i32_738 : BitVec 32 := 0#32
  let v1069 : BitVec 1 := Scalar.cmpi .ne v1068 c0_i32_738
  v1069

def k0_off364 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond268 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_739 : BitVec 32 := 11#32
  let v1070 : BitVec 1 := Scalar.cmpi .ne v2 c11_i32_739
  let v1071 : BitVec 32 := Scalar.extui v1070
  let c0_i32_740 : BitVec 32 := 0#32
  let v1072 : BitVec 1 := Scalar.cmpi .ne v1071 c0_i32_740
  v1072

def k0_off365 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond269 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_741 : BitVec 32 := 12#32
  let v1073 : BitVec 1 := Scalar.cmpi .ne v2 c12_i32_741
  let v1074 : BitVec 32 := Scalar.extui v1073
  let c0_i32_742 : BitVec 32 := 0#32
  let v1075 : BitVec 1 := Scalar.cmpi .ne v1074 c0_i32_742
  v1075

def k0_off366 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond270 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_743 : BitVec 32 := 13#32
  let v1076 : BitVec 1 := Scalar.cmpi .ne v2 c13_i32_743
  let v1077 : BitVec 32 := Scalar.extui v1076
  let c0_i32_744 : BitVec 32 := 0#32
  let v1078 : BitVec 1 := Scalar.cmpi .ne v1077 c0_i32_744
  v1078

def k0_off367 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond271 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_745 : BitVec 32 := 14#32
  let v1079 : BitVec 1 := Scalar.cmpi .ne v2 c14_i32_745
  let v1080 : BitVec 32 := Scalar.extui v1079
  let c0_i32_746 : BitVec 32 := 0#32
  let v1081 : BitVec 1 := Scalar.cmpi .ne v1080 c0_i32_746
  v1081

def k0_off368 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond272 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_747 : BitVec 32 := 15#32
  let v1082 : BitVec 1 := Scalar.cmpi .ne v2 c15_i32_747
  let v1083 : BitVec 32 := Scalar.extui v1082
  let c0_i32_748 : BitVec 32 := 0#32
  let v1084 : BitVec 1 := Scalar.cmpi .ne v1083 c0_i32_748
  v1084

def k0_off369 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_894 : BitVec 32 := 0#32
  ![v1287.toNat, 0]
def k0_cond273 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_749 : BitVec 32 := 0#32
  let v1085 : BitVec 1 := Scalar.cmpi .ne v2 c0_i32_749
  let v1086 : BitVec 32 := Scalar.extui v1085
  let c0_i32_750 : BitVec 32 := 0#32
  let v1087 : BitVec 1 := Scalar.cmpi .ne v1086 c0_i32_750
  v1087

def k0_off370 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond274 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_751 : BitVec 32 := 1#32
  let v1088 : BitVec 1 := Scalar.cmpi .ne v2 c1_i32_751
  let v1089 : BitVec 32 := Scalar.extui v1088
  let c0_i32_752 : BitVec 32 := 0#32
  let v1090 : BitVec 1 := Scalar.cmpi .ne v1089 c0_i32_752
  v1090

def k0_off371 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond275 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_753 : BitVec 32 := 2#32
  let v1091 : BitVec 1 := Scalar.cmpi .ne v2 c2_i32_753
  let v1092 : BitVec 32 := Scalar.extui v1091
  let c0_i32_754 : BitVec 32 := 0#32
  let v1093 : BitVec 1 := Scalar.cmpi .ne v1092 c0_i32_754
  v1093

def k0_off372 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond276 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_755 : BitVec 32 := 3#32
  let v1094 : BitVec 1 := Scalar.cmpi .ne v2 c3_i32_755
  let v1095 : BitVec 32 := Scalar.extui v1094
  let c0_i32_756 : BitVec 32 := 0#32
  let v1096 : BitVec 1 := Scalar.cmpi .ne v1095 c0_i32_756
  v1096

def k0_off373 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond277 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_757 : BitVec 32 := 4#32
  let v1097 : BitVec 1 := Scalar.cmpi .ne v2 c4_i32_757
  let v1098 : BitVec 32 := Scalar.extui v1097
  let c0_i32_758 : BitVec 32 := 0#32
  let v1099 : BitVec 1 := Scalar.cmpi .ne v1098 c0_i32_758
  v1099

def k0_off374 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond278 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_759 : BitVec 32 := 5#32
  let v1100 : BitVec 1 := Scalar.cmpi .ne v2 c5_i32_759
  let v1101 : BitVec 32 := Scalar.extui v1100
  let c0_i32_760 : BitVec 32 := 0#32
  let v1102 : BitVec 1 := Scalar.cmpi .ne v1101 c0_i32_760
  v1102

def k0_off375 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond279 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_761 : BitVec 32 := 6#32
  let v1103 : BitVec 1 := Scalar.cmpi .ne v2 c6_i32_761
  let v1104 : BitVec 32 := Scalar.extui v1103
  let c0_i32_762 : BitVec 32 := 0#32
  let v1105 : BitVec 1 := Scalar.cmpi .ne v1104 c0_i32_762
  v1105

def k0_off376 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond280 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_763 : BitVec 32 := 7#32
  let v1106 : BitVec 1 := Scalar.cmpi .ne v2 c7_i32_763
  let v1107 : BitVec 32 := Scalar.extui v1106
  let c0_i32_764 : BitVec 32 := 0#32
  let v1108 : BitVec 1 := Scalar.cmpi .ne v1107 c0_i32_764
  v1108

def k0_off377 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond281 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_765 : BitVec 32 := 8#32
  let v1109 : BitVec 1 := Scalar.cmpi .ne v2 c8_i32_765
  let v1110 : BitVec 32 := Scalar.extui v1109
  let c0_i32_766 : BitVec 32 := 0#32
  let v1111 : BitVec 1 := Scalar.cmpi .ne v1110 c0_i32_766
  v1111

def k0_off378 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond282 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_767 : BitVec 32 := 9#32
  let v1112 : BitVec 1 := Scalar.cmpi .ne v2 c9_i32_767
  let v1113 : BitVec 32 := Scalar.extui v1112
  let c0_i32_768 : BitVec 32 := 0#32
  let v1114 : BitVec 1 := Scalar.cmpi .ne v1113 c0_i32_768
  v1114

def k0_off379 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond283 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_769 : BitVec 32 := 10#32
  let v1115 : BitVec 1 := Scalar.cmpi .ne v2 c10_i32_769
  let v1116 : BitVec 32 := Scalar.extui v1115
  let c0_i32_770 : BitVec 32 := 0#32
  let v1117 : BitVec 1 := Scalar.cmpi .ne v1116 c0_i32_770
  v1117

def k0_off380 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond284 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_771 : BitVec 32 := 11#32
  let v1118 : BitVec 1 := Scalar.cmpi .ne v2 c11_i32_771
  let v1119 : BitVec 32 := Scalar.extui v1118
  let c0_i32_772 : BitVec 32 := 0#32
  let v1120 : BitVec 1 := Scalar.cmpi .ne v1119 c0_i32_772
  v1120

def k0_off381 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond285 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_773 : BitVec 32 := 12#32
  let v1121 : BitVec 1 := Scalar.cmpi .ne v2 c12_i32_773
  let v1122 : BitVec 32 := Scalar.extui v1121
  let c0_i32_774 : BitVec 32 := 0#32
  let v1123 : BitVec 1 := Scalar.cmpi .ne v1122 c0_i32_774
  v1123

def k0_off382 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond286 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_775 : BitVec 32 := 13#32
  let v1124 : BitVec 1 := Scalar.cmpi .ne v2 c13_i32_775
  let v1125 : BitVec 32 := Scalar.extui v1124
  let c0_i32_776 : BitVec 32 := 0#32
  let v1126 : BitVec 1 := Scalar.cmpi .ne v1125 c0_i32_776
  v1126

def k0_off383 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond287 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_777 : BitVec 32 := 14#32
  let v1127 : BitVec 1 := Scalar.cmpi .ne v2 c14_i32_777
  let v1128 : BitVec 32 := Scalar.extui v1127
  let c0_i32_778 : BitVec 32 := 0#32
  let v1129 : BitVec 1 := Scalar.cmpi .ne v1128 c0_i32_778
  v1129

def k0_off384 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond288 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_779 : BitVec 32 := 15#32
  let v1130 : BitVec 1 := Scalar.cmpi .ne v2 c15_i32_779
  let v1131 : BitVec 32 := Scalar.extui v1130
  let c0_i32_780 : BitVec 32 := 0#32
  let v1132 : BitVec 1 := Scalar.cmpi .ne v1131 c0_i32_780
  v1132

def k0_off385 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond289 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_785 : BitVec 32 := 0#32
  let v1140 : BitVec 1 := Scalar.cmpi .ne v2 c0_i32_785
  let v1141 : BitVec 32 := Scalar.extui v1140
  let c0_i32_786 : BitVec 32 := 0#32
  let v1142 : BitVec 1 := Scalar.cmpi .ne v1141 c0_i32_786
  v1142

def k0_off386 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off387 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev98 : Nat :=
  let c0_i32_890 : BitVec 32 := 0#32
  let c0_i32_888 : BitVec 32 := 0#32
  let c1_i32_889 : BitVec 32 := 1#32
  let v1289 : BitVec 32 := Scalar.muli c0_i32_888 c1_i32_889
  let v1290 : BitVec 32 := Scalar.addi c0_i32_890 v1289
  v1290.toNat
def k0_cond290 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_787 : BitVec 32 := 1#32
  let v1143 : BitVec 1 := Scalar.cmpi .ne v2 c1_i32_787
  let v1144 : BitVec 32 := Scalar.extui v1143
  let c0_i32_788 : BitVec 32 := 0#32
  let v1145 : BitVec 1 := Scalar.cmpi .ne v1144 c0_i32_788
  v1145

def k0_off388 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off389 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev99 : Nat :=
  let c0_i32_890 : BitVec 32 := 0#32
  let c1_i32_888 : BitVec 32 := 1#32
  let c1_i32_889 : BitVec 32 := 1#32
  let v1289 : BitVec 32 := Scalar.muli c1_i32_888 c1_i32_889
  let v1290 : BitVec 32 := Scalar.addi c0_i32_890 v1289
  v1290.toNat
def k0_cond291 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_789 : BitVec 32 := 2#32
  let v1146 : BitVec 1 := Scalar.cmpi .ne v2 c2_i32_789
  let v1147 : BitVec 32 := Scalar.extui v1146
  let c0_i32_790 : BitVec 32 := 0#32
  let v1148 : BitVec 1 := Scalar.cmpi .ne v1147 c0_i32_790
  v1148

def k0_off390 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off391 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev100 : Nat :=
  let c0_i32_890 : BitVec 32 := 0#32
  let c2_i32_888 : BitVec 32 := 2#32
  let c1_i32_889 : BitVec 32 := 1#32
  let v1289 : BitVec 32 := Scalar.muli c2_i32_888 c1_i32_889
  let v1290 : BitVec 32 := Scalar.addi c0_i32_890 v1289
  v1290.toNat
def k0_cond292 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_791 : BitVec 32 := 3#32
  let v1149 : BitVec 1 := Scalar.cmpi .ne v2 c3_i32_791
  let v1150 : BitVec 32 := Scalar.extui v1149
  let c0_i32_792 : BitVec 32 := 0#32
  let v1151 : BitVec 1 := Scalar.cmpi .ne v1150 c0_i32_792
  v1151

def k0_off392 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off393 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev101 : Nat :=
  let c0_i32_890 : BitVec 32 := 0#32
  let c3_i32_888 : BitVec 32 := 3#32
  let c1_i32_889 : BitVec 32 := 1#32
  let v1289 : BitVec 32 := Scalar.muli c3_i32_888 c1_i32_889
  let v1290 : BitVec 32 := Scalar.addi c0_i32_890 v1289
  v1290.toNat
def k0_cond293 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_793 : BitVec 32 := 4#32
  let v1152 : BitVec 1 := Scalar.cmpi .ne v2 c4_i32_793
  let v1153 : BitVec 32 := Scalar.extui v1152
  let c0_i32_794 : BitVec 32 := 0#32
  let v1154 : BitVec 1 := Scalar.cmpi .ne v1153 c0_i32_794
  v1154

def k0_off394 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off395 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev102 : Nat :=
  let c0_i32_890 : BitVec 32 := 0#32
  let c4_i32_888 : BitVec 32 := 4#32
  let c1_i32_889 : BitVec 32 := 1#32
  let v1289 : BitVec 32 := Scalar.muli c4_i32_888 c1_i32_889
  let v1290 : BitVec 32 := Scalar.addi c0_i32_890 v1289
  v1290.toNat
def k0_cond294 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_795 : BitVec 32 := 5#32
  let v1155 : BitVec 1 := Scalar.cmpi .ne v2 c5_i32_795
  let v1156 : BitVec 32 := Scalar.extui v1155
  let c0_i32_796 : BitVec 32 := 0#32
  let v1157 : BitVec 1 := Scalar.cmpi .ne v1156 c0_i32_796
  v1157

def k0_off396 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off397 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev103 : Nat :=
  let c0_i32_890 : BitVec 32 := 0#32
  let c5_i32_888 : BitVec 32 := 5#32
  let c1_i32_889 : BitVec 32 := 1#32
  let v1289 : BitVec 32 := Scalar.muli c5_i32_888 c1_i32_889
  let v1290 : BitVec 32 := Scalar.addi c0_i32_890 v1289
  v1290.toNat
def k0_cond295 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_797 : BitVec 32 := 6#32
  let v1158 : BitVec 1 := Scalar.cmpi .ne v2 c6_i32_797
  let v1159 : BitVec 32 := Scalar.extui v1158
  let c0_i32_798 : BitVec 32 := 0#32
  let v1160 : BitVec 1 := Scalar.cmpi .ne v1159 c0_i32_798
  v1160

def k0_off398 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off399 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev104 : Nat :=
  let c0_i32_890 : BitVec 32 := 0#32
  let c6_i32_888 : BitVec 32 := 6#32
  let c1_i32_889 : BitVec 32 := 1#32
  let v1289 : BitVec 32 := Scalar.muli c6_i32_888 c1_i32_889
  let v1290 : BitVec 32 := Scalar.addi c0_i32_890 v1289
  v1290.toNat
def k0_cond296 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_799 : BitVec 32 := 7#32
  let v1161 : BitVec 1 := Scalar.cmpi .ne v2 c7_i32_799
  let v1162 : BitVec 32 := Scalar.extui v1161
  let c0_i32_800 : BitVec 32 := 0#32
  let v1163 : BitVec 1 := Scalar.cmpi .ne v1162 c0_i32_800
  v1163

def k0_off400 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off401 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev105 : Nat :=
  let c0_i32_890 : BitVec 32 := 0#32
  let c7_i32_888 : BitVec 32 := 7#32
  let c1_i32_889 : BitVec 32 := 1#32
  let v1289 : BitVec 32 := Scalar.muli c7_i32_888 c1_i32_889
  let v1290 : BitVec 32 := Scalar.addi c0_i32_890 v1289
  v1290.toNat
def k0_cond297 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_801 : BitVec 32 := 8#32
  let v1164 : BitVec 1 := Scalar.cmpi .ne v2 c8_i32_801
  let v1165 : BitVec 32 := Scalar.extui v1164
  let c0_i32_802 : BitVec 32 := 0#32
  let v1166 : BitVec 1 := Scalar.cmpi .ne v1165 c0_i32_802
  v1166

def k0_off402 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off403 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev106 : Nat :=
  let c0_i32_890 : BitVec 32 := 0#32
  let c8_i32_888 : BitVec 32 := 8#32
  let c1_i32_889 : BitVec 32 := 1#32
  let v1289 : BitVec 32 := Scalar.muli c8_i32_888 c1_i32_889
  let v1290 : BitVec 32 := Scalar.addi c0_i32_890 v1289
  v1290.toNat
def k0_cond298 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_803 : BitVec 32 := 9#32
  let v1167 : BitVec 1 := Scalar.cmpi .ne v2 c9_i32_803
  let v1168 : BitVec 32 := Scalar.extui v1167
  let c0_i32_804 : BitVec 32 := 0#32
  let v1169 : BitVec 1 := Scalar.cmpi .ne v1168 c0_i32_804
  v1169

def k0_off404 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off405 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev107 : Nat :=
  let c0_i32_890 : BitVec 32 := 0#32
  let c9_i32_888 : BitVec 32 := 9#32
  let c1_i32_889 : BitVec 32 := 1#32
  let v1289 : BitVec 32 := Scalar.muli c9_i32_888 c1_i32_889
  let v1290 : BitVec 32 := Scalar.addi c0_i32_890 v1289
  v1290.toNat
def k0_cond299 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_805 : BitVec 32 := 10#32
  let v1170 : BitVec 1 := Scalar.cmpi .ne v2 c10_i32_805
  let v1171 : BitVec 32 := Scalar.extui v1170
  let c0_i32_806 : BitVec 32 := 0#32
  let v1172 : BitVec 1 := Scalar.cmpi .ne v1171 c0_i32_806
  v1172

def k0_off406 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off407 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev108 : Nat :=
  let c0_i32_890 : BitVec 32 := 0#32
  let c10_i32_888 : BitVec 32 := 10#32
  let c1_i32_889 : BitVec 32 := 1#32
  let v1289 : BitVec 32 := Scalar.muli c10_i32_888 c1_i32_889
  let v1290 : BitVec 32 := Scalar.addi c0_i32_890 v1289
  v1290.toNat
def k0_cond300 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_807 : BitVec 32 := 11#32
  let v1173 : BitVec 1 := Scalar.cmpi .ne v2 c11_i32_807
  let v1174 : BitVec 32 := Scalar.extui v1173
  let c0_i32_808 : BitVec 32 := 0#32
  let v1175 : BitVec 1 := Scalar.cmpi .ne v1174 c0_i32_808
  v1175

def k0_off408 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off409 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev109 : Nat :=
  let c0_i32_890 : BitVec 32 := 0#32
  let c11_i32_888 : BitVec 32 := 11#32
  let c1_i32_889 : BitVec 32 := 1#32
  let v1289 : BitVec 32 := Scalar.muli c11_i32_888 c1_i32_889
  let v1290 : BitVec 32 := Scalar.addi c0_i32_890 v1289
  v1290.toNat
def k0_cond301 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_809 : BitVec 32 := 12#32
  let v1176 : BitVec 1 := Scalar.cmpi .ne v2 c12_i32_809
  let v1177 : BitVec 32 := Scalar.extui v1176
  let c0_i32_810 : BitVec 32 := 0#32
  let v1178 : BitVec 1 := Scalar.cmpi .ne v1177 c0_i32_810
  v1178

def k0_off410 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off411 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev110 : Nat :=
  let c0_i32_890 : BitVec 32 := 0#32
  let c12_i32_888 : BitVec 32 := 12#32
  let c1_i32_889 : BitVec 32 := 1#32
  let v1289 : BitVec 32 := Scalar.muli c12_i32_888 c1_i32_889
  let v1290 : BitVec 32 := Scalar.addi c0_i32_890 v1289
  v1290.toNat
def k0_cond302 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_811 : BitVec 32 := 13#32
  let v1179 : BitVec 1 := Scalar.cmpi .ne v2 c13_i32_811
  let v1180 : BitVec 32 := Scalar.extui v1179
  let c0_i32_812 : BitVec 32 := 0#32
  let v1181 : BitVec 1 := Scalar.cmpi .ne v1180 c0_i32_812
  v1181

def k0_off412 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off413 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev111 : Nat :=
  let c0_i32_890 : BitVec 32 := 0#32
  let c13_i32_888 : BitVec 32 := 13#32
  let c1_i32_889 : BitVec 32 := 1#32
  let v1289 : BitVec 32 := Scalar.muli c13_i32_888 c1_i32_889
  let v1290 : BitVec 32 := Scalar.addi c0_i32_890 v1289
  v1290.toNat
def k0_cond303 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_813 : BitVec 32 := 14#32
  let v1182 : BitVec 1 := Scalar.cmpi .ne v2 c14_i32_813
  let v1183 : BitVec 32 := Scalar.extui v1182
  let c0_i32_814 : BitVec 32 := 0#32
  let v1184 : BitVec 1 := Scalar.cmpi .ne v1183 c0_i32_814
  v1184

def k0_off414 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off415 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev112 : Nat :=
  let c0_i32_890 : BitVec 32 := 0#32
  let c14_i32_888 : BitVec 32 := 14#32
  let c1_i32_889 : BitVec 32 := 1#32
  let v1289 : BitVec 32 := Scalar.muli c14_i32_888 c1_i32_889
  let v1290 : BitVec 32 := Scalar.addi c0_i32_890 v1289
  v1290.toNat
def k0_cond304 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_815 : BitVec 32 := 15#32
  let v1185 : BitVec 1 := Scalar.cmpi .ne v2 c15_i32_815
  let v1186 : BitVec 32 := Scalar.extui v1185
  let c0_i32_816 : BitVec 32 := 0#32
  let v1187 : BitVec 1 := Scalar.cmpi .ne v1186 c0_i32_816
  v1187

def k0_off416 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off417 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_886 : BitVec 32 := 64#32
  let v1288 : BitVec 32 := Scalar.muli v2 c64_i32_886
  let c0_i32_891 : BitVec 32 := 0#32
  ![v1288.toNat, 0]
def k0_dev113 : Nat :=
  let c0_i32_890 : BitVec 32 := 0#32
  let c15_i32_888 : BitVec 32 := 15#32
  let c1_i32_889 : BitVec 32 := 1#32
  let v1289 : BitVec 32 := Scalar.muli c15_i32_888 c1_i32_889
  let v1290 : BitVec 32 := Scalar.addi c0_i32_890 v1289
  v1290.toNat
def k0_cond305 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_817 : BitVec 32 := 0#32
  let v1188 : BitVec 1 := Scalar.cmpi .ne v2 c0_i32_817
  let v1189 : BitVec 32 := Scalar.extui v1188
  let c0_i32_818 : BitVec 32 := 0#32
  let v1190 : BitVec 1 := Scalar.cmpi .ne v1189 c0_i32_818
  v1190

def k0_off418 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond306 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_819 : BitVec 32 := 1#32
  let v1191 : BitVec 1 := Scalar.cmpi .ne v2 c1_i32_819
  let v1192 : BitVec 32 := Scalar.extui v1191
  let c0_i32_820 : BitVec 32 := 0#32
  let v1193 : BitVec 1 := Scalar.cmpi .ne v1192 c0_i32_820
  v1193

def k0_off419 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_893 : BitVec 32 := 0#32
  ![v1287.toNat, 0]
def k0_cond307 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_821 : BitVec 32 := 2#32
  let v1194 : BitVec 1 := Scalar.cmpi .ne v2 c2_i32_821
  let v1195 : BitVec 32 := Scalar.extui v1194
  let c0_i32_822 : BitVec 32 := 0#32
  let v1196 : BitVec 1 := Scalar.cmpi .ne v1195 c0_i32_822
  v1196

def k0_off420 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond308 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_823 : BitVec 32 := 3#32
  let v1197 : BitVec 1 := Scalar.cmpi .ne v2 c3_i32_823
  let v1198 : BitVec 32 := Scalar.extui v1197
  let c0_i32_824 : BitVec 32 := 0#32
  let v1199 : BitVec 1 := Scalar.cmpi .ne v1198 c0_i32_824
  v1199

def k0_off421 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond309 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_825 : BitVec 32 := 4#32
  let v1200 : BitVec 1 := Scalar.cmpi .ne v2 c4_i32_825
  let v1201 : BitVec 32 := Scalar.extui v1200
  let c0_i32_826 : BitVec 32 := 0#32
  let v1202 : BitVec 1 := Scalar.cmpi .ne v1201 c0_i32_826
  v1202

def k0_off422 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond310 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_827 : BitVec 32 := 5#32
  let v1203 : BitVec 1 := Scalar.cmpi .ne v2 c5_i32_827
  let v1204 : BitVec 32 := Scalar.extui v1203
  let c0_i32_828 : BitVec 32 := 0#32
  let v1205 : BitVec 1 := Scalar.cmpi .ne v1204 c0_i32_828
  v1205

def k0_off423 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond311 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_829 : BitVec 32 := 6#32
  let v1206 : BitVec 1 := Scalar.cmpi .ne v2 c6_i32_829
  let v1207 : BitVec 32 := Scalar.extui v1206
  let c0_i32_830 : BitVec 32 := 0#32
  let v1208 : BitVec 1 := Scalar.cmpi .ne v1207 c0_i32_830
  v1208

def k0_off424 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond312 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_831 : BitVec 32 := 7#32
  let v1209 : BitVec 1 := Scalar.cmpi .ne v2 c7_i32_831
  let v1210 : BitVec 32 := Scalar.extui v1209
  let c0_i32_832 : BitVec 32 := 0#32
  let v1211 : BitVec 1 := Scalar.cmpi .ne v1210 c0_i32_832
  v1211

def k0_off425 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond313 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_833 : BitVec 32 := 8#32
  let v1212 : BitVec 1 := Scalar.cmpi .ne v2 c8_i32_833
  let v1213 : BitVec 32 := Scalar.extui v1212
  let c0_i32_834 : BitVec 32 := 0#32
  let v1214 : BitVec 1 := Scalar.cmpi .ne v1213 c0_i32_834
  v1214

def k0_off426 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond314 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_835 : BitVec 32 := 9#32
  let v1215 : BitVec 1 := Scalar.cmpi .ne v2 c9_i32_835
  let v1216 : BitVec 32 := Scalar.extui v1215
  let c0_i32_836 : BitVec 32 := 0#32
  let v1217 : BitVec 1 := Scalar.cmpi .ne v1216 c0_i32_836
  v1217

def k0_off427 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond315 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_837 : BitVec 32 := 10#32
  let v1218 : BitVec 1 := Scalar.cmpi .ne v2 c10_i32_837
  let v1219 : BitVec 32 := Scalar.extui v1218
  let c0_i32_838 : BitVec 32 := 0#32
  let v1220 : BitVec 1 := Scalar.cmpi .ne v1219 c0_i32_838
  v1220

def k0_off428 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond316 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_839 : BitVec 32 := 11#32
  let v1221 : BitVec 1 := Scalar.cmpi .ne v2 c11_i32_839
  let v1222 : BitVec 32 := Scalar.extui v1221
  let c0_i32_840 : BitVec 32 := 0#32
  let v1223 : BitVec 1 := Scalar.cmpi .ne v1222 c0_i32_840
  v1223

def k0_off429 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond317 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_841 : BitVec 32 := 12#32
  let v1224 : BitVec 1 := Scalar.cmpi .ne v2 c12_i32_841
  let v1225 : BitVec 32 := Scalar.extui v1224
  let c0_i32_842 : BitVec 32 := 0#32
  let v1226 : BitVec 1 := Scalar.cmpi .ne v1225 c0_i32_842
  v1226

def k0_off430 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond318 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_843 : BitVec 32 := 13#32
  let v1227 : BitVec 1 := Scalar.cmpi .ne v2 c13_i32_843
  let v1228 : BitVec 32 := Scalar.extui v1227
  let c0_i32_844 : BitVec 32 := 0#32
  let v1229 : BitVec 1 := Scalar.cmpi .ne v1228 c0_i32_844
  v1229

def k0_off431 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond319 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_845 : BitVec 32 := 14#32
  let v1230 : BitVec 1 := Scalar.cmpi .ne v2 c14_i32_845
  let v1231 : BitVec 32 := Scalar.extui v1230
  let c0_i32_846 : BitVec 32 := 0#32
  let v1232 : BitVec 1 := Scalar.cmpi .ne v1231 c0_i32_846
  v1232

def k0_off432 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond320 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_847 : BitVec 32 := 15#32
  let v1233 : BitVec 1 := Scalar.cmpi .ne v2 c15_i32_847
  let v1234 : BitVec 32 := Scalar.extui v1233
  let c0_i32_848 : BitVec 32 := 0#32
  let v1235 : BitVec 1 := Scalar.cmpi .ne v1234 c0_i32_848
  v1235

def k0_off433 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_892 : BitVec 32 := 0#32
  ![v1287.toNat, 0]
def k0_cond321 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_849 : BitVec 32 := 0#32
  let v1236 : BitVec 1 := Scalar.cmpi .ne v2 c0_i32_849
  let v1237 : BitVec 32 := Scalar.extui v1236
  let c0_i32_850 : BitVec 32 := 0#32
  let v1238 : BitVec 1 := Scalar.cmpi .ne v1237 c0_i32_850
  v1238

def k0_off434 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond322 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_851 : BitVec 32 := 1#32
  let v1239 : BitVec 1 := Scalar.cmpi .ne v2 c1_i32_851
  let v1240 : BitVec 32 := Scalar.extui v1239
  let c0_i32_852 : BitVec 32 := 0#32
  let v1241 : BitVec 1 := Scalar.cmpi .ne v1240 c0_i32_852
  v1241

def k0_off435 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond323 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_853 : BitVec 32 := 2#32
  let v1242 : BitVec 1 := Scalar.cmpi .ne v2 c2_i32_853
  let v1243 : BitVec 32 := Scalar.extui v1242
  let c0_i32_854 : BitVec 32 := 0#32
  let v1244 : BitVec 1 := Scalar.cmpi .ne v1243 c0_i32_854
  v1244

def k0_off436 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond324 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_855 : BitVec 32 := 3#32
  let v1245 : BitVec 1 := Scalar.cmpi .ne v2 c3_i32_855
  let v1246 : BitVec 32 := Scalar.extui v1245
  let c0_i32_856 : BitVec 32 := 0#32
  let v1247 : BitVec 1 := Scalar.cmpi .ne v1246 c0_i32_856
  v1247

def k0_off437 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond325 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_857 : BitVec 32 := 4#32
  let v1248 : BitVec 1 := Scalar.cmpi .ne v2 c4_i32_857
  let v1249 : BitVec 32 := Scalar.extui v1248
  let c0_i32_858 : BitVec 32 := 0#32
  let v1250 : BitVec 1 := Scalar.cmpi .ne v1249 c0_i32_858
  v1250

def k0_off438 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond326 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_859 : BitVec 32 := 5#32
  let v1251 : BitVec 1 := Scalar.cmpi .ne v2 c5_i32_859
  let v1252 : BitVec 32 := Scalar.extui v1251
  let c0_i32_860 : BitVec 32 := 0#32
  let v1253 : BitVec 1 := Scalar.cmpi .ne v1252 c0_i32_860
  v1253

def k0_off439 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond327 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_861 : BitVec 32 := 6#32
  let v1254 : BitVec 1 := Scalar.cmpi .ne v2 c6_i32_861
  let v1255 : BitVec 32 := Scalar.extui v1254
  let c0_i32_862 : BitVec 32 := 0#32
  let v1256 : BitVec 1 := Scalar.cmpi .ne v1255 c0_i32_862
  v1256

def k0_off440 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond328 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_863 : BitVec 32 := 7#32
  let v1257 : BitVec 1 := Scalar.cmpi .ne v2 c7_i32_863
  let v1258 : BitVec 32 := Scalar.extui v1257
  let c0_i32_864 : BitVec 32 := 0#32
  let v1259 : BitVec 1 := Scalar.cmpi .ne v1258 c0_i32_864
  v1259

def k0_off441 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond329 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_865 : BitVec 32 := 8#32
  let v1260 : BitVec 1 := Scalar.cmpi .ne v2 c8_i32_865
  let v1261 : BitVec 32 := Scalar.extui v1260
  let c0_i32_866 : BitVec 32 := 0#32
  let v1262 : BitVec 1 := Scalar.cmpi .ne v1261 c0_i32_866
  v1262

def k0_off442 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond330 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_867 : BitVec 32 := 9#32
  let v1263 : BitVec 1 := Scalar.cmpi .ne v2 c9_i32_867
  let v1264 : BitVec 32 := Scalar.extui v1263
  let c0_i32_868 : BitVec 32 := 0#32
  let v1265 : BitVec 1 := Scalar.cmpi .ne v1264 c0_i32_868
  v1265

def k0_off443 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond331 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_869 : BitVec 32 := 10#32
  let v1266 : BitVec 1 := Scalar.cmpi .ne v2 c10_i32_869
  let v1267 : BitVec 32 := Scalar.extui v1266
  let c0_i32_870 : BitVec 32 := 0#32
  let v1268 : BitVec 1 := Scalar.cmpi .ne v1267 c0_i32_870
  v1268

def k0_off444 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond332 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_871 : BitVec 32 := 11#32
  let v1269 : BitVec 1 := Scalar.cmpi .ne v2 c11_i32_871
  let v1270 : BitVec 32 := Scalar.extui v1269
  let c0_i32_872 : BitVec 32 := 0#32
  let v1271 : BitVec 1 := Scalar.cmpi .ne v1270 c0_i32_872
  v1271

def k0_off445 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond333 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_873 : BitVec 32 := 12#32
  let v1272 : BitVec 1 := Scalar.cmpi .ne v2 c12_i32_873
  let v1273 : BitVec 32 := Scalar.extui v1272
  let c0_i32_874 : BitVec 32 := 0#32
  let v1274 : BitVec 1 := Scalar.cmpi .ne v1273 c0_i32_874
  v1274

def k0_off446 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond334 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_875 : BitVec 32 := 13#32
  let v1275 : BitVec 1 := Scalar.cmpi .ne v2 c13_i32_875
  let v1276 : BitVec 32 := Scalar.extui v1275
  let c0_i32_876 : BitVec 32 := 0#32
  let v1277 : BitVec 1 := Scalar.cmpi .ne v1276 c0_i32_876
  v1277

def k0_off447 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond335 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_877 : BitVec 32 := 14#32
  let v1278 : BitVec 1 := Scalar.cmpi .ne v2 c14_i32_877
  let v1279 : BitVec 32 := Scalar.extui v1278
  let c0_i32_878 : BitVec 32 := 0#32
  let v1280 : BitVec 1 := Scalar.cmpi .ne v1279 c0_i32_878
  v1280

def k0_off448 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
def k0_cond336 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_879 : BitVec 32 := 15#32
  let v1281 : BitVec 1 := Scalar.cmpi .ne v2 c15_i32_879
  let v1282 : BitVec 32 := Scalar.extui v1281
  let c0_i32_880 : BitVec 32 := 0#32
  let v1283 : BitVec 1 := Scalar.cmpi .ne v1282 c0_i32_880
  v1283

def k0_off449 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_885 : BitVec 32 := 64#32
  let v1287 : BitVec 32 := Scalar.muli v2 c64_i32_885
  let c0_i32_890 : BitVec 32 := 0#32
  ![v1287.toNat, 0]
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S1024x1024, .f32⟩
  | .hbm, ⟨8, _⟩ => ⟨S1024x32768, .f32⟩
  | .hbm, ⟨9, _⟩ => ⟨S_, .f32⟩
  | .hbm, ⟨10, _⟩ => ⟨S1024x32768, .f32⟩
  | .hbm, ⟨11, _⟩ => ⟨S1024x32768, .f32⟩
  | .hbm, ⟨12, _⟩ => ⟨S1024x1024, .f32⟩
  | .hbm, ⟨13, _⟩ => ⟨S1024x32768, .f32⟩
  | .hbm, ⟨14, _⟩ => ⟨S_, .f32⟩
  | .hbm, ⟨15, _⟩ => ⟨S1024x32768, .f32⟩
  | .hbm, ⟨16, _⟩ => ⟨S1024x32768, .f32⟩
  | .hbm, ⟨17, _⟩ => ⟨S1024x1024, .f32⟩
  | .hbm, ⟨18, _⟩ => ⟨S1024x32768, .f32⟩
  | .hbm, ⟨19, _⟩ => ⟨S_, .f32⟩
  | .hbm, ⟨20, _⟩ => ⟨S1024x32768, .f32⟩
  | .hbm, ⟨21, _⟩ => ⟨S1024x32768, .f32⟩
  | .hbm, ⟨22, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Proof.KernelIdeal.Prog.lean ====
/- The kernel body as a list of named steps. Each step is the printed text with the peer number (or the row group,
   the weight slot) made a variable; the printed parts are shown equal to runs of such steps by unfolding. -/
module

public import proofs.«01_k».proof.Proof.Gen.KernelIdeal
public import proofs.«01_k».proof.Proof.Gen.KernelIdeal.Skeleton

@[expose] public section

set_option maxRecDepth 65536

noncomputable section

namespace Cert.Proof.KernelIdeal

open Cert.KernelIdeal Cert.KernelIdeal.Gen
open Idealize.ShloMosaic Idealize.SL.Sem

variable {F : FTy → Type} [FloatOps F]

/-! ## The buffers the body is called with -/

/-- A function over the kernel's buffers, at the buffers the program calls the body with. -/
abbrev onW {α : Type 1} (f : (arg0 : Memref sig .tc .vmem S64x1024 .bf16) → arg0.IsWhole → (arg1 : Memref sig .tc .hbm S1024x2048 .f32) → arg1.IsWhole
    → (arg2 : Memref sig .tc .hbm S2048x1024 .f32) → arg2.IsWhole → (arg3 : Memref sig .tc .hbm S1024x2048 .f32) → arg3.IsWhole
    → (arg4 : Memref sig .tc .hbm S2048x1024 .f32) → arg4.IsWhole → (arg5 : Memref sig .tc .hbm S1024x2048 .f32) → arg5.IsWhole
    → (arg6 : Memref sig .tc .hbm S2048x1024 .f32) → arg6.IsWhole → (arg7 : Memref sig .tc .vmem S1024x1024 .f32) → arg7.IsWhole
    → (arg8 : Memref sig .tc .vmem S1024x1024 .bf16) → arg8.IsWhole → (arg9 : Memref sig .tc .vmem S1024x1024 .bf16) → arg9.IsWhole
    → (arg10 : Memref sig .tc .vmem S16x64x1024 .bf16) → arg10.IsWhole → (arg11 : Memref sig .tc .vmem S64x1024 .f32) → arg11.IsWhole
    → (arg12 : Memref sig .tc .vmem S1024x2048 .f32) → arg12.IsWhole → (arg13 : Memref sig .tc .vmem S2048x1024 .f32) → arg13.IsWhole
    → (arg14 : Memref sig .tc .vmem S2x1024x2048 .bf16) → arg14.IsWhole → (arg15 : Memref sig .tc .vmem S2x2048x1024 .bf16) → arg15.IsWhole
    → DmaSems sig S16 → DmaSems sig S16 → DmaSems sig S16 → DmaSems sig S16 → DmaSems sig S2 → α) : α :=
  f (Memref.whole cc0_stg0_0) (Memref.isWhole_whole _) (Memref.whole main_arg1) (Memref.isWhole_whole _) (Memref.whole main_arg4) (Memref.isWhole_whole _)
    (Memref.whole main_arg2) (Memref.isWhole_whole _) (Memref.whole main_arg5) (Memref.isWhole_whole _) (Memref.whole main_arg3) (Memref.isWhole_whole _)
    (Memref.whole main_arg6) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    (Memref.whole cc0_scratch7) (Memref.isWhole_whole _) cc0_scratch8 cc0_scratch9 cc0_scratch10 cc0_scratch11 cc0_scratch12

abbrev xinM : Memref sig .tc .vmem S64x1024 .bf16 := Memref.whole cc0_stg0_0
abbrev outM : Memref sig .tc .vmem S1024x1024 .f32 := Memref.whole cc0_stg1_0
abbrev xM : Memref sig .tc .vmem S1024x1024 .bf16 := Memref.whole cc0_scratch0
abbrev pM : Memref sig .tc .vmem S1024x1024 .bf16 := Memref.whole cc0_scratch1
abbrev rM : Memref sig .tc .vmem S16x64x1024 .bf16 := Memref.whole cc0_scratch2
abbrev aM : Memref sig .tc .vmem S64x1024 .f32 := Memref.whole cc0_scratch3
abbrev siM : Memref sig .tc .vmem S1024x2048 .f32 := Memref.whole cc0_scratch4
abbrev soM : Memref sig .tc .vmem S2048x1024 .f32 := Memref.whole cc0_scratch5
abbrev biM : Memref sig .tc .vmem S2x1024x2048 .bf16 := Memref.whole cc0_scratch6
abbrev boM : Memref sig .tc .vmem S2x2048x1024 .bf16 := Memref.whole cc0_scratch7

/-- Layer `l`'s first weight matrix on the device. -/
def wiM : Fin 3 → Memref sig .tc .hbm S1024x2048 .f32
  | 0 => Memref.whole main_arg1 | 1 => Memref.whole main_arg2 | 2 => Memref.whole main_arg3
/-- Layer `l`'s second weight matrix on the device. -/
def woM : Fin 3 → Memref sig .tc .hbm S2048x1024 .f32
  | 0 => Memref.whole main_arg4 | 1 => Memref.whole main_arg5 | 2 => Memref.whole main_arg6

theorem wiM_whole : ∀ l, (wiM l).IsWhole
  | 0 => Memref.isWhole_whole _ | 1 => Memref.isWhole_whole _ | 2 => Memref.isWhole_whole _
theorem woM_whole : ∀ l, (woM l).IsWhole
  | 0 => Memref.isWhole_whole _ | 1 => Memref.isWhole_whole _ | 2 => Memref.isWhole_whole _

/-! ## Rectangles and semaphores, by peer, group and slot -/

theorem inb16 : ∀ j : Fin 16, ∀ a, (![j.val] : Fin 1 → ℕ) a + S1.size a ≤ S16.size a := by decide +kernel
theorem inb2 : ∀ i : Fin 2, ∀ a, (![i.val] : Fin 1 → ℕ) a + S1.size a ≤ S2.size a := by decide +kernel
theorem inbC : ∀ j : Fin 16, ∀ a, (![64 * j.val, 0] : Fin 2 → ℕ) a + S64x1024.size a ≤ S1024x1024.size a := by decide +kernel
theorem wordsC : ∀ j : Fin 16, (Rect.unit (s := S1024x1024) ![64 * j.val, 0] S64x1024.size (inbC j)).WholeWords (EltTy.packing .bf16) := by decide +kernel
theorem inbG : ∀ g : Fin 4, ∀ a, (![256 * g.val, 0] : Fin 2 → ℕ) a + S256x1024.size a ≤ S1024x1024.size a := by decide +kernel
theorem packedG : ∀ g : Fin 4, (Rect.unit (s := S1024x1024) ![256 * g.val, 0] S256x1024.size (inbG g)).PackedRows (EltTy.packing .bf16) := by decide +kernel
theorem inbS : ∀ j : Fin 16, ∀ a, (![j.val, 0, 0] : Fin 3 → ℕ) a + S1x64x1024.size a ≤ S16x64x1024.size a := by decide +kernel
theorem wordsS : ∀ j : Fin 16, (Rect.unit (s := S16x64x1024) ![j.val, 0, 0] S1x64x1024.size (inbS j)).WholeWords (EltTy.packing .bf16) := by decide +kernel
theorem inbI : ∀ i : Fin 2, ∀ a, (![i.val, 0, 0] : Fin 3 → ℕ) a + S1x1024x2048.size a ≤ S2x1024x2048.size a := by decide +kernel
theorem packedI : ∀ i : Fin 2, (Rect.unit (s := S2x1024x2048) ![i.val, 0, 0] S1x1024x2048.size (inbI i)).PackedRows (EltTy.packing .bf16) := by decide +kernel
theorem inbO : ∀ i : Fin 2, ∀ a, (![i.val, 0, 0] : Fin 3 → ℕ) a + S1x2048x1024.size a ≤ S2x2048x1024.size a := by decide +kernel
theorem packedO : ∀ i : Fin 2, (Rect.unit (s := S2x2048x1024) ![i.val, 0, 0] S1x2048x1024.size (inbO i)).PackedRows (EltTy.packing .bf16) := by decide +kernel
theorem off3_inb (d : Dev nD) : ∀ a, k0_off3 d a + S64x1024.size a ≤ S1024x1024.size a := by rw [k0_off3_eq]; exact inbC d
theorem off3_words : ∀ d : Dev nD, (Rect.unit (s := S1024x1024) (k0_off3 d) S64x1024.size (off3_inb d)).WholeWords (EltTy.packing .bf16) := by decide +kernel
theorem off2_inb (d : Dev nD) : ∀ a, k0_off2 d a + S1.size a ≤ S16.size a := by rw [k0_off2_eq]; exact inb16 d
theorem off39_inb (d : Dev nD) : ∀ a, k0_off39 d a + S1x64x1024.size a ≤ S16x64x1024.size a := by rw [k0_off39_eq]; exact inbS d
theorem off39_words : ∀ d : Dev nD, (Rect.unit (s := S16x64x1024) (k0_off39 d) S1x64x1024.size (off39_inb d)).WholeWords (EltTy.packing .bf16) := by decide +kernel

/-- The device is not peer `j`, as the kernel tests it. -/
def notPeer (d0 : Dev nD) (j : Fin 16) : BitVec 1 :=
  Scalar.cmpi .ne (Scalar.extui (Scalar.cmpi .ne (Scalar.remsi (Scalar.divsi (Dev.word d0) 1#32) 16#32) (BitVec.ofNat 32 j.val)) : BitVec 32) 0#32
theorem notPeer_iff : ∀ (d0 : Dev nD) (j : Fin 16), notPeer d0 j = 1#1 ↔ j ≠ d0 := by decide +kernel

/-- Semaphore `j` of an array of 16, and semaphore `i` of an array of 2. -/
abbrev sem16 (a : DmaSems sig S16) (j : Fin 16) : DmaSem sig := ((a.slice (Rect.unit (s := S16) ![j.val] S1.size (inb16 j))).squeeze S_ squeezes_S1_S_).sem
abbrev sem2 (a : DmaSems sig S2) (i : Fin 2) : DmaSem sig := ((a.slice (Rect.unit (s := S2) ![i.val] S1.size (inb2 i))).squeeze S_ squeezes_S1_S_).sem
/-- The device's own semaphore of an array of 16. -/
abbrev semOwn (a : DmaSems sig S16) (d0 : Dev nD) : DmaSem sig := ((a.slice (Rect.unit (s := S16) (k0_off2 d0) S1.size (off2_inb d0))).squeeze S_ squeezes_S1_S_).sem

/-- Rows `64 j …` of a 1024-row buffer. -/
abbrev chunk (m : Memref sig .tc .vmem S1024x1024 .bf16) (j : Fin 16) : Memref sig .tc .vmem S64x1024 .bf16 :=
  m.slice (Rect.unit (s := S1024x1024) ![64 * j.val, 0] S64x1024.size (inbC j)) (fun _ => rfl)
/-- The device's own rows, at the offset the kernel computes. -/
abbrev chunkOwn (m : Memref sig .tc .vmem S1024x1024 .bf16) (d0 : Dev nD) : Memref sig .tc .vmem S64x1024 .bf16 :=
  m.slice (Rect.unit (s := S1024x1024) (k0_off3 d0) S64x1024.size (off3_inb d0)) (fun _ => rfl)
/-- Slot `j` of the receive buffer. -/
abbrev slot (j : Fin 16) : Memref sig .tc .vmem S64x1024 .bf16 :=
  (rM.slice (Rect.unit (s := S16x64x1024) ![j.val, 0, 0] S1x64x1024.size (inbS j)) (fun _ => rfl)).squeeze S64x1024 squeezes_S1x64x1024_S64x1024
/-- The slot that carries the device's own number, at the offset the kernel computes. -/
abbrev slotOwn (d0 : Dev nD) : Memref sig .tc .vmem S64x1024 .bf16 :=
  (rM.slice (Rect.unit (s := S16x64x1024) (k0_off39 d0) S1x64x1024.size (off39_inb d0)) (fun _ => rfl)).squeeze S64x1024 squeezes_S1x64x1024_S64x1024

abbrev rG (g : Fin 4) : Rect S1024x1024 := Rect.unit (s := S1024x1024) ![256 * g.val, 0] S256x1024.size (inbG g)
abbrev rOwn (d0 : Dev nD) : Rect S1024x1024 := Rect.unit (s := S1024x1024) (k0_off1 d0) S64x1024.size (k0_off1_inb d0)
abbrev rI (i : Fin 2) : Rect S2x1024x2048 := Rect.unit (s := S2x1024x2048) ![i.val, 0, 0] S1x1024x2048.size (inbI i)
abbrev rO (i : Fin 2) : Rect S2x2048x1024 := Rect.unit (s := S2x2048x1024) ![i.val, 0, 0] S1x2048x1024.size (inbO i)
abbrev rS (j : Fin 16) : Rect S16x64x1024 := Rect.unit (s := S16x64x1024) ![j.val, 0, 0] S1x64x1024.size (inbS j)
abbrev rA : Rect S64x1024 := Rect.unit (s := S64x1024) ![0, 0] S64x1024.size inb_S64x1024_S64x1024_0_0
abbrev rXX : Rect S1024x1024 := Rect.unit (s := S1024x1024) ![0, 0] S1024x1024.size inb_S1024x1024_S1024x1024_0_0
abbrev rSi : Rect S1024x2048 := Rect.unit (s := S1024x2048) ![0, 0] S1024x2048.size inb_S1024x2048_S1024x2048_0_0
abbrev rSo : Rect S2048x1024 := Rect.unit (s := S2048x1024) ![0, 0] S2048x1024.size inb_S2048x1024_S2048x1024_0_0

/-! ## Steps -/

/-- The body's programs. -/
abbrev P (F : FTy → Type) [FloatOps F] (α : Type) := Prog (TpuEff nD τ sig (Elt F) Λ₀ .tc) α

inductive Op where
  | wstart (l : Fin 3) | wwait (l : Fin 3) | wput (i : Fin 2)
  | bar | xinit
  | agSend (j : Fin 16) | agWait (j : Fin 16) | agDone (j : Fin 16)
  | mm (i : Fin 2) (g : Fin 4)
  | rsSend (j : Fin 16) | accInit | accAdd (j : Fin 16) | rsDone (j : Fin 16)
  | xput | out

open Op

/-- The first half of a row group's product: through the first weight matrix. -/
def mmA (i : Fin 2) (g : Fin 4) : P F (FVec F S256x2048 .bf16) := do
  let v94 : Vec F S256x1024 .bf16 ← Prog.lift (.load xM (rG g).toLoadRect (View.loadsAt_vmem h_S256x1024))
  let v95 : Vec F S1x1024x2048 .bf16 ← Prog.lift (.load biM (rI i).toLoadRect (View.loadsAt_vmem h_S1x1024x2048))
  pure (k0_pay29 v94 v95)
/-- The second half. -/
def mmB (i : Fin 2) (g : Fin 4) (h : FVec F S256x2048 .bf16) : P F PUnit := do
  let v101 : Vec F S1x2048x1024 .bf16 ← Prog.lift (.load boM (rO i).toLoadRect (View.loadsAt_vmem h_S1x2048x1024))
  let _v105 : Vec F S256x1024 .bf16 ← Prog.lift (.load pM (rG g).toLoadRect (View.loadsAt_vmem h_S256x1024))
  Prog.lift (.store pM (rG g) (k0_pay30 h v101) Finset.univ (View.stores_vmem h_S256x1024 ((Memref.isWhole_whole _).storeExact_slice rfl _ (packedG g)) (fun _ => rfl)) (.inl rfl))
/-- The same, cut after the second product. -/
def mmC (i : Fin 2) (g : Fin 4) : P F (FVec F S256x1024 .bf16) := do
  let v94 : Vec F S256x1024 .bf16 ← Prog.lift (.load xM (rG g).toLoadRect (View.loadsAt_vmem h_S256x1024))
  let v95 : Vec F S1x1024x2048 .bf16 ← Prog.lift (.load biM (rI i).toLoadRect (View.loadsAt_vmem h_S1x1024x2048))
  let v101 : Vec F S1x2048x1024 .bf16 ← Prog.lift (.load boM (rO i).toLoadRect (View.loadsAt_vmem h_S1x2048x1024))
  pure (k0_pay31 v94 v95 v101)
def mmD (g : Fin 4) (v : FVec F S256x1024 .bf16) : P F PUnit := do
  let _v105 : Vec F S256x1024 .bf16 ← Prog.lift (.load pM (rG g).toLoadRect (View.loadsAt_vmem h_S256x1024))
  Prog.lift (.store pM (rG g) (k0_pay32 v) Finset.univ (View.stores_vmem h_S256x1024 ((Memref.isWhole_whole _).storeExact_slice rfl _ (packedG g)) (fun _ => rfl)) (.inl rfl))

/-- The new rows of the device, cast, and their store. -/
def xputA : P F (FVec F S64x1024 .bf16) := do
  let v403 : Vec F S64x1024 .f32 ← Prog.lift (.load aM rA.toLoadRect (View.loadsAt_vmem h_S64x1024))
  pure (k0_pay55 v403)
def xputB (d0 : Dev nD) (v : FVec F S64x1024 .bf16) : P F PUnit := do
  let _v407 : Vec F S64x1024 .bf16 ← Prog.lift (.load xM (rOwn d0).toLoadRect (View.loadsAt_vmem h_S64x1024))
  Prog.lift (.store xM (rOwn d0) (k0_pay56 v) Finset.univ (View.stores_vmem h_S64x1024 ((Memref.isWhole_whole _).storeExact_slice rfl _ (k0_off1_packedbf16 d0)) (fun _ => rfl)) (.inl rfl))

/-- What a step does on device `d0`, and then `k`. -/
def den {α : Type} (d0 : Dev nD) (k : P F α) : Op → P F α
  | wstart l => do
    Prog.lift (.enqueueDma (wiM l) (.here siM) (.dma (sem2 cc0_scratch12 0)) (wiM_whole l).wordExact (Memref.isWhole_whole _).wordExact ⟨Or.inl rfl, trivial⟩)
    Prog.lift (.enqueueDma (woM l) (.here soM) (.dma (sem2 cc0_scratch12 1)) (woM_whole l).wordExact (Memref.isWhole_whole _).wordExact ⟨Or.inl rfl, trivial⟩)
    k
  | wwait l => do
    Prog.lift (.waitDma2 (sem2 cc0_scratch12 0) (wiM l) siM (wiM_whole l).wordExact (Memref.isWhole_whole _).wordExact)
    Prog.lift (.waitDma2 (sem2 cc0_scratch12 1) (woM l) soM (woM_whole l).wordExact (Memref.isWhole_whole _).wordExact)
    k
  | wput i => do
    let v68 : Vec F S1024x2048 .f32 ← Prog.lift (.load siM rSi.toLoadRect (View.loadsAt_vmem h_S1024x2048))
    let _v70 : Vec F S1x1024x2048 .bf16 ← Prog.lift (.load biM (rI i).toLoadRect (View.loadsAt_vmem h_S1x1024x2048))
    Prog.lift (.store biM (rI i) (k0_pay3 v68) Finset.univ (View.stores_vmem h_S1x1024x2048 ((Memref.isWhole_whole _).storeExact_slice rfl _ (packedI i)) (fun _ => rfl)) (.inl rfl))
    let v73 : Vec F S2048x1024 .f32 ← Prog.lift (.load soM rSo.toLoadRect (View.loadsAt_vmem h_S2048x1024))
    let _v75 : Vec F S1x2048x1024 .bf16 ← Prog.lift (.load boM (rO i).toLoadRect (View.loadsAt_vmem h_S1x2048x1024))
    Prog.lift (.store boM (rO i) (k0_pay4 v73) Finset.univ (View.stores_vmem h_S1x2048x1024 ((Memref.isWhole_whole _).storeExact_slice rfl _ (packedO i)) (fun _ => rfl)) (.inl rfl))
    k
  | bar => do
    Scf.Loop.for k0_t1_loop k0_t1_ok ⟨⟩ (onW (k0_t1_body (F := F)) d0 (SemArray.scalar (sig.barrier 0 rfl)))
    semWaitWord (SemArray.scalar (sig.barrier 0 rfl) : Sems sig S_).sem 15#32
    k
  | xinit => do
    let v9 : Vec F S64x1024 .bf16 ← Prog.lift (.load xinM rA.toLoadRect (View.loadsAt_vmem h_S64x1024))
    let _v13 : Vec F S64x1024 .bf16 ← Prog.lift (.load xM (rOwn d0).toLoadRect (View.loadsAt_vmem h_S64x1024))
    Prog.lift (.store xM (rOwn d0) (k0_pay2 v9) Finset.univ (View.stores_vmem h_S64x1024 ((Memref.isWhole_whole _).storeExact_slice rfl _ (k0_off1_packedbf16 d0)) (fun _ => rfl)) (.inl rfl))
    k
  | agSend j =>
    if _h : notPeer d0 j = 1#1 then do
      Prog.lift (.enqueueDma (chunkOwn xM d0) (.remote (Dev.tc (j : Dev nD)) (chunkOwn xM d0) (.dma (sem16 cc0_scratch8 j))) (.dma (semOwn cc0_scratch9 d0))
        ((Memref.isWhole_whole _).wordExact_slice rfl _ (off3_words d0)) ((Memref.isWhole_whole _).wordExact_slice rfl _ (off3_words d0)) ⟨⟨rfl, Or.inl rfl⟩, trivial⟩)
      k
    else k
  | agWait j =>
    if _h : notPeer d0 j = 1#1 then do
      Prog.lift (.waitDma2 (sem16 cc0_scratch9 j) (chunkOwn xM d0) (chunk xM j)
        ((Memref.isWhole_whole _).wordExact_slice rfl _ (off3_words d0)) ((Memref.isWhole_whole _).wordExact_slice rfl _ (wordsC j)))
      k
    else k
  | agDone j =>
    if _h : notPeer d0 j = 1#1 then do
      Prog.lift (.waitDma2 (sem16 cc0_scratch8 j) (chunkOwn xM d0) (chunkOwn xM d0)
        ((Memref.isWhole_whole _).wordExact_slice rfl _ (off3_words d0)) ((Memref.isWhole_whole _).wordExact_slice rfl _ (off3_words d0)))
      k
    else k
  | mm i g => do
    let h ← mmA i g
    mmB i g h
    k
  | rsSend j =>
    if _h : notPeer d0 j = 1#1 then do
      Prog.lift (.enqueueDma (chunk pM j) (.remote (Dev.tc (j : Dev nD)) (slotOwn d0) (.dma (sem16 cc0_scratch10 j))) (.dma (semOwn cc0_scratch11 d0))
        ((Memref.isWhole_whole _).wordExact_slice rfl _ (wordsC j)) (((Memref.isWhole_whole _).wordExact_slice rfl _ (off39_words d0)).reshape _ _) ⟨⟨rfl, Or.inl rfl⟩, trivial⟩)
      k
    else k
  | accInit => do
    let v302 : Vec F S64x1024 .bf16 ← Prog.lift (.load pM (rOwn d0).toLoadRect (View.loadsAt_vmem h_S64x1024))
    let _v304 : Vec F S64x1024 .f32 ← Prog.lift (.load aM rA.toLoadRect (View.loadsAt_vmem h_S64x1024))
    Prog.lift (.store aM rA (k0_pay11 v302) Finset.univ (View.stores_vmem_bits_univ h_S64x1024 rfl) (.inl rfl))
    k
  | accAdd j =>
    if _h : notPeer d0 j = 1#1 then do
      Prog.lift (.waitDma2 (sem16 cc0_scratch11 j) (chunkOwn pM d0) (slot j)
        ((Memref.isWhole_whole _).wordExact_slice rfl _ (off3_words d0)) (((Memref.isWhole_whole _).wordExact_slice rfl _ (wordsS j)).reshape _ _))
      let v1295 : Vec F S64x1024 .f32 ← Prog.lift (.load aM rA.toLoadRect (View.loadsAt_vmem h_S64x1024))
      let v1296 : Vec F S1x64x1024 .bf16 ← Prog.lift (.load rM (rS j).toLoadRect (View.loadsAt_vmem h_S1x64x1024))
      let _v1300 : Vec F S64x1024 .f32 ← Prog.lift (.load aM rA.toLoadRect (View.loadsAt_vmem h_S64x1024))
      Prog.lift (.store aM rA (k0_pay12 v1295 v1296) Finset.univ (View.stores_vmem_bits_univ h_S64x1024 rfl) (.inl rfl))
      k
    else k
  | rsDone j =>
    if _h : notPeer d0 j = 1#1 then do
      Prog.lift (.waitDma2 (sem16 cc0_scratch10 j) (chunkOwn xM d0) (chunkOwn xM d0)
        ((Memref.isWhole_whole _).wordExact_slice rfl _ (off3_words d0)) ((Memref.isWhole_whole _).wordExact_slice rfl _ (off3_words d0)))
      k
    else k
  | xput => do
    let v ← xputA
    xputB d0 v
    k
  | out => do
    let v1284 : Vec F S1024x1024 .bf16 ← Prog.lift (.load xM rXX.toLoadRect (View.loadsAt_vmem h_S1024x1024))
    let _v1286 : Vec F S1024x1024 .f32 ← Prog.lift (.load outM rXX.toLoadRect (View.loadsAt_vmem h_S1024x1024))
    Prog.lift (.store outM rXX (k0_pay1 v1284) Finset.univ (View.stores_vmem_bits_univ h_S1024x1024 rfl) (.inl rfl))
    k

/-- A list of steps, then `k`. -/
def seqK {α : Type} (d0 : Dev nD) : List Op → P F α → P F α
  | [], k => k
  | o :: os, k => den d0 (seqK d0 os k) o

theorem den_bind {α β : Type} (d0 : Dev nD) (k : P F α) (f : α → P F β) (o : Op) : (den d0 k o >>= f) = den d0 (k >>= f) o := by
  cases o <;> simp only [den] <;> (try split) <;> simp only [bind_assoc]

theorem seqK_bind {α β : Type} (d0 : Dev nD) (os : List Op) (k : P F α) (f : α → P F β) : (seqK d0 os k >>= f) = seqK d0 os (k >>= f) := by
  induction os with
  | nil => rfl
  | cons o os ih => rw [seqK, den_bind, ih]; rfl

theorem seqK_append {α : Type} (d0 : Dev nD) (os os' : List Op) (k : P F α) : seqK d0 os (seqK d0 os' k) = seqK d0 (os ++ os') k := by
  induction os with
  | nil => rfl
  | cons o os ih => rw [seqK, ih]; rfl

/-- `n` peers from `a` on. -/
def fins (a : ℕ) : ℕ → List (Fin 16)
  | 0 => []
  | n + 1 => Fin.ofNat 16 a :: fins (a + 1) n

end Cert.Proof.KernelIdeal
end
-- ==== Proof.KernelIdeal.Parts.lean ====
/- The printed parts, each a run of named steps, and the whole body as the list of them. -/
module

public import proofs.«01_k».proof.Proof.KernelIdeal.Prog

@[expose] public section

set_option maxRecDepth 65536
set_option maxHeartbeats 1600000

noncomputable section

namespace Cert.Proof.KernelIdeal

open Cert.KernelIdeal Cert.KernelIdeal.Gen
open Idealize.ShloMosaic Idealize.SL.Sem

variable {F : FTy → Type} [FloatOps F]

open Op

/-! ## The parts -/

theorem part1 : ∃ w : Dev nD → BitVec 32, onW (k0_part1 (F := F)) = (Prog.lift .deviceId >>= fun d0 =>
      seqK d0 ([wstart 0, bar, xinit] ++ (fins 0 4).map agSend) (pure ⟨d0, w d0⟩)) :=
  ⟨fun d0 => Scalar.remsi (Scalar.divsi (Dev.word d0) 1#32) 16#32, by rw [k0_part1_eq_skeleton]; rfl⟩
theorem part2 (d0 : Dev nD) (v2 : BitVec 32) :
    ∃ w, onW (k0_part2 (F := F)) d0 v2 = seqK d0 ((fins 4 10).map agSend) (pure w) :=
  ⟨_, by rw [k0_part2_eq_skeleton]; rfl⟩
theorem part3 (d0 : Dev nD) (v2 : BitVec 32) :
    ∃ w, onW (k0_part3 (F := F)) d0 v2 = seqK d0 ((fins 14 2).map agSend ++ [wwait 0] ++ [wput 0] ++ [wstart 1] ++ (fins 0 1).map agWait) (pure w) :=
  ⟨_, by rw [k0_part3_eq_skeleton]; rfl⟩
theorem part4 (d0 : Dev nD) (v2 : BitVec 32) (a : BitVec 32) (b : BitVec 32) :
    ∃ w, onW (k0_part4 (F := F)) d0 v2 a b = seqK d0 ((fins 1 3).map agWait ++ [mm 0 0] ++ (fins 0 3).map rsSend) (pure w) :=
  ⟨_, by rw [k0_part4_eq_skeleton]; rfl⟩
theorem part5 (d0 : Dev nD) (v2 : BitVec 32) :
    ∃ w, onW (k0_part5 (F := F)) d0 v2 = seqK d0 ((fins 3 1).map rsSend ++ (fins 4 4).map agWait ++ (fins 0 5).map agDone) (pure w) :=
  ⟨_, by rw [k0_part5_eq_skeleton]; rfl⟩
theorem part6 (d0 : Dev nD) (v2 : BitVec 32) :
    ∃ w, onW (k0_part6 (F := F)) d0 v2 = seqK d0 ((fins 5 10).map agDone) (pure w) :=
  ⟨_, by rw [k0_part6_eq_skeleton]; rfl⟩
theorem part7 (d0 : Dev nD) (v2 : BitVec 32) :
    ∃ w, onW (k0_part7 (F := F)) d0 v2 = seqK d0 ((fins 15 1).map agDone ++ [mm 0 1] ++ (fins 4 4).map rsSend) (pure w) :=
  ⟨_, by rw [k0_part7_eq_skeleton]; rfl⟩
theorem part8 (d0 : Dev nD) (v2 : BitVec 32) (a : BitVec 1) :
    ∃ w, onW (k0_part8 (F := F)) d0 v2 a = seqK d0 ((fins 8 4).map agWait ++ [wwait 1] ++ [wput 1] ++ [wstart 2]) (pure w) :=
  ⟨_, by rw [k0_part8_eq_skeleton]; rfl⟩
theorem part9 (d0 : Dev nD) (v2 : BitVec 32) :
    ∃ w, onW (k0_part9 (F := F)) d0 v2 = seqK d0 ([mm 0 2] ++ (fins 8 4).map rsSend ++ (fins 12 1).map agWait) (pure w) :=
  ⟨_, by rw [k0_part9_eq_skeleton]; rfl⟩
theorem part10 (d0 : Dev nD) (v2 : BitVec 32) (a : BitVec 1) :
    ∃ w, onW (k0_part10 (F := F)) d0 v2 a = seqK d0 ((fins 13 3).map agWait ++ [mm 0 3] ++ (fins 12 2).map rsSend) (pure w) :=
  ⟨_, by rw [k0_part10_eq_skeleton]; rfl⟩
theorem part11 (d0 : Dev nD) (v2 : BitVec 32) (a : BitVec 32) (b : BitVec 32) :
    ∃ w, onW (k0_part11 (F := F)) d0 v2 a b = seqK d0 ((fins 14 2).map rsSend ++ [accInit] ++ (fins 0 6).map accAdd) (pure w) :=
  ⟨_, by rw [k0_part11_eq_skeleton]; rfl⟩
theorem part12 (d0 : Dev nD) (v2 : BitVec 32) (a : BitVec 32) (b : BitVec 32) :
    ∃ w, onW (k0_part12 (F := F)) d0 v2 a b = seqK d0 ((fins 6 10).map accAdd) (pure w) :=
  ⟨_, by rw [k0_part12_eq_skeleton]; rfl⟩
theorem part13 (d0 : Dev nD) (v2 : BitVec 32) (a : BitVec 32) (b : BitVec 32) :
    ∃ w, onW (k0_part13 (F := F)) d0 v2 a b = seqK d0 ((fins 0 10).map rsDone) (pure w) :=
  ⟨_, by rw [k0_part13_eq_skeleton]; rfl⟩
theorem part14 (d0 : Dev nD) (v2 : BitVec 32) (a : BitVec 32) (b : BitVec 32) :
    ∃ w, onW (k0_part14 (F := F)) d0 v2 a b = seqK d0 ((fins 10 6).map rsDone ++ [xput] ++ (fins 0 2).map agSend) (pure w) :=
  ⟨_, by rw [k0_part14_eq_skeleton]; rfl⟩
theorem part15 (d0 : Dev nD) (v2 : BitVec 32) (a : BitVec 32) (b : BitVec 32) :
    ∃ w, onW (k0_part15 (F := F)) d0 v2 a b = seqK d0 ((fins 2 10).map agSend) (pure w) :=
  ⟨_, by rw [k0_part15_eq_skeleton]; rfl⟩
theorem part16 (d0 : Dev nD) (v2 : BitVec 32) (a : BitVec 32) (b : BitVec 32) :
    onW (k0_part16 (F := F)) d0 v2 a b = seqK d0 ((fins 12 4).map agSend ++ (fins 0 4).map agWait) (mmA 1 0) :=
  by rw [k0_part16_eq_skeleton]; rfl
theorem part17 (d0 : Dev nD) (v2 : BitVec 32) (v : FVec F S256x2048 .bf16) :
    onW (k0_part17 (F := F)) d0 v2 v = (mmB 1 0 v >>= fun _ => seqK d0 ((fins 0 4).map rsSend ++ (fins 4 4).map agWait) (pure ⟨⟩)) :=
  by rw [k0_part17_eq_skeleton]; rfl
theorem part18 (d0 : Dev nD) (v2 : BitVec 32) :
    ∃ w, onW (k0_part18 (F := F)) d0 v2 = seqK d0 ((fins 0 10).map agDone) (pure w) :=
  ⟨_, by rw [k0_part18_eq_skeleton]; rfl⟩
theorem part19 (d0 : Dev nD) (v2 : BitVec 32) :
    onW (k0_part19 (F := F)) d0 v2 = seqK d0 ((fins 10 6).map agDone) (mmC 1 1) :=
  by rw [k0_part19_eq_skeleton]; rfl
theorem part20 (d0 : Dev nD) (v2 : BitVec 32) (v : FVec F S256x1024 .bf16) :
    onW (k0_part20 (F := F)) d0 v2 v = (mmD 1 v >>= fun _ => seqK d0 ((fins 4 4).map rsSend ++ (fins 8 4).map agWait ++ [wwait 2]) (pure ⟨⟩)) :=
  by rw [k0_part20_eq_skeleton]; rfl
theorem part21 (d0 : Dev nD) (v2 : BitVec 32) :
    ∃ w, onW (k0_part21 (F := F)) d0 v2 = seqK d0 ([wput 0] ++ [mm 1 2] ++ (fins 8 1).map rsSend) (pure w) :=
  ⟨_, by rw [k0_part21_eq_skeleton]; rfl⟩
theorem part22 (d0 : Dev nD) (v2 : BitVec 32) (a : BitVec 32) (b : BitVec 32) :
    onW (k0_part22 (F := F)) d0 v2 a b = seqK d0 ((fins 9 3).map rsSend ++ (fins 12 4).map agWait) (mmC 1 3) :=
  by rw [k0_part22_eq_skeleton]; rfl
theorem part23 (d0 : Dev nD) (v2 : BitVec 32) (v : FVec F S256x1024 .bf16) :
    onW (k0_part23 (F := F)) d0 v2 v = (mmD 3 v >>= fun _ => seqK d0 ((fins 12 4).map rsSend ++ [accInit] ++ (fins 0 3).map accAdd) (pure ⟨⟩)) :=
  by rw [k0_part23_eq_skeleton]; rfl
theorem part24 (d0 : Dev nD) (v2 : BitVec 32) :
    ∃ w, onW (k0_part24 (F := F)) d0 v2 = seqK d0 ((fins 3 10).map accAdd) (pure w) :=
  ⟨_, by rw [k0_part24_eq_skeleton]; rfl⟩
theorem part25 (d0 : Dev nD) (v2 : BitVec 32) :
    ∃ w, onW (k0_part25 (F := F)) d0 v2 = seqK d0 ((fins 13 3).map accAdd ++ (fins 0 7).map rsDone) (pure w) :=
  ⟨_, by rw [k0_part25_eq_skeleton]; rfl⟩
theorem part26 (d0 : Dev nD) (v2 : BitVec 32) :
    ∃ w : BitVec 32, onW (k0_part26 (F := F)) d0 v2 = seqK d0 ((fins 7 9).map rsDone) (xputA >>= fun v => pure ⟨v, w⟩) :=
  ⟨_, by rw [k0_part26_eq_skeleton]; rfl⟩
theorem part27 (d0 : Dev nD) (v2 : BitVec 32) (v : FVec F S64x1024 .bf16) (a : BitVec 32) :
    onW (k0_part27 (F := F)) d0 v2 v a = (xputB d0 v >>= fun _ => seqK d0 ((fins 0 9).map agSend) (pure ⟨⟩)) :=
  by rw [k0_part27_eq_skeleton]; rfl
theorem part28 (d0 : Dev nD) (v2 : BitVec 32) :
    ∃ w, onW (k0_part28 (F := F)) d0 v2 = seqK d0 ((fins 9 7).map agSend ++ (fins 0 3).map agWait) (pure w) :=
  ⟨_, by rw [k0_part28_eq_skeleton]; rfl⟩
theorem part29 (d0 : Dev nD) (v2 : BitVec 32) :
    ∃ w, onW (k0_part29 (F := F)) d0 v2 = seqK d0 ((fins 3 1).map agWait ++ [mm 0 0] ++ (fins 0 4).map rsSend) (pure w) :=
  ⟨_, by rw [k0_part29_eq_skeleton]; rfl⟩
theorem part30 (d0 : Dev nD) (v2 : BitVec 32) (a : BitVec 1) :
    ∃ w, onW (k0_part30 (F := F)) d0 v2 a = seqK d0 ((fins 4 4).map agWait ++ (fins 0 6).map agDone) (pure w) :=
  ⟨_, by rw [k0_part30_eq_skeleton]; rfl⟩
theorem part31 (d0 : Dev nD) (v2 : BitVec 32) (a : BitVec 1) :
    ∃ w, onW (k0_part31 (F := F)) d0 v2 a = seqK d0 ((fins 6 10).map agDone) (pure w) :=
  ⟨_, by rw [k0_part31_eq_skeleton]; rfl⟩
theorem part32 (d0 : Dev nD) (v2 : BitVec 32) :
    ∃ w, onW (k0_part32 (F := F)) d0 v2 = seqK d0 ([mm 0 1] ++ (fins 4 4).map rsSend ++ (fins 8 1).map agWait) (pure w) :=
  ⟨_, by rw [k0_part32_eq_skeleton]; rfl⟩
theorem part33 (d0 : Dev nD) (v2 : BitVec 32) (a : BitVec 32) (b : BitVec 32) :
    ∃ w, onW (k0_part33 (F := F)) d0 v2 a b = seqK d0 ((fins 9 3).map agWait ++ [mm 0 2] ++ (fins 8 3).map rsSend) (pure w) :=
  ⟨_, by rw [k0_part33_eq_skeleton]; rfl⟩
theorem part34 (d0 : Dev nD) (v2 : BitVec 32) :
    ∃ w, onW (k0_part34 (F := F)) d0 v2 = seqK d0 ((fins 11 1).map rsSend ++ (fins 12 4).map agWait ++ [mm 0 3]) (pure w) :=
  ⟨_, by rw [k0_part34_eq_skeleton]; rfl⟩
theorem part35 (d0 : Dev nD) (v2 : BitVec 32) (a : BitVec 1) :
    ∃ w, onW (k0_part35 (F := F)) d0 v2 a = seqK d0 ((fins 12 4).map rsSend ++ [accInit] ++ (fins 0 4).map accAdd) (pure w) :=
  ⟨_, by rw [k0_part35_eq_skeleton]; rfl⟩
theorem part36 (d0 : Dev nD) (v2 : BitVec 32) (a : BitVec 1) :
    ∃ w, onW (k0_part36 (F := F)) d0 v2 a = seqK d0 ((fins 4 10).map accAdd) (pure w) :=
  ⟨_, by rw [k0_part36_eq_skeleton]; rfl⟩
theorem part37 (d0 : Dev nD) (v2 : BitVec 32) (a : BitVec 1) :
    ∃ w, onW (k0_part37 (F := F)) d0 v2 a = seqK d0 ((fins 14 2).map accAdd ++ (fins 0 8).map rsDone) (pure w) :=
  ⟨_, by rw [k0_part37_eq_skeleton]; rfl⟩
theorem part38 (d0 : Dev nD) (v2 : BitVec 32) (a : BitVec 1) :
    ∃ w, onW (k0_part38 (F := F)) d0 v2 a = seqK d0 ((fins 8 8).map rsDone ++ [xput]) (pure w) :=
  ⟨_, by rw [k0_part38_eq_skeleton]; rfl⟩
theorem part39 (d0 : Dev nD) (v2 : BitVec 32) (a : BitVec 1) :
    ∃ w, onW (k0_part39 (F := F)) d0 v2 a = seqK d0 ((fins 0 10).map agSend) (pure w) :=
  ⟨_, by rw [k0_part39_eq_skeleton]; rfl⟩
theorem part40 (d0 : Dev nD) (v2 : BitVec 32) (a : BitVec 1) :
    ∃ w, onW (k0_part40 (F := F)) d0 v2 a = seqK d0 ((fins 10 6).map agSend ++ (fins 0 4).map agWait) (pure w) :=
  ⟨_, by rw [k0_part40_eq_skeleton]; rfl⟩
theorem part41 (d0 : Dev nD) (v2 : BitVec 32) (a : BitVec 1) :
    ∃ w, onW (k0_part41 (F := F)) d0 v2 a = seqK d0 ((fins 4 10).map agWait) (pure w) :=
  ⟨_, by rw [k0_part41_eq_skeleton]; rfl⟩
theorem part42 (d0 : Dev nD) (v2 : BitVec 32) (a : BitVec 1) :
    ∃ w, onW (k0_part42 (F := F)) d0 v2 a = seqK d0 ((fins 14 2).map agWait ++ (fins 0 8).map agDone) (pure w) :=
  ⟨_, by rw [k0_part42_eq_skeleton]; rfl⟩

end Cert.Proof.KernelIdeal
end
-- ==== Proof.KernelIdeal.Whole.lean ====
/- The whole body as a list of named steps. -/
module

public import proofs.«01_k».proof.Proof.KernelIdeal.Parts

@[expose] public section

set_option maxRecDepth 65536
set_option maxHeartbeats 1600000

noncomputable section

namespace Cert.Proof.KernelIdeal

open Cert.KernelIdeal Cert.KernelIdeal.Gen
open Idealize.ShloMosaic Idealize.SL.Sem

variable {F : FTy → Type} [FloatOps F]

open Op

/-! ## The list -/

/-- The weight slot a layer reads. -/
def wslot : Fin 3 → Fin 2
  | 0 => 0 | 1 => 1 | 2 => 0
/-- The weights fetched in the third row group of a layer. -/
def fetch : Fin 3 → List Op
  | 0 => [wwait 1, wput 1, wstart 2] | 1 => [wwait 2, wput 0] | 2 => []
/-- A layer: four row groups, then the rows the other devices sent, and the new rows sent on. -/
def layer (l : Fin 3) : List Op :=
  (fins 0 4).map agWait ++ (mm (wslot l) 0 :: ((fins 0 4).map rsSend
    ++ ((fins 4 4).map agWait ++ ((fins 0 16).map agDone ++ (mm (wslot l) 1 :: ((fins 4 4).map rsSend
    ++ ((fins 8 4).map agWait ++ (fetch l ++ (mm (wslot l) 2 :: ((fins 8 4).map rsSend
    ++ ((fins 12 4).map agWait ++ (mm (wslot l) 3 :: ((fins 12 4).map rsSend
    ++ (accInit :: ((fins 0 16).map accAdd ++ ((fins 0 16).map rsDone ++ (xput :: (fins 0 16).map agSend)))))))))))))))))
def pre : List Op := wstart 0 :: bar :: xinit :: ((fins 0 16).map agSend ++ [wwait 0, wput 0, wstart 1])
def post : List Op := (fins 0 16).map agWait ++ ((fins 0 16).map agDone ++ [out])
/-- Everything. -/
def prog : List Op := pre ++ (layer 0 ++ (layer 1 ++ (layer 2 ++ post)))

/-! ## Joining the parts -/

theorem chain {d0 : Dev nD} {β γ : Type} {good : γ → Prop} {os os' : List Op} {p : P F β} {k : β → P F γ} (h : ∃ w, p = seqK d0 os (pure w))
    (h' : ∀ w, ∃ w', good w' ∧ k w = seqK d0 os' (pure w')) : ∃ w', good w' ∧ (p >>= k) = seqK d0 (os ++ os') (pure w') := by
  obtain ⟨w, rfl⟩ := h
  obtain ⟨w', hg, h⟩ := h' w
  exact ⟨w', hg, by rw [seqK_bind, pure_bind, h, seqK_append]⟩
/-- Parts between which a value passes: step `o` is begun as `A` in the one and ended as `B` in the other. -/
theorem chainV {d0 : Dev nD} {β γ : Type} {good : γ → Prop} {os os' : List Op} {o : Op} {p A : P F β} {k : β → P F γ} {B : β → P F PUnit}
    (ho : ∀ k : P F γ, (A >>= fun v => B v >>= fun _ => k) = den d0 k o) (h : p = seqK d0 os A)
    (h' : ∃ w, good w ∧ ∀ v, k v = (B v >>= fun _ => seqK d0 os' (pure w))) : ∃ w, good w ∧ (p >>= k) = seqK d0 (os ++ o :: os') (pure w) := by
  obtain ⟨w, hg, h'⟩ := h'
  subst h
  refine ⟨w, hg, ?_⟩
  rw [seqK_bind, ← seqK_append, seqK, ← ho]
  exact congrArg _ (congrArg _ (funext h'))
theorem after {d0 : Dev nD} {β γ : Type} {good : γ → Prop} {os os' : List Op} {q : β → P F PUnit} {r : P F γ} {B : β → P F PUnit}
    (h : ∀ v, q v = (B v >>= fun _ => seqK d0 os (pure ⟨⟩))) (h' : ∃ w, good w ∧ r = seqK d0 os' (pure w)) :
    ∃ w, good w ∧ ∀ v, (q v >>= fun _ => r) = (B v >>= fun _ => seqK d0 (os ++ os') (pure w)) := by
  obtain ⟨w, hg, rfl⟩ := h'
  refine ⟨w, hg, fun v => ?_⟩
  rw [h v, bind_assoc]
  simp only [seqK_bind, pure_bind, seqK_append]

theorem mm_halves {d0 : Dev nD} {γ : Type} (i : Fin 2) (g : Fin 4) (k : P F γ) : (mmA i g >>= fun v => mmB i g v >>= fun _ => k) = den d0 k (mm i g) := by
  simp only [den, bind_assoc]
theorem mm_halves' {d0 : Dev nD} {γ : Type} (i : Fin 2) (g : Fin 4) (k : P F γ) : (mmC i g >>= fun v => mmD g v >>= fun _ => k) = den d0 k (mm i g) := rfl

/-- The two parts between which the new rows and a word pass. -/
theorem chain26 (d0 : Dev nD) (v2 : BitVec 32) {γ : Type} {good : γ → Prop} {os' : List Op} {r : P F γ}
    (h : ∃ w, good w ∧ r = seqK d0 os' (pure w)) :
    ∃ w, good w ∧ (onW (k0_part26 (F := F)) d0 v2 >>= fun x => onW (k0_part27 (F := F)) d0 v2 x.1 x.2 >>= fun _ => r)
      = seqK d0 ((fins 7 9).map rsDone ++ xput :: ((fins 0 9).map agSend ++ os')) (pure w) := by
  obtain ⟨u, h26⟩ := part26 (F := F) d0 v2
  obtain ⟨w, hg, rfl⟩ := h
  refine ⟨w, hg, ?_⟩
  rw [h26, seqK_bind, ← seqK_append, seqK]
  refine congrArg _ ?_
  simp only [bind_assoc, pure_bind, part27, seqK_bind, seqK_append]
  rfl

/-- What follows the first part, up to the last eight waits. -/
theorem rest43 : ∃ (k : (Σ' (_ : Dev nD), BitVec 32) → P F (Σ' (_ : Dev nD) (_ : BitVec 32), BitVec 1)) (os : List Op),
    (onW (k0_part43 (F := F)) = (onW (k0_part1 (F := F)) >>= k)
      ∧ ∀ (d0 : Dev nD) (v2 : BitVec 32), ∃ w : Σ' (_ : Dev nD) (_ : BitVec 32), BitVec 1, w.1 = d0 ∧ k ⟨d0, v2⟩ = seqK d0 os (pure w))
    ∧ (fins 4 12).map agSend ++ ([wwait 0, wput 0, wstart 1]
        ++ (layer 0 ++ (layer 1 ++ (layer 2 ++ ((fins 0 16).map agWait ++ (fins 0 11).map agDone))))) = os := by
  refine ⟨_, ?os, ⟨by rw [k0_part43_eq_skeleton]; rfl, ?h⟩, ?e⟩
  case h =>
   intro d0 v2
   exact
    chain (part2 (F := F) d0 v2) fun _ =>
    chain (part3 (F := F) d0 v2) fun x =>
    chain (part4 (F := F) d0 v2 x.1 x.2) fun _ =>
    chain (part5 (F := F) d0 v2) fun _ =>
    chain (part6 (F := F) d0 v2) fun _ =>
    chain (part7 (F := F) d0 v2) fun a =>
    chain (part8 (F := F) d0 v2 a) fun _ =>
    chain (part9 (F := F) d0 v2) fun a =>
    chain (part10 (F := F) d0 v2 a) fun x =>
    chain (part11 (F := F) d0 v2 x.1 x.2) fun x =>
    chain (part12 (F := F) d0 v2 x.1 x.2) fun x =>
    chain (part13 (F := F) d0 v2 x.1 x.2) fun x =>
    chain (part14 (F := F) d0 v2 x.1 x.2) fun x =>
    chain (part15 (F := F) d0 v2 x.1 x.2) fun x =>
    chainV (mm_halves 1 0) (part16 (F := F) d0 v2 x.1 x.2) <| after (part17 (F := F) d0 v2) <|
    chain (part18 (F := F) d0 v2) fun _ =>
    chainV (mm_halves' 1 1) (part19 (F := F) d0 v2) <| after (part20 (F := F) d0 v2) <|
    chain (part21 (F := F) d0 v2) fun x =>
    chainV (mm_halves' 1 3) (part22 (F := F) d0 v2 x.1 x.2) <| after (part23 (F := F) d0 v2) <|
    chain (part24 (F := F) d0 v2) fun _ =>
    chain (part25 (F := F) d0 v2) fun _ =>
    chain26 d0 v2 <|
    chain (part28 (F := F) d0 v2) fun _ =>
    chain (part29 (F := F) d0 v2) fun a =>
    chain (part30 (F := F) d0 v2 a) fun a =>
    chain (part31 (F := F) d0 v2 a) fun _ =>
    chain (part32 (F := F) d0 v2) fun x =>
    chain (part33 (F := F) d0 v2 x.1 x.2) fun _ =>
    chain (part34 (F := F) d0 v2) fun a =>
    chain (part35 (F := F) d0 v2 a) fun a =>
    chain (part36 (F := F) d0 v2 a) fun a =>
    chain (part37 (F := F) d0 v2 a) fun a =>
    chain (part38 (F := F) d0 v2 a) fun a =>
    chain (part39 (F := F) d0 v2 a) fun a =>
    chain (part40 (F := F) d0 v2 a) fun a =>
    chain (part41 (F := F) d0 v2 a) fun a =>
    chain (part42 (F := F) d0 v2 a) fun _ =>
    (⟨⟨d0, v2, _⟩, rfl, rfl⟩ : ∃ w : Σ' (_ : Dev nD) (_ : BitVec 32), BitVec 1, w.1 = d0 ∧ _ = seqK d0 ((fins 8 3).map agDone) (pure w))
  case e => rfl

/-- The body is the list of steps, at the number of the device it runs on. -/
theorem body_eq : onW (cc0_body (F := F)) = (Prog.lift .deviceId >>= fun d0 => seqK d0 prog (pure ⟨⟩)) := by
  obtain ⟨k, os, ⟨h43, hk⟩, hos⟩ := rest43 (F := F)
  obtain ⟨w1, h1⟩ := part1 (F := F)
  rw [cc0_body_eq_skeleton]
  change (onW (k0_part43 (F := F)) >>= _) = _
  rw [h43, h1]
  simp only [bind_assoc, seqK_bind, pure_bind]
  refine congrArg _ (funext fun d0 => ?_)
  obtain ⟨⟨d, v2, w⟩, rfl, h⟩ := hk d0 (w1 d0)
  rw [h, seqK_bind, pure_bind, seqK_append, ← hos]
  refine Eq.trans (congrArg _ (?_ : _ = seqK d ((fins 11 5).map agDone ++ [out]) (pure ⟨⟩))) ?_
  · rfl
  · rw [seqK_append]; rfl

end Cert.Proof.KernelIdeal
end
-- ==== Proof.KernelIdeal.Values.lean ====
/- What the buffers hold, layer by layer, and where the chunks, slots and row groups lie in them. -/
module

public import proofs.«01_k».proof.Proof.KernelIdeal.Whole
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Pipeline.ValueKit

@[expose] public section

set_option maxRecDepth 65536

noncomputable section

namespace Cert.Proof.KernelIdeal

open Cert.KernelIdeal Cert.KernelIdeal.Gen
open Idealize.ShloMosaic Idealize.SL.Sem

variable {F : FTy → Type} [FloatOps F]

/-! ## Contents -/

/-- The data the devices start from: their rows of `x`, and their columns and rows of the weights. -/
structure In (F : FTy → Type) where
  x : Dev nD → Vec F S64x1024 .bf16
  wi : Fin 3 → Dev nD → Vec F S1024x2048 .f32
  wo : Fin 3 → Dev nD → Vec F S2048x1024 .f32

/-- The device whose rows hold row `r`, and the row there. -/
theorem nD_eq : nD = 16 := by decide
abbrev rowDev (r : Fin 1024) : Dev nD := ⟨r.val / 64, by have := r.isLt; have := nD_eq; omega⟩
abbrev rowIn (r : Fin 1024) : Fin 64 := ⟨r.val % 64, Nat.mod_lt _ (by decide)⟩

/-- All rows, from each device's. -/
def gath (X : Dev nD → Vec F S64x1024 .bf16) : S1024x1024.Idx → Elt F .bf16 :=
  fun i => X (rowDev (i 0)) (ValueIdx.ix2 (rowIn (i 0)) (i 1))

/-- A device's partial product of one row group. -/
def mmv (wi : Vec F S1024x2048 .f32) (wo : Vec F S2048x1024 .f32) (xf : S1024x1024.Idx → Elt F .bf16) (g : Fin 4) : Vec F S256x1024 .bf16 :=
  k0_pay30 (k0_pay29 (xM.view.readAt (Elt F) (rG g).toLoadRect xf) (k0_pay3 wi)) (k0_pay4 wo)

abbrev rowGrp (r : Fin 1024) : Fin 4 := ⟨r.val / 256, by have := r.isLt; omega⟩
abbrev rowInG (r : Fin 1024) : Fin 256 := ⟨r.val % 256, Nat.mod_lt _ (by decide)⟩

/-- A device's partial product. -/
def part (wi : Vec F S1024x2048 .f32) (wo : Vec F S2048x1024 .f32) (xf : S1024x1024.Idx → Elt F .bf16) : S1024x1024.Idx → Elt F .bf16 :=
  fun i => mmv wi wo xf (rowGrp (i 0)) (ValueIdx.ix2 (rowInG (i 0)) (i 1))

/-- Device `d`'s receive buffer, from every device's partial product. -/
def recv (p : Dev nD → S1024x1024.Idx → Elt F .bf16) (d : Dev nD) : S16x64x1024.Idx → Elt F .bf16 :=
  fun i => p (i 0) (ValueIdx.ix2 (⟨64 * d.val + (i 1).val, by have h0 : (i 1).val < 64 := (i 1).isLt; have := d.isLt; have := nD_eq; omega⟩ : Fin 1024) (i 2))

/-- The accumulator after the first `n` peers. -/
def accv (pf : S1024x1024.Idx → Elt F .bf16) (rb : S16x64x1024.Idx → Elt F .bf16) (d : Dev nD) : ℕ → Vec F S64x1024 .f32
  | 0 => k0_pay11 (pM.view.readAt (Elt F) (rOwn d).toLoadRect pf)
  | n + 1 => if h : n < 16 then (if n = d.val then accv pf rb d n else k0_pay12 (accv pf rb d n) (rM.view.readAt (Elt F) (rS ⟨n, h⟩).toLoadRect rb)) else accv pf rb d n

variable (I : In F)

/-- The weights of layer `l` (0, 1, 2). -/
abbrev lay (l : ℕ) : Fin 3 := ⟨l % 3, Nat.mod_lt _ (by decide)⟩

/-- The devices' rows before layer `l`. -/
def XV : ℕ → Dev nD → Vec F S64x1024 .bf16
  | 0 => fun d => k0_pay2 (I.x d)
  | l + 1 => fun d => k0_pay56 (k0_pay55 (accv (part (I.wi (lay l) d) (I.wo (lay l) d) (gath (XV l)))
      (recv (fun j => part (I.wi (lay l) j) (I.wo (lay l) j) (gath (XV l))) d) d 16))

/-- All rows before layer `l`; device `d`'s partial product of it; its receive buffer; its accumulator. -/
def XF (l : ℕ) : S1024x1024.Idx → Elt F .bf16 := gath (XV I l)
def PF (l : ℕ) (d : Dev nD) : S1024x1024.Idx → Elt F .bf16 := part (I.wi (lay l) d) (I.wo (lay l) d) (XF I l)
def RBF (l : ℕ) (d : Dev nD) : S16x64x1024.Idx → Elt F .bf16 := recv (PF I l) d
def ACC (l : ℕ) (d : Dev nD) (n : ℕ) : Vec F S64x1024 .f32 := accv (PF I l d) (RBF I l d) d n
/-- The result. -/
def OUT : Vec F S1024x1024 .f32 := k0_pay1 (XF I 3)

theorem XV_succ (l : ℕ) (d : Dev nD) : XV I (l + 1) d = k0_pay56 (k0_pay55 (ACC I l d 16)) := rfl
theorem ACC_zero (l : ℕ) (d : Dev nD) : ACC I l d 0 = k0_pay11 (pM.view.readAt (Elt F) (rOwn d).toLoadRect (PF I l d)) := rfl
theorem ACC_succ (l : ℕ) (d : Dev nD) (j : Fin 16) (h : j ≠ d) :
    ACC I l d (j.val + 1) = k0_pay12 (ACC I l d j.val) (rM.view.readAt (Elt F) (rS j).toLoadRect (RBF I l d)) := by
  show accv _ _ _ _ = _
  rw [accv, dif_pos j.isLt, if_neg (fun e => h (Fin.ext e))]; rfl
theorem ACC_skip (l : ℕ) (d : Dev nD) (j : Fin 16) (h : j = d) : ACC I l d (j.val + 1) = ACC I l d j.val := by
  subst h
  show accv _ _ _ _ = _
  rw [accv, dif_pos j.isLt, if_pos rfl]; rfl

/-! ## The same memrefs and semaphores by another name -/

theorem chunkOwn_eq (m : Memref sig .tc .vmem S1024x1024 .bf16) (d : Dev nD) : chunkOwn m d = chunk m d :=
  Memref.slice_unit_congr m (k0_off3_eq d) _ _ _ _
theorem slotOwn_eq (d : Dev nD) : slotOwn d = slot d :=
  congrArg (fun v : Memref sig .tc .vmem S1x64x1024 .bf16 => v.squeeze S64x1024 squeezes_S1x64x1024_S64x1024) (Memref.slice_unit_congr rM (k0_off39_eq d) _ _ (fun _ => rfl) (fun _ => rfl))
theorem semOwn_eq (a : DmaSems sig S16) (d : Dev nD) : semOwn a d = sem16 a d :=
  congrArg (fun v : SemArray (DmaSem sig) S1 => (v.squeeze S_ squeezes_S1_S_).sem) (SemArray.slice_unit_congr a (k0_off2_eq d) _ _)
theorem rOwn_eq (d : Dev nD) : rOwn d = Rect.unit (s := S1024x1024) ![64 * d.val, 0] S64x1024.size (inbC d) :=
  Rect.unit_congr (k0_off1_eq d) _ _

/-! ## Element sets -/

/-- Device `j`'s rows; a row group; slots. -/
def cS (j : Fin 16) : Finset S1024x1024.Idx := Finset.univ.filter fun i => (i 0).val / 64 = j.val
def gS (g : Fin 4) : Finset S1024x1024.Idx := Finset.univ.filter fun i => (i 0).val / 256 = g.val
def sS (j : Fin 16) : Finset S16x64x1024.Idx := Finset.univ.filter fun i => (i 0).val = j.val
def bI (i : Fin 2) : Finset S2x1024x2048.Idx := Finset.univ.filter fun x => (x 0).val = i.val
def bO (i : Fin 2) : Finset S2x2048x1024.Idx := Finset.univ.filter fun x => (x 0).val = i.val

theorem rC_set (j : Fin 16) : (Rect.unit (s := S1024x1024) ![64 * j.val, 0] S64x1024.size (inbC j)).set = cS j := by
  ext i
  have h1 : (i 1).val < 1024 := (i 1).isLt
  rw [Rect.mem_set_unit, cS, Finset.mem_filter, Fin.forall_fin_two]
  show ((64 * j.val ≤ (i 0).val ∧ (i 0).val < 64 * j.val + 64) ∧ (0 ≤ (i 1).val ∧ (i 1).val < 0 + 1024)) ↔ _
  constructor
  · rintro ⟨⟨a, b⟩, -⟩; exact ⟨Finset.mem_univ _, by omega⟩
  · rintro ⟨-, a⟩; omega
theorem rG_set (g : Fin 4) : (rG g).set = gS g := by
  ext i
  have h1 : (i 1).val < 1024 := (i 1).isLt
  rw [Rect.mem_set_unit, gS, Finset.mem_filter, Fin.forall_fin_two]
  show ((256 * g.val ≤ (i 0).val ∧ (i 0).val < 256 * g.val + 256) ∧ (0 ≤ (i 1).val ∧ (i 1).val < 0 + 1024)) ↔ _
  constructor
  · rintro ⟨⟨a, b⟩, -⟩; exact ⟨Finset.mem_univ _, by omega⟩
  · rintro ⟨-, a⟩; omega
theorem forall_fin3 {p : Fin 3 → Prop} : (∀ a, p a) ↔ p 0 ∧ p 1 ∧ p 2 :=
  ⟨fun h => ⟨h 0, h 1, h 2⟩, fun ⟨a, b, c⟩ x => by fin_cases x <;> assumption⟩
theorem rS_set (j : Fin 16) : (rS j).set = sS j := by
  ext i
  have h1 : (i 1).val < 64 := (i 1).isLt
  have h2 : (i 2).val < 1024 := (i 2).isLt
  rw [Rect.mem_set_unit, sS, Finset.mem_filter, forall_fin3]
  show ((j.val ≤ (i 0).val ∧ (i 0).val < j.val + 1) ∧ (0 ≤ (i 1).val ∧ (i 1).val < 0 + 64) ∧ (0 ≤ (i 2).val ∧ (i 2).val < 0 + 1024)) ↔ _
  constructor
  · rintro ⟨⟨a, b⟩, -⟩; exact ⟨Finset.mem_univ _, by omega⟩
  · rintro ⟨-, a⟩; omega
theorem rI_set (j : Fin 2) : (rI j).set = bI j := by
  ext i
  have h1 : (i 1).val < 1024 := (i 1).isLt
  have h2 : (i 2).val < 2048 := (i 2).isLt
  rw [Rect.mem_set_unit, bI, Finset.mem_filter, forall_fin3]
  show ((j.val ≤ (i 0).val ∧ (i 0).val < j.val + 1) ∧ (0 ≤ (i 1).val ∧ (i 1).val < 0 + 1024) ∧ (0 ≤ (i 2).val ∧ (i 2).val < 0 + 2048)) ↔ _
  constructor
  · rintro ⟨⟨a, b⟩, -⟩; exact ⟨Finset.mem_univ _, by omega⟩
  · rintro ⟨-, a⟩; omega
theorem rO_set (j : Fin 2) : (rO j).set = bO j := by
  ext i
  have h1 : (i 1).val < 2048 := (i 1).isLt
  have h2 : (i 2).val < 1024 := (i 2).isLt
  rw [Rect.mem_set_unit, bO, Finset.mem_filter, forall_fin3]
  show ((j.val ≤ (i 0).val ∧ (i 0).val < j.val + 1) ∧ (0 ≤ (i 1).val ∧ (i 1).val < 0 + 2048) ∧ (0 ≤ (i 2).val ∧ (i 2).val < 0 + 1024)) ↔ _
  constructor
  · rintro ⟨⟨a, b⟩, -⟩; exact ⟨Finset.mem_univ _, by omega⟩
  · rintro ⟨-, a⟩; omega

theorem chunkX_set (j : Fin 16) : (chunk xM j).view.set = cS j := (View.set_slice_whole _ _).trans (rC_set j)
theorem chunkP_set (j : Fin 16) : (chunk pM j).view.set = cS j := (View.set_slice_whole _ _).trans (rC_set j)
theorem slot_set (j : Fin 16) : (slot j).view.set = sS j :=
  (View.set_reshape _ _).trans ((View.set_slice_whole _ _).trans (rS_set j))

theorem cS_disj {j j' : Fin 16} (h : j ≠ j') : Disjoint (cS j) (cS j') := by
  rw [Finset.disjoint_left]; intro i hi hi'
  exact h (Fin.ext ((Finset.mem_filter.mp hi).2.symm.trans (Finset.mem_filter.mp hi').2))
theorem sS_disj {j j' : Fin 16} (h : j ≠ j') : Disjoint (sS j) (sS j') := by
  rw [Finset.disjoint_left]; intro i hi hi'
  exact h (Fin.ext ((Finset.mem_filter.mp hi).2.symm.trans (Finset.mem_filter.mp hi').2))
theorem cS_all : (Finset.univ : Finset (Fin 16)).biUnion cS = Finset.univ := by
  ext i
  simp only [Finset.mem_biUnion, Finset.mem_univ, true_and, iff_true, cS, Finset.mem_filter]
  exact ⟨rowDev (i 0), rfl⟩
theorem sS_all : (Finset.univ : Finset (Fin 16)).biUnion sS = Finset.univ := by
  ext i
  simp only [Finset.mem_biUnion, Finset.mem_univ, true_and, iff_true, sS, Finset.mem_filter]
  exact ⟨i 0, rfl⟩
/-- The devices whose rows make up a row group. -/
def grp (g : Fin 4) : Finset (Fin 16) := Finset.univ.filter fun j => j.val / 4 = g.val
theorem cS_grp (g : Fin 4) : (grp g).biUnion cS = gS g := by
  ext i
  simp only [Finset.mem_biUnion, Finset.mem_univ, true_and, cS, gS, grp, Finset.mem_filter]
  constructor
  · rintro ⟨j, a, b⟩; omega
  · intro h; refine ⟨rowDev (i 0), ?_, rfl⟩; show (i 0).val / 64 / 4 = g.val; omega
theorem bI_sdiff : Finset.univ \ bI 0 = bI 1 := by
  ext x
  have h : (x 0).val < 2 := (x 0).isLt
  simp only [bI, Finset.mem_sdiff, Finset.mem_filter, Finset.mem_univ, true_and]
  show ¬ (x 0).val = 0 ↔ (x 0).val = 1
  omega
theorem bO_sdiff : Finset.univ \ bO 0 = bO 1 := by
  ext x
  have h : (x 0).val < 2 := (x 0).isLt
  simp only [bO, Finset.mem_sdiff, Finset.mem_filter, Finset.mem_univ, true_and]
  show ¬ (x 0).val = 0 ↔ (x 0).val = 1
  omega

/-! ## What copies and stores leave -/

/-- A copy of a region onto itself. -/
theorem copy_same {sp : Space} {s : Shape} {e : EltTy} (v : View sig .tc sp s e) (fd fs : v.ty.Contents (Elt F)) :
    ∀ i ∈ v.set, v.write (Elt F) fd (v.read (Elt F) fs) Finset.univ i = fs i := by
  intro i hi
  obtain ⟨y, rfl⟩ := View.exists_emb_of_mem_set v hi
  rw [View.write_emb_of_mem _ _ (Finset.mem_univ y), View.read_apply, cast_cast, cast_eq]

/-- A store of a rectangle of a whole buffer. -/
theorem store_agree (b : Ref sig .tc) (r : Rect b.ty.shape) (fd g : b.ty.Contents (Elt F)) (w : r.shape.Idx → Elt F b.ty.elt)
    (h : ∀ x, g (r.emb x) = w x) : ∀ i ∈ r.set, ((Memref.whole b).access r : View sig .tc _ _ _).write (Elt F) fd w Finset.univ i = g i := by
  intro i hi
  rw [← View.set_slice_whole (sig := sig) (κ := .tc) b r] at hi
  obtain ⟨y, rfl⟩ := View.exists_emb_of_mem_set _ hi
  exact (View.write_emb_of_mem (v := (View.whole b).slice r) fd w (Finset.mem_univ y)).trans (h y).symm

theorem gath_chunk (X : Dev nD → Vec F S64x1024 .bf16) (d : Dev nD) (x : (rOwn d).shape.Idx) : gath X ((rOwn d).emb x) = X d x := by
  have e0 : ((rOwn d).emb x 0 : ℕ) = 64 * d.val + (x 0).val := by
    exact (ValueKit.rect_emb_unit_val _ _ _ _ _).trans (congrArg (· + (x 0).val) (congrFun (k0_off1_eq d) 0))
  have e1 : ((rOwn d).emb x 1 : ℕ) = (x 1).val := by
    exact (ValueKit.rect_emb_unit_val _ _ _ _ _).trans ((congrArg (· + (x 1).val) (congrFun (k0_off1_eq d) 1)).trans (Nat.zero_add _))
  have h0 : (x 0).val < 64 := (x 0).isLt
  have hd : rowDev ((rOwn d).emb x 0) = d := Fin.ext (by show ((rOwn d).emb x 0 : ℕ) / 64 = _; rw [e0]; omega)
  show X (rowDev ((rOwn d).emb x 0)) _ = _
  rw [hd]
  refine congrArg (X d) (funext fun a => Fin.ext ?_)
  match a with
  | ⟨0, _⟩ => show ((rOwn d).emb x 0 : ℕ) % 64 = (x 0).val; rw [e0]; omega
  | ⟨1, _⟩ => exact e1

theorem part_grp (wi : Vec F S1024x2048 .f32) (wo : Vec F S2048x1024 .f32) (xf : S1024x1024.Idx → Elt F .bf16) (g : Fin 4) (x : (rG g).shape.Idx) :
    part wi wo xf ((rG g).emb x) = mmv wi wo xf g x := by
  have e0 : ((rG g).emb x 0 : ℕ) = 256 * g.val + (x 0).val := ValueKit.rect_emb_unit_val _ _ _ _ _
  have e1 : ((rG g).emb x 1 : ℕ) = (x 1).val := (ValueKit.rect_emb_unit_val _ _ _ _ _).trans (Nat.zero_add _)
  have h0 : (x 0).val < 256 := (x 0).isLt
  have hd : rowGrp ((rG g).emb x 0) = g := Fin.ext (by show ((rG g).emb x 0 : ℕ) / 256 = _; rw [e0]; omega)
  show mmv wi wo xf (rowGrp ((rG g).emb x 0)) _ = _
  rw [hd]
  refine congrArg (mmv wi wo xf g) (funext fun a => Fin.ext ?_)
  match a with
  | ⟨0, _⟩ => show ((rG g).emb x 0 : ℕ) % 256 = (x 0).val; rw [e0]; omega
  | ⟨1, _⟩ => exact e1

/-- Device `c`'s partial rows for device `j`, put into slot `c` of `j`'s receive buffer. -/
theorem recv_copy (p : Dev nD → S1024x1024.Idx → Elt F .bf16) (c : Dev nD) (j : Fin 16) (fd : S16x64x1024.Idx → Elt F .bf16) :
    ∀ i ∈ (slot c).view.set, (slot c).view.write (Elt F) fd ((chunk pM j).view.read (Elt F) (p c)) Finset.univ i = recv p j i := by
  intro i hi
  obtain ⟨y, rfl⟩ := View.exists_emb_of_mem_set _ hi
  refine (View.write_emb_of_mem (v := (slot c).view) fd _ (Finset.mem_univ y)).trans ?_
  have hy : y = ValueIdx.ix2 (y 0 : Fin 64) (y 1 : Fin 1024) := (ValueIdx.eq_ix2 y)
  have hr : (slot c).view.emb y = (rS c).emb (Shape.reshapeEquiv squeezes_S1x64x1024_S64x1024.numel_eq y) := rfl
  have hq : Shape.reshapeEquiv squeezes_S1x64x1024_S64x1024.numel_eq y = ValueIdx.ix3 (⟨0, Nat.one_pos⟩ : Fin 1) (y 0 : Fin 64) (y 1 : Fin 1024) := by
    conv_lhs => rw [hy]
    exact ValueIdx.reshapeEquiv_ix2_1ab _ _ _
  have e0 : ((slot c).view.emb y 0 : ℕ) = c.val := by
    rw [hr, hq]; exact (ValueKit.rect_emb_unit_val _ _ _ _ _).trans (Nat.add_zero _)
  have e1 : ((slot c).view.emb y 1 : ℕ) = (y 0).val := by
    rw [hr, hq]; exact (ValueKit.rect_emb_unit_val _ _ _ _ _).trans (Nat.zero_add _)
  have e2 : ((slot c).view.emb y 2 : ℕ) = (y 1).val := by
    rw [hr, hq]; exact (ValueKit.rect_emb_unit_val _ _ _ _ _).trans (Nat.zero_add _)
  have hc : ((slot c).view.emb y 0 : Fin 16) = c := Fin.ext e0
  show p c ((chunk pM j).view.emb y) = p ((slot c).view.emb y 0) _
  rw [hc]
  refine congrArg (p c) (funext fun a => Fin.ext ?_)
  match a with
  | ⟨0, _⟩ => exact (ValueKit.rect_emb_unit_val _ _ _ _ _).trans (by show 64 * j.val + (y 0).val = 64 * j.val + ((slot c).view.emb y 1 : ℕ); rw [e1])
  | ⟨1, _⟩ => exact (ValueKit.rect_emb_unit_val _ _ _ _ _).trans (by show 0 + (y 1).val = ((slot c).view.emb y 2 : ℕ); rw [e2, Nat.zero_add])

end Cert.Proof.KernelIdeal
end
-- ==== Proof.KernelIdeal.Sched.lean ====
/- Which semaphore is raised by whom, in which round, and what each raise hands over. -/
module

public import proofs.«01_k».proof.Proof.KernelIdeal.Values
public import proofs.«01_k».proof.Proof.Gen.KernelIdeal.Launch

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

/-! ## Cells -/

/-- The kernel's own semaphores of one device: gather sent, gather arrived, scatter sent, scatter arrived, weights fetched. -/
inductive SK where
  | agS (j : Fin 16) | agR (j : Fin 16) | rsS (j : Fin 16) | rsR (j : Fin 16) | wd (i : Fin 2)
  deriving DecidableEq, Fintype

/-- With the barrier's. -/
abbrev CK : Type := Option SK

abbrev barS : Sem sig := (SemArray.scalar (sig.barrier 0 rfl) : Sems sig S_).sem

def osem : SK → SemLoc sig
  | .agS j => .dma (sem16 cc0_scratch8 j) | .agR j => .dma (sem16 cc0_scratch9 j)
  | .rsS j => .dma (sem16 cc0_scratch10 j) | .rsR j => .dma (sem16 cc0_scratch11 j)
  | .wd i => .dma (sem2 cc0_scratch12 i)
def csem : CK → SemLoc sig
  | none => .reg barS | some k => osem k
theorem osem_inj : Function.Injective osem := by
  have h : ∀ a b : SK, osem a = osem b → a = b := by decide +kernel
  exact fun a b => h a b
theorem csem_inj : Function.Injective csem := by
  have h : ∀ k : SK, osem k ≠ .reg barS := fun k => by cases k <;> exact fun h => by cases h
  rintro (_ | a) (_ | b) e
  · rfl
  · exact absurd e.symm (h b)
  · exact absurd e (h a)
  · exact congrArg some (osem_inj e)

/-- Cell `k` of device `d`. -/
abbrev cell (d : Dev nD) (k : CK) : GSem nD τ sig := ((d : Thread nD τ), csem k)
abbrev cel (ck : Dev nD × CK) : GSem nD τ sig := cell ck.1 ck.2

open Classical in
/-- The cell's number, if it is one of these. -/
def dec (g : GSem nD τ sig) : Option CK :=
  if h : g.1.2 = .tc ∧ ∃ k, csem k = g.2 then some h.2.choose else none
theorem dec_cell (d : Dev nD) (k : CK) : dec (cell d k) = some k := by
  unfold dec
  have h : (cell d k).1.2 = .tc ∧ ∃ k', csem k' = (cell d k).2 := ⟨rfl, k, rfl⟩
  rw [dif_pos h]
  exact congrArg some (csem_inj h.2.choose_spec)
theorem dec_none {g : GSem nD τ sig} (h : ∀ k, csem k ≠ g.2) : dec g = none := by
  unfold dec
  rw [dif_neg (fun h' => h'.2.elim h)]
theorem cel_inj : Function.Injective cel := by
  rintro ⟨d, k⟩ ⟨d', k'⟩ h
  have h1 : d = d' := congrArg (fun g : GSem nD τ sig => g.1.1) h
  have h2 : k = k' := csem_inj (congrArg Prod.snd h)
  rw [h1, h2]

/-- What a transfer of a chunk, and of each weight matrix, counts. -/
def N : ℕ := (chunk xM 0).view.dmaCredit
def NW : Fin 2 → ℕ
  | 0 => siM.view.dmaCredit | 1 => soM.view.dmaCredit
theorem N_chunkX (j : Fin 16) : (chunk xM j).view.dmaCredit = N := rfl
theorem N_slot (j : Fin 16) : (slot j).view.dmaCredit = N := by
  have h : ∀ j, (slot j).view.dmaCredit = (chunk xM 0).view.dmaCredit := by decide +kernel
  exact h j
theorem N_pos : 0 < N := View.dmaCredit_pos _ (by decide)
theorem NW_pos : ∀ i, 0 < NW i
  | 0 => View.dmaCredit_pos _ (by decide)
  | 1 => View.dmaCredit_pos _ (by decide)
attribute [irreducible] N NW

/-! ## Contents held -/

/-- Rows of device `j` in the gathered buffer of device `d`. -/
def xP (d : Dev nD) (j : Fin 16) (q : PosShare TreeShare) (f : S1024x1024.Idx → Elt F .bf16) : sProp 𝕄 :=
  ((d : Thread nD τ).loc cc0_scratch0) ↦[cS j]{q} (f : Buf (Elt F) ((d : Thread nD τ).loc cc0_scratch0))
def pP (d : Dev nD) (j : Fin 16) (f : S1024x1024.Idx → Elt F .bf16) : sProp 𝕄 :=
  ((d : Thread nD τ).loc cc0_scratch1) ↦[cS j]{fullShare} (f : Buf (Elt F) ((d : Thread nD τ).loc cc0_scratch1))
def rP (d : Dev nD) (j : Fin 16) (f : S16x64x1024.Idx → Elt F .bf16) : sProp 𝕄 :=
  ((d : Thread nD τ).loc cc0_scratch2) ↦[sS j]{fullShare} (f : Buf (Elt F) ((d : Thread nD τ).loc cc0_scratch2))
def aP (d : Dev nD) (f : Vec F S64x1024 .f32) : sProp 𝕄 :=
  ((d : Thread nD τ).loc cc0_scratch3) ↦{fullShare} (f : Buf (Elt F) ((d : Thread nD τ).loc cc0_scratch3))
def siP (d : Dev nD) (f : Vec F S1024x2048 .f32) : sProp 𝕄 :=
  ((d : Thread nD τ).loc cc0_scratch4) ↦{fullShare} (f : Buf (Elt F) ((d : Thread nD τ).loc cc0_scratch4))
def soP (d : Dev nD) (f : Vec F S2048x1024 .f32) : sProp 𝕄 :=
  ((d : Thread nD τ).loc cc0_scratch5) ↦{fullShare} (f : Buf (Elt F) ((d : Thread nD τ).loc cc0_scratch5))
def biP (d : Dev nD) (i : Fin 2) (f : S2x1024x2048.Idx → Elt F .bf16) : sProp 𝕄 :=
  ((d : Thread nD τ).loc cc0_scratch6) ↦[bI i]{fullShare} (f : Buf (Elt F) ((d : Thread nD τ).loc cc0_scratch6))
def boP (d : Dev nD) (i : Fin 2) (f : S2x2048x1024.Idx → Elt F .bf16) : sProp 𝕄 :=
  ((d : Thread nD τ).loc cc0_scratch7) ↦[bO i]{fullShare} (f : Buf (Elt F) ((d : Thread nD τ).loc cc0_scratch7))
/-- Layer `l`'s weight arrays on device `d`. -/
def wiP (d : Dev nD) : Fin 3 → Vec F S1024x2048 .f32 → sProp 𝕄
  | 0, f => ((d : Thread nD τ).loc main_arg1) ↦{fullShare} (f : Buf (Elt F) ((d : Thread nD τ).loc main_arg1))
  | 1, f => ((d : Thread nD τ).loc main_arg2) ↦{fullShare} (f : Buf (Elt F) ((d : Thread nD τ).loc main_arg2))
  | 2, f => ((d : Thread nD τ).loc main_arg3) ↦{fullShare} (f : Buf (Elt F) ((d : Thread nD τ).loc main_arg3))
def woP (d : Dev nD) : Fin 3 → Vec F S2048x1024 .f32 → sProp 𝕄
  | 0, f => ((d : Thread nD τ).loc main_arg4) ↦{fullShare} (f : Buf (Elt F) ((d : Thread nD τ).loc main_arg4))
  | 1, f => ((d : Thread nD τ).loc main_arg5) ↦{fullShare} (f : Buf (Elt F) ((d : Thread nD τ).loc main_arg5))
  | 2, f => ((d : Thread nD τ).loc main_arg6) ↦{fullShare} (f : Buf (Elt F) ((d : Thread nD τ).loc main_arg6))

section Storable
omit [FloatOps F]
instance (d j q f) : BI.Storable (upEmb : UEmb _ 𝕄) (xP (F := F) d j q f) := by unfold xP; infer_instance
instance (d j f) : BI.Storable (upEmb : UEmb _ 𝕄) (pP (F := F) d j f) := by unfold pP; infer_instance
instance (d j f) : BI.Storable (upEmb : UEmb _ 𝕄) (rP (F := F) d j f) := by unfold rP; infer_instance
instance (d f) : BI.Storable (upEmb : UEmb _ 𝕄) (siP (F := F) d f) := by unfold siP; infer_instance
instance (d f) : BI.Storable (upEmb : UEmb _ 𝕄) (soP (F := F) d f) := by unfold soP; infer_instance
instance (d l f) : BI.Storable (upEmb : UEmb _ 𝕄) (wiP (F := F) d l f) := by unfold wiP; split <;> infer_instance
instance (d l f) : BI.Storable (upEmb : UEmb _ 𝕄) (woP (F := F) d l f) := by unfold woP; split <;> infer_instance
end Storable

/-! ## The schedule -/

variable (I : In F)

/-- Of the share a device sets aside for its sends, what is left after `n` of them: each takes the right half of the rest. -/
def kept : ℕ → PosShare TreeShare
  | 0 => (fullShare : PosShare TreeShare).right
  | n + 1 => (kept n).left
/-- The share of a device's own rows read by the transfer to device `j`. -/
abbrev lent (j : Fin 16) : PosShare TreeShare := (kept j.val).right

/-- Slot `c` of `j`'s receive buffer, free. -/
def rFree (j : Dev nD) (c : Fin 16) : sProp 𝕄 := iprop(∃ f, rP j c f)
def xFree (j : Dev nD) (c : Fin 16) : sProp 𝕄 := iprop(∃ f, xP j c fullShare f)
def pFree (j : Dev nD) (c : Fin 16) : sProp 𝕄 := iprop(∃ f, pP j c f)

/-- What goes with device `c`'s rows to device `j` in round `l`: leave to send back the partial product. -/
def ret (c : Dev nD) (j : Fin 16) (l : ℕ) : sProp 𝕄 :=
  if l < 3 then iprop(rFree c j ∗ reached ER (cell c (some (.rsR j))) l) else iprop(emp)

/-- Device `p`'s raise of cell `k` of device `d` in round `l`. -/
def pay (d : Dev nD) (k : CK) (l : ℕ) (p : Dev nD) : sProp 𝕄 :=
  match k with
  | none => xFree p d
  | some (.agS j) => xP d d (lent j) (XF I l)
  | some (.agR j) => iprop(xP d j fullShare (XF I l) ∗ ret j d l)
  | some (.rsS j) => pP d j (PF I l d)
  | some (.rsR j) => iprop(rP d j (RBF I l d) ∗ xFree j d ∗ reached ER (cell j (some (.agR d))) (l + 1))
  | some (.wd 0) => iprop(siP d (I.wi (lay l) d) ∗ wiP d (lay l) (I.wi (lay l) d))
  | some (.wd 1) => iprop(soP d (I.wo (lay l) d) ∗ woP d (lay l) (I.wo (lay l) d))

def dut (d : Dev nD) (k : CK) (l : ℕ) : Finset (Dev nD) :=
  match k with
  | none => if l = 0 then Finset.univ.erase d else ∅
  | some (.agS j) => if l < 4 ∧ j ≠ d then {d} else ∅
  | some (.agR j) => if l < 4 ∧ j ≠ d then {j} else ∅
  | some (.rsS j) => if l < 3 ∧ j ≠ d then {d} else ∅
  | some (.rsR j) => if l < 3 ∧ j ≠ d then {j} else ∅
  | some (.wd _) => if l < 3 then {d} else ∅

def amt (k : CK) : ℕ :=
  match k with
  | none => 1
  | some (.wd i) => NW i
  | _ => N
theorem amt_pos (k : CK) : 0 < amt k := by
  unfold amt; split
  · exact Nat.one_pos
  · exact NW_pos _
  · exact N_pos

instance (c : Dev nD) (j l) : BI.Storable (upEmb : UEmb _ 𝕄) (ret (F := F) c j l) := by
  unfold ret rFree; split <;> infer_instance
instance (d k l p) : BI.Storable (upEmb : UEmb _ 𝕄) (pay I d k l p) := by
  unfold pay xFree; split <;> infer_instance

def Sch : Rounds.Schedule (GSem nD τ sig) (Dev nD) 𝕄 where
  duties g l := match dec g with | none => ∅ | some k => dut g.1.1 k l
  amount g _ _ := match dec g with | none => 1 | some k => amt k
  payload g l p := match dec g with | none => iprop(emp) | some k => pay I g.1.1 k l p
  amount_pos g _ _ _ := by
    split
    · exact Nat.one_pos
    · exact amt_pos _
  unitless _ := False

instance Sch_payload_storable (g : GSem nD τ sig) (l : ℕ) (p : Dev nD) :
    BI.Storable (upEmb : UEmb _ 𝕄) ((Sch I).payload g l p) := by
  show BI.Storable upEmb (match dec g with | none => iprop(emp) | some k => pay I g.1.1 k l p)
  split <;> infer_instance

theorem Sch_duties (d : Dev nD) (k : CK) (l : ℕ) : (Sch I).duties (cell d k) l = dut d k l := by
  show (match dec (cell d k) with | none => ∅ | some k => dut (cell d k).1.1 k l) = _
  rw [dec_cell]
theorem Sch_amount (d : Dev nD) (k : CK) (l : ℕ) (p : Dev nD) : (Sch I).amount (cell d k) l p = amt k := by
  show (match dec (cell d k) with | none => 1 | some k => amt k) = _
  rw [dec_cell]
theorem Sch_payload (d : Dev nD) (k : CK) (l : ℕ) (p : Dev nD) : (Sch I).payload (cell d k) l p = pay I d k l p := by
  show (match dec (cell d k) with | none => iprop(emp) | some k => pay I (cell d k).1.1 k l p) = _
  rw [dec_cell]
theorem Sch_expect (d : Dev nD) (k : CK) (l : ℕ) : (Sch I).expect (cell d k) l = (dut d k l).card * amt k := by
  unfold Schedule.expect Schedule.amountOf
  rw [Sch_duties, Finset.sum_congr rfl fun p _ => Sch_amount I d k l p, Finset.sum_const, smul_eq_mul]

/-! ## What a device owes -/

/-- The `k`-th raise device `c` makes of another device's cell: the barrier's, then round by round the gather's and the scatter's. -/
def obC (c : Dev nD) (k : ℕ) : Option (Dev nD × CK × ℕ) :=
  if k < 15 then some (⟨(c.val + k + 1) % 16, by have := nD_eq; omega⟩, none, 0)
  else if k < 16 then none
  else
    let m : Fin 16 := ⟨(k - 16) % 16, Nat.mod_lt _ (by decide)⟩
    if m = c then none
    else if (k - 16) % 32 < 16 then some (m, some (.agR c), (k - 16) / 32) else some (m, some (.rsR c), (k - 16) / 32)
def ob (c : Dev nD) (k : ℕ) : CellTallies nD τ sig ℕ :=
  match obC c k with | none => 0 | some (d, s, l) => tallyAt (cell d s) l (amt s)

/-- What is left to raise from the `n`-th on. -/
def O (c : Dev nD) (n : ℕ) : CellTallies nD τ sig ℕ := ∑ k ∈ Finset.Ico n 128, ob c k

theorem O_step (c : Dev nD) (n : ℕ) (h : n < 128) : O c n = O c (n + 1) + ob c n := by
  unfold O; rw [Finset.sum_eq_sum_Ico_succ_bot h, add_comm]
theorem O_last (c : Dev nD) : O c 128 = 0 := by unfold O; rw [Finset.Ico_self, Finset.sum_empty]

theorem obC_bar (c : Dev nD) (k : ℕ) (h : k < 15) (j : Dev nD) (hj : j.val = (c.val + k + 1) % 16) : obC c k = some (j, none, 0) := by
  unfold obC; rw [if_pos h]; exact congrArg (fun x => some (x, none, 0)) (Fin.ext hj.symm)
theorem obC_15 (c : Dev nD) : obC c 15 = none := by unfold obC; rw [if_neg (by omega), if_pos (by omega)]
theorem obC_ag (c : Dev nD) (j : Fin 16) (l : ℕ) (h : j ≠ c) : obC c (16 + 32 * l + j.val) = some (j, some (.agR c), l) := by
  have hj := j.isLt
  have e : (⟨(16 + 32 * l + j.val - 16) % 16, Nat.mod_lt _ (by decide)⟩ : Fin 16) = j := Fin.ext (by show (16 + 32 * l + j.val - 16) % 16 = _; omega)
  unfold obC; rw [if_neg (by omega), if_neg (by omega)]
  dsimp only
  rw [e, if_neg h, if_pos (by omega), show (16 + 32 * l + j.val - 16) / 32 = l by omega]
theorem obC_rs (c : Dev nD) (j : Fin 16) (l : ℕ) (h : j ≠ c) : obC c (32 + 32 * l + j.val) = some (j, some (.rsR c), l) := by
  have hj := j.isLt
  have e : (⟨(32 + 32 * l + j.val - 16) % 16, Nat.mod_lt _ (by decide)⟩ : Fin 16) = j := Fin.ext (by show (32 + 32 * l + j.val - 16) % 16 = _; omega)
  unfold obC; rw [if_neg (by omega), if_neg (by omega)]
  dsimp only
  rw [e, if_neg h, if_neg (by omega), show (32 + 32 * l + j.val - 16) / 32 = l by omega]
theorem obC_self (c : Dev nD) (n : ℕ) (h : 16 ≤ n) (hc : (n - 16) % 16 = c.val) : obC c n = none := by
  unfold obC; rw [if_neg (by omega), if_neg (by omega)]
  dsimp only
  rw [if_pos (Fin.ext hc)]
theorem ob_some {c : Dev nD} {n : ℕ} {d : Dev nD} {s : CK} {l : ℕ} (h : obC c n = some (d, s, l)) : ob c n = tallyAt (cell d s) l (amt s) := by
  unfold ob; rw [h]
theorem ob_none {c : Dev nD} {n : ℕ} (h : obC c n = none) : ob c n = 0 := by
  unfold ob; rw [h]

theorem O_pos {c : Dev nD} {n : ℕ} {g : GSem nD τ sig} {u : ℕ} (h : 0 < O c n g u) :
    ∃ k d s, n ≤ k ∧ k < 128 ∧ obC c k = some (d, s, u) ∧ g = cell d s := by
  unfold O at h
  rw [Finset.sum_apply, Finsupp.finset_sum_apply] at h
  obtain ⟨k, hk, hp⟩ := Finset.exists_ne_zero_of_sum_ne_zero (Nat.pos_iff_ne_zero.mp h)
  rw [Finset.mem_Ico] at hk
  unfold ob at hp
  cases e : obC c k with
  | none => rw [e] at hp; exact absurd rfl hp
  | some x =>
    obtain ⟨d, s, l⟩ := x
    rw [e] at hp
    dsimp only at hp
    rw [tallyAt_apply] at hp
    by_cases h' : g = cell d s ∧ u = l
    · exact ⟨k, d, s, hk.1, hk.2, by rw [h'.2]; exact e, h'.1⟩
    · rw [if_neg h'] at hp; exact absurd rfl hp

/-! ## Levels -/

def lvC (k : CK) (l : ℕ) : ℕ :=
  match k with
  | none => 1
  | some (.agR _) => 2 * l + 2
  | some (.rsR _) => 2 * l + 3
  | _ => 0
def lv (g : GSem nD τ sig) (l : ℕ) : ℕ := match dec g with | none => 0 | some k => lvC k l
def L (g : GSem nD τ sig) : Finset ℕ := if g.1.2 = .tc then Finset.range 4 else ∅
theorem lv_cell (d : Dev nD) (k : CK) (l : ℕ) : lv (cell d k) l = lvC k l := by unfold lv; rw [dec_cell]
theorem L_of_ne (g : GSem nD τ sig) (h : g.1.2 ≠ .tc) : L g = ∅ := if_neg h
theorem L_tc (c : Dev nD) (sm : SemLoc sig) : L ((c : Thread nD τ), sm) = Finset.range 4 := if_pos rfl

theorem obC_lev {c : Dev nD} {k : ℕ} {d : Dev nD} {s : CK} {l : ℕ} (h : obC c k = some (d, s, l)) (hk : k < 128) :
    l < 4 ∧ 1 ≤ lvC s l ∧ (16 ≤ k → 2 * ((k - 16) / 32) + 2 + (k - 16) % 32 / 16 ≤ lvC s l) := by
  unfold obC at h
  split at h
  · obtain ⟨-, h⟩ := Prod.mk.inj (Option.some.inj h); obtain ⟨rfl, rfl⟩ := Prod.mk.inj h
    exact ⟨by omega, le_rfl, fun h => by omega⟩
  · split at h
    · cases h
    · dsimp only at h
      split at h
      · cases h
      · split at h
        · obtain ⟨-, h⟩ := Prod.mk.inj (Option.some.inj h); obtain ⟨rfl, rfl⟩ := Prod.mk.inj h
          refine ⟨by omega, ?_, fun h => ?_⟩ <;> unfold lvC <;> dsimp only <;> omega
        · obtain ⟨-, h⟩ := Prod.mk.inj (Option.some.inj h); obtain ⟨rfl, rfl⟩ := Prod.mk.inj h
          refine ⟨by omega, ?_, fun h => ?_⟩ <;> unfold lvC <;> dsimp only <;> omega

/-- A wait below everything still owed. -/
theorem mayWait_of (c : Dev nD) (sm : SemLoc sig) (l n : ℕ) (hl : l < 4)
    (h : lv ((c : Thread nD τ), sm) l = 0 ∨ (16 ≤ n ∧ lv ((c : Thread nD τ), sm) l < 2 * ((n - 16) / 32) + 2 + (n - 16) % 32 / 16)) :
    (levAts L lv : sProp 𝕄) ⊢ MayWait (c : Thread nD τ) sm l (O c n) := by
  refine MayOwe.of_cut (L := L) (lev := lv) (lv ((c : Thread nD τ), sm) l)
    (fun p hp => by rw [Finset.mem_singleton.mp hp, L_tc]; exact Finset.mem_range.mpr hl)
    (fun g u hg => by
      obtain ⟨k, d, s, -, hk, e, rfl⟩ := O_pos hg
      rw [L_tc]; exact Finset.mem_range.mpr (obC_lev e hk).1)
    (fun p hp => by rw [Finset.mem_singleton.mp hp])
    (fun g u hg => by
      obtain ⟨k, d, s, hn, hk, e, rfl⟩ := O_pos hg
      rw [lv_cell]
      obtain ⟨-, h1, h2⟩ := obC_lev e hk
      rcases h with h | ⟨h16, h⟩
      · omega
      · have := h2 (by omega); omega)

end Cert.Proof.KernelIdeal
end
-- ==== Proof.KernelIdeal.Ops.lean ====
/- The steps between devices: each transfer and each wait, from what it needs to what it leaves. -/
module

public import proofs.«01_k».proof.Proof.KernelIdeal.Sched

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program `p` runs on device `c` and ends in `Q`. -/
abbrev wpc {α : Type} (c : Dev nD) (p : P F α) (Q : α → sProp 𝕄) : sProp 𝕄 :=
  wp frame (wpE (defs₀ (F := F)) 𝒱₀ (c : Thread nD τ) none) Set.univ p Q

variable (I : In F) (K : Dev nD × CK → ℕ)

/-- What every step may use: the cells' invariants, and the levels. -/
def Ctx : sProp 𝕄 :=
  iprop((bigSep Finset.univ fun ck : Dev nD × CK => cellInv ER (Sch I) (K ck) (cel ck))
    ∗ (bigSep Finset.univ fun ck : Dev nD × CK => reached ER (cel ck) 0) ∗ levAts L lv)
instance : BI.Persistent (Ctx I K) := by unfold Ctx; infer_instance

omit [FloatOps F] in
theorem big_at {ι : Type} [DecidableEq ι] {s : Finset ι} {Φ : ι → sProp 𝕄} {i : ι} (h : i ∈ s) : (bigSep s Φ : sProp 𝕄) ⊢ Φ i :=
  bigSep_elim h

theorem Ctx_inv (d : Dev nD) (k : CK) : Ctx I K ⊢ cellInv ER (Sch I) (K (d, k)) (cell d k) := by
  unfold Ctx
  iintro ⟨H, -, -⟩
  iapply (big_at (s := Finset.univ) (Φ := fun ck : Dev nD × CK => cellInv ER (Sch I) (K ck) (cel ck)) (Finset.mem_univ (d, k)))
  iexact H
theorem Ctx_reached (d : Dev nD) (k : CK) : Ctx I K ⊢ reached ER (cell d k) 0 := by
  unfold Ctx
  iintro ⟨-, H, -⟩
  iapply (big_at (s := Finset.univ) (Φ := fun ck : Dev nD × CK => (reached ER (cel ck) 0 : sProp 𝕄)) (Finset.mem_univ (d, k)))
  iexact H
theorem Ctx_lev : Ctx I K ⊢ levAts L lv := by
  unfold Ctx
  iintro ⟨-, -, H⟩
  iexact H

/-- Device `c` owes everything from the `n`-th raise on. -/
def owesAny (c : Dev nD) (n : ℕ) : sProp 𝕄 := iprop(∃ W, owes (c : Thread nD τ) (O c n) W)
/-- Device `c` is at round `r` of its cell `k`. -/
def At (c : Dev nD) (k : CK) (r : ℕ) : sProp 𝕄 := iprop(atPos ER (cell c k) r ∅ 0 ∗ reached ER (cell c k) r)
/-- The leave to raise cell `k` of device `d` for round `r` as device `p`. -/
def tok (d : Dev nD) (k : CK) (r : ℕ) (p : Dev nD) : sProp 𝕄 := dutyTok ER (cell d k) r p
def rch (d : Dev nD) (k : CK) (r : ℕ) : sProp 𝕄 := reached ER (cell d k) r
/-- Device `c` may wait for cell `k` in round `r`. -/
def crd (c : Dev nD) (k : CK) (r : ℕ) : sProp 𝕄 := cred (tallyAt (cell c k) r (amt k))

instance (d k r) : BI.Persistent (rch (F := F) d k r) := by unfold rch; infer_instance

theorem pays_one (c : Dev nD) (k : CK) (l : ℕ) (p : Dev nD) (hd : dut c k l = {p}) :
    bigSep ((Sch I).duties (cell c k) l \ ∅) (fun d => (Sch I).payload (cell c k) l d) = pay I c k l p := by
  rw [Sch_duties, hd, Finset.sdiff_empty, bigSep_singleton, Sch_payload]

variable {α : Type}
variable {Q : α → sProp (MT nD τ sig ℕ (Elt F) ℕ UU ℕ)}

/-- A wait for a transfer. -/
theorem wp_wait (c : Dev nD) (sk : SK) (l n : ℕ) (p : Dev nD) (hd : dut c (some sk) l = {p}) (hl : l < 4)
    (hlv : lvC (some sk) l = 0 ∨ (16 ≤ n ∧ lvC (some sk) l < 2 * ((n - 16) / 32) + 2 + (n - 16) % 32 / 16))
    {sem : DmaSem sig} (hs : osem sk = .dma sem) {sp sp' : Space} {s s' : Shape} {e e' : EltTy}
    {src : Memref sig .tc sp' s' e'} {dst : Memref sig .tc sp s e} (hN : dst.view.dmaCredit = amt (some sk))
    {h1 : src.view.WordExact} {h2 : dst.view.WordExact} {k : PUnit → P F α} :
    iprop(Ctx I K ∗ crd c (some sk) l ∗ At c (some sk) l ∗ owesAny c n)
      ⊢ iprop((pay I c (some sk) l p ∗ At c (some sk) (l + 1) ∗ owesAny c n -∗ wpc c (k ⟨⟩) Q)
        -∗ wpc c (.op (.waitDma2 sem src dst h1 h2) k) Q) := by
  have hw : ∀ K' : PUnit → sProp 𝕄, wpE (defs₀ (F := F)) 𝒱₀ (c : Thread nD τ) none Set.univ (.waitDma2 sem src dst h1 h2) K'
      = waitSpec (c : Thread nD τ) Set.univ (csem (some sk)) (amt (some sk)) K' := fun K' => by
    rw [show csem (some sk) = .dma sem from hs, ← hN]; exact wpE_waitDma2_eq 𝒱₀ (c : Thread nD τ) none Set.univ K'
  have hx : 0 + amt (some sk) = (Sch I).expect (cell c (some sk)) l := by rw [Nat.zero_add, Sch_expect, hd, Finset.card_singleton, Nat.one_mul]
  unfold crd At owesAny
  iintro ⟨#HC, Hc, ⟨Hat, -⟩, ⟨%W, Ho⟩⟩ Hk
  iapply (Rounds.wp_wait_rest_token 𝒱₀ ER (Sch I) (c : Thread nD τ) none (κ := K (c, some sk)) (sm := csem (some sk)) (k' := amt (some sk))
      (w := .waitDma2 sem src dst h1 h2)
      hw (Set.mem_univ _) l (O := O c n) (W := W) (R := l) (m := 0) (T := ∅)
      hx) $$ [Hc Hat Ho]
  · isplitr; · iapply (Ctx_inv I K c (some sk)); iexact HC
    isplitl [Hc]; · iexact Hc
    isplitl [Ho]; · iexact Ho
    isplitr
    · iapply (mayWait_of c (csem (some sk)) l n hl (by rw [show lv ((c : Thread nD τ), csem (some sk)) l = _ from lv_cell c (some sk) l]; exact hlv))
      iapply (Ctx_lev I K); iexact HC
    iexact Hat
  iintro ⟨Ho, Hat, Hr, Hp⟩
  iapply Hk
  ihave Hp := (Entails.of_eq (pays_one I c (some sk) l p hd)) $$ Hp
  isplitl [Hp]; · iexact Hp
  isplitl [Hat Hr]
  · isplitl [Hat]; · iexact Hat
    iexact Hr
  iexists _; iexact Ho

/-- A transfer to device `j` that raises cell `some kS` here and `some kR` there. -/
theorem wp_xfer (c j : Dev nD) (kS kR : SK) (l n : ℕ) (hj : obC c n = some (j, some kR, l)) (hn : n < 128)
    (hdS : c ∈ dut c (some kS) l) (hdR : c ∈ dut j (some kR) l) (haS : amt (some kS) = N) (haR : amt (some kR) = N)
    {s : Shape} {e : EltTy} {src dst : Memref sig .tc .vmem s e} {semS semR : DmaSem sig} (hS : osem kS = .dma semS) (hR : osem kR = .dma semR)
    (hN : dst.view.dmaCredit = N) {q : PosShare TreeShare}
    {fs : Buf (Elt F) (src.view.loc (c : Thread nD τ))} {fd : Buf (Elt F) (dst.view.loc (j : Thread nD τ))} {R : sProp 𝕄}
    (hp1 : (src.view.loc (c : Thread nD τ) ↦[src.view.set]{q} fs) ⊢ pay I c (some kS) l c)
    (hp2 : iprop((dst.view.loc (j : Thread nD τ) ↦[dst.view.set]{fullShare} (dst.view.write (Elt F) fd (src.view.read (Elt F) fs) Finset.univ)) ∗ R)
      ⊢ pay I j (some kR) l c)
    {hsc : (dst : Memref sig (Dev.tc j : Thread nD τ).2.kind .vmem s e).view.ref.isScScratch = false} {h1 : src.view.WordExact} {h2 : (dst : Memref sig (Dev.tc j : Thread nD τ).2.kind .vmem s e).view.WordExact}
    {h3 : DmaTarget.Typed .vmem (.dma semR) (.remote (Dev.tc j : Thread nD τ) dst (.dma semS) hsc)} {k : PUnit → P F α} :
    iprop(Ctx I K ∗ (src.view.loc (c : Thread nD τ) ↦[src.view.set]{q} fs) ∗ ((dst.view.loc (j : Thread nD τ) ↦[dst.view.set]{fullShare} fd) ∗ R)
        ∗ owesAny c n ∗ tok c (some kS) l c ∗ rch c (some kS) l ∗ tok j (some kR) l c ∗ rch j (some kR) l)
      ⊢ iprop((crd c (some kS) l ∗ owesAny c (n + 1) -∗ wpc c (k ⟨⟩) Q)
        -∗ wpc c (.op (.enqueueDma src (.remote (Dev.tc j : Thread nD τ) dst (.dma semS) hsc) (.dma semR) h1 h2 h3) k) Q) := by
  have gS : ((c : Thread nD τ), SemLoc.dma semS) = cell c (some kS) := by rw [← hS]; rfl
  have gR : ((j : Thread nD τ), SemLoc.dma semR) = cell j (some kR) := by rw [← hR]; rfl
  unfold crd owesAny tok rch
  rw [haS, ← gS, ← gR]
  iintro ⟨#HC, Hs, Hd, ⟨%W, Ho⟩, H1, H2, H3, H4⟩ Hk
  iapply (Rounds.wp_send_pointsTo_with 𝒱₀ ER (Sch I) (c : Thread nD τ) none (κ₁ := K (c, some kS)) (κ₂ := K (j, some kR)) (F := R)
    (c' := (j : Thread nD τ)) (src := src) (dst := dst) (sS := .dma semS) (sem := .dma semR) (q := q) (fs := fs) (fd := fd)
    (r₁ := l) (r₂ := l) (d₁ := c) (d₂ := c) (by rw [gS, Sch_duties]; exact hdS) (by rw [gR, Sch_duties]; exact hdR)
    l l N hN (by rw [gS, Sch_amount, haS]) (by rw [gR, Sch_amount, haR]) (O₀ := O c n) (O c (n + 1)) (by rw [gR, O_step c n hn, ob_some hj, haR]) (W := W)
    (by rw [gS, Sch_payload]; exact hp1) (by rw [gR, Sch_payload]; exact hp2)) $$ [Hs Hd Ho H1 H2 H3 H4]
  · isplitr; · rw [gS]; iapply (Ctx_inv I K c (some kS)); iexact HC
    isplitr; · rw [gR]; iapply (Ctx_inv I K j (some kR)); iexact HC
    isplitl [Hs]; · iexact Hs
    isplitl [Hd]; · iexact Hd
    isplitl [Ho]; · iexact Ho
    isplitl [H1]; · iexact H1
    isplitl [H2]; · iexact H2
    isplitl [H3]; · iexact H3
    iexact H4
  iintro ⟨Hc, Ho⟩
  iapply Hk
  isplitl [Hc]; · iexact Hc
  iexists W; iexact Ho

/-! ## The transfers and waits of the gather and of the scatter -/

theorem xP_view (d : Dev nD) (j : Fin 16) (q : PosShare TreeShare) (f : S1024x1024.Idx → Elt F .bf16) :
    (((chunkOwn xM j).view.loc (d : Thread nD τ) ↦[(chunkOwn xM j).view.set]{q} (f : Buf (Elt F) ((chunkOwn xM j).view.loc (d : Thread nD τ)))) : sProp 𝕄) = xP d j q f := by
  unfold xP
  rw [show (chunkOwn xM j).view.set = cS j from (View.set_slice_whole _ _).trans ((congrArg (fun r : Rect S1024x1024 => (r.set : Finset S1024x1024.Idx)) (Rect.unit_congr (k0_off3_eq j) _ _)).trans (rC_set j))]
theorem pP_view (d : Dev nD) (j : Fin 16) (f : S1024x1024.Idx → Elt F .bf16) :
    (((chunk pM j).view.loc (d : Thread nD τ) ↦[(chunk pM j).view.set]{fullShare} (f : Buf (Elt F) ((chunk pM j).view.loc (d : Thread nD τ)))) : sProp 𝕄) = pP d j f := by
  unfold pP
  rw [chunkP_set]
theorem rP_view (d : Dev nD) (j : Fin 16) (f : S16x64x1024.Idx → Elt F .bf16) :
    (((slot j).view.loc (d : Thread nD τ) ↦[(slot j).view.set]{fullShare} (f : Buf (Elt F) ((slot j).view.loc (d : Thread nD τ)))) : sProp 𝕄) = rP d j f := by
  unfold rP
  rw [slot_set]

theorem N_own (d : Dev nD) : (chunkOwn xM d).view.dmaCredit = N := by rw [chunkOwn_eq]; exact N_chunkX d

theorem dut_agS {c j : Fin 16} {l : ℕ} (h : j ≠ c) (hl : l < 4) : dut c (some (.agS j)) l = {c} := if_pos ⟨hl, h⟩
theorem dut_agR {c j : Fin 16} {l : ℕ} (h : j ≠ c) (hl : l < 4) : dut c (some (.agR j)) l = {j} := if_pos ⟨hl, h⟩
theorem dut_rsS {c j : Fin 16} {l : ℕ} (h : j ≠ c) (hl : l < 3) : dut c (some (.rsS j)) l = {c} := if_pos ⟨hl, h⟩
theorem dut_rsR {c j : Fin 16} {l : ℕ} (h : j ≠ c) (hl : l < 3) : dut c (some (.rsR j)) l = {j} := if_pos ⟨hl, h⟩

theorem wp_agSend (c : Dev nD) (j : Fin 16) (h : j ≠ c) (l : ℕ) (hl : l < 4) {rest : P F α} :
    iprop(Ctx I K ∗ xP c c (lent j) (XF I l) ∗ (xFree j c ∗ ret c j l) ∗ owesAny c (16 + 32 * l + j.val)
        ∗ tok c (some (.agS j)) l c ∗ rch c (some (.agS j)) l ∗ tok j (some (.agR c)) l c ∗ rch j (some (.agR c)) l)
      ⊢ iprop((crd c (some (.agS j)) l ∗ owesAny c (16 + 32 * l + j.val + 1) -∗ wpc c rest Q) -∗ wpc c (den c rest (.agSend j)) Q) := by
  have hj := j.isLt
  simp only [den]
  rw [dif_pos ((notPeer_iff c j).2 h)]
  simp only [Prog.lift, Prog.bind_op, Prog.bind_ret]
  unfold xFree
  iintro ⟨#HC, Hs, ⟨⟨%fd, Hd⟩, HR⟩, Ho, H1, H2, H3, H4⟩ Hk
  ihave Hs := (Entails.of_eq (xP_view c c (lent j) (XF I l)).symm) $$ Hs
  ihave Hd := (Entails.of_eq (xP_view j c fullShare fd).symm) $$ Hd
  iapply (wp_xfer I K (k := fun _ => rest) c j (.agS j) (.agR c) l (16 + 32 * l + j.val) (obC_ag c j l h) (by omega)
    (by rw [dut_agS h hl]; exact Finset.mem_singleton_self _) (by rw [dut_agR h.symm hl]; exact Finset.mem_singleton_self _) rfl rfl
    (src := chunkOwn xM c) (dst := chunkOwn xM c) rfl (by rw [semOwn_eq]; rfl) (N_own c) (R := ret c j l)
    (Entails.of_eq (xP_view c c (lent j) (XF I l)))
    (sep_mono_left (Entails.of_eq ((pointsTo_congr (copy_same (chunkOwn xM c).view fd (XF I l))).trans (xP_view j c fullShare (XF I l)))))) $$ [Hs Hd HR Ho H1 H2 H3 H4]
  · isplitr; · iexact HC
    isplitl [Hs]; · iexact Hs
    isplitl [Hd HR]
    · isplitl [Hd]; · iexact Hd
      iexact HR
    isplitl [Ho]; · iexact Ho
    isplitl [H1]; · iexact H1
    isplitl [H2]; · iexact H2
    isplitl [H3]; · iexact H3
    iexact H4
  iexact Hk

theorem wp_agWait (c : Dev nD) (j : Fin 16) (h : j ≠ c) (l n : ℕ) (hl : l < 4) (hn : 32 * l + 32 ≤ n) {rest : P F α} :
    iprop(Ctx I K ∗ crd c (some (.agR j)) l ∗ At c (some (.agR j)) l ∗ owesAny c n)
      ⊢ iprop(((xP c j fullShare (XF I l) ∗ ret j c l) ∗ At c (some (.agR j)) (l + 1) ∗ owesAny c n -∗ wpc c rest Q) -∗ wpc c (den c rest (.agWait j)) Q) := by
  simp only [den]
  rw [dif_pos ((notPeer_iff c j).2 h)]
  simp only [Prog.lift, Prog.bind_op, Prog.bind_ret]
  exact wp_wait I K (k := fun _ => rest) c (.agR j) l n j (dut_agR h hl) hl (.inr ⟨by omega, by show 2 * l + 2 < _; omega⟩) rfl (N_chunkX j)

theorem wp_agDone (c : Dev nD) (j : Fin 16) (h : j ≠ c) (l n : ℕ) (hl : l < 4) {rest : P F α} :
    iprop(Ctx I K ∗ crd c (some (.agS j)) l ∗ At c (some (.agS j)) l ∗ owesAny c n)
      ⊢ iprop((xP c c (lent j) (XF I l) ∗ At c (some (.agS j)) (l + 1) ∗ owesAny c n -∗ wpc c rest Q) -∗ wpc c (den c rest (.agDone j)) Q) := by
  simp only [den]
  rw [dif_pos ((notPeer_iff c j).2 h)]
  simp only [Prog.lift, Prog.bind_op, Prog.bind_ret]
  exact wp_wait I K (k := fun _ => rest) c (.agS j) l n c (dut_agS h hl) hl (.inl rfl) rfl (N_own c)

theorem wp_rsDone (c : Dev nD) (j : Fin 16) (h : j ≠ c) (l n : ℕ) (hl : l < 3) {rest : P F α} :
    iprop(Ctx I K ∗ crd c (some (.rsS j)) l ∗ At c (some (.rsS j)) l ∗ owesAny c n)
      ⊢ iprop((pP c j (PF I l c) ∗ At c (some (.rsS j)) (l + 1) ∗ owesAny c n -∗ wpc c rest Q) -∗ wpc c (den c rest (.rsDone j)) Q) := by
  simp only [den]
  rw [dif_pos ((notPeer_iff c j).2 h)]
  simp only [Prog.lift, Prog.bind_op, Prog.bind_ret]
  exact wp_wait I K (k := fun _ => rest) c (.rsS j) l n c (dut_rsS h hl) (by omega) (.inl rfl) rfl (N_own c)

theorem wp_rsSend_at (c : Dev nD) (j : Fin 16) (h : j ≠ c) (l : ℕ) (hl : l < 3) {dst : Memref sig .tc .vmem S64x1024 .bf16} (e : dst = slot c)
    {semR : DmaSem sig} (hR : osem (.rsR c) = .dma semR)
    {hsc : (dst : Memref sig (Dev.tc j : Thread nD τ).2.kind .vmem S64x1024 .bf16).view.ref.isScScratch = false} {h1 : (chunk pM j).view.WordExact} {h2 : (dst : Memref sig (Dev.tc j : Thread nD τ).2.kind .vmem S64x1024 .bf16).view.WordExact}
    {h3 : DmaTarget.Typed .vmem (.dma semR) (.remote (Dev.tc j : Thread nD τ) dst (.dma (sem16 cc0_scratch10 j)) hsc)} {k : PUnit → P F α} :
    iprop(Ctx I K ∗ pP c j (PF I l c) ∗ rFree j c ∗ (xFree c j ∗ rch c (some (.agR j)) (l + 1)) ∗ owesAny c (32 + 32 * l + j.val)
        ∗ tok c (some (.rsS j)) l c ∗ rch c (some (.rsS j)) l ∗ tok j (some (.rsR c)) l c ∗ rch j (some (.rsR c)) l)
      ⊢ iprop((crd c (some (.rsS j)) l ∗ owesAny c (32 + 32 * l + j.val + 1) -∗ wpc c (k ⟨⟩) Q)
        -∗ wpc c (.op (.enqueueDma (chunk pM j) (.remote (Dev.tc j : Thread nD τ) dst (.dma (sem16 cc0_scratch10 j)) hsc) (.dma semR) h1 h2 h3) k) Q) := by
  have hj := j.isLt
  subst e
  unfold rFree
  iintro ⟨#HC, Hs, ⟨%fd, Hd⟩, HR, Ho, H1, H2, H3, H4⟩ Hk
  ihave Hs := (Entails.of_eq (pP_view c j (PF I l c)).symm) $$ Hs
  ihave Hd := (Entails.of_eq (rP_view j c fd).symm) $$ Hd
  iapply (wp_xfer I K (k := k) c j (.rsS j) (.rsR c) l (32 + 32 * l + j.val) (obC_rs c j l h) (by omega)
    (by rw [dut_rsS h hl]; exact Finset.mem_singleton_self _) (by rw [dut_rsR h.symm hl]; exact Finset.mem_singleton_self _) rfl rfl
    (src := chunk pM j) (dst := slot c) rfl hR (N_slot c) (R := iprop(xFree c j ∗ rch c (some (.agR j)) (l + 1)))
    (Entails.of_eq (pP_view c j (PF I l c)))
    (sep_mono_left (Entails.of_eq ((pointsTo_congr (recv_copy (PF I l) c j fd)).trans (rP_view j c (RBF I l j)))))) $$ [Hs Hd HR Ho H1 H2 H3 H4]
  · isplitr; · iexact HC
    isplitl [Hs]; · iexact Hs
    isplitl [Hd HR]
    · isplitl [Hd]; · iexact Hd
      iexact HR
    isplitl [Ho]; · iexact Ho
    isplitl [H1]; · iexact H1
    isplitl [H2]; · iexact H2
    isplitl [H3]; · iexact H3
    iexact H4
  iexact Hk

theorem wp_rsSend (c : Dev nD) (j : Fin 16) (h : j ≠ c) (l : ℕ) (hl : l < 3) {rest : P F α} :
    iprop(Ctx I K ∗ pP c j (PF I l c) ∗ rFree j c ∗ (xFree c j ∗ rch c (some (.agR j)) (l + 1)) ∗ owesAny c (32 + 32 * l + j.val)
        ∗ tok c (some (.rsS j)) l c ∗ rch c (some (.rsS j)) l ∗ tok j (some (.rsR c)) l c ∗ rch j (some (.rsR c)) l)
      ⊢ iprop((crd c (some (.rsS j)) l ∗ owesAny c (32 + 32 * l + j.val + 1) -∗ wpc c rest Q) -∗ wpc c (den c rest (.rsSend j)) Q) := by
  simp only [den]
  rw [dif_pos ((notPeer_iff c j).2 h)]
  simp only [Prog.lift, Prog.bind_op, Prog.bind_ret]
  exact wp_rsSend_at I K (k := fun _ => rest) c j h l hl (slotOwn_eq c) (semR := semOwn cc0_scratch11 c) (by rw [semOwn_eq]; rfl)

/-- A step aimed at the device itself does nothing. -/
theorem not_peer (c : Dev nD) : ¬ notPeer c c = 1#1 := fun h => (notPeer_iff c c).1 h rfl
theorem self_agSend (c : Dev nD) (rest : P F α) : den c rest (.agSend c) = rest := by simp only [den]; rw [dif_neg (not_peer c)]
theorem self_agWait (c : Dev nD) (rest : P F α) : den c rest (.agWait c) = rest := by simp only [den]; rw [dif_neg (not_peer c)]
theorem self_agDone (c : Dev nD) (rest : P F α) : den c rest (.agDone c) = rest := by simp only [den]; rw [dif_neg (not_peer c)]
theorem self_rsSend (c : Dev nD) (rest : P F α) : den c rest (.rsSend c) = rest := by simp only [den]; rw [dif_neg (not_peer c)]
theorem self_accAdd (c : Dev nD) (rest : P F α) : den c rest (.accAdd c) = rest := by simp only [den]; rw [dif_neg (not_peer c)]
theorem self_rsDone (c : Dev nD) (rest : P F α) : den c rest (.rsDone c) = rest := by simp only [den]; rw [dif_neg (not_peer c)]

end Cert.Proof.KernelIdeal
end
-- ==== Proof.KernelIdeal.Local.lean ====
/- The steps on one device: loads, stores, products, weight fetches and the barrier. -/
module

public import proofs.«01_k».proof.Proof.KernelIdeal.Ops

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)
variable {α : Type}
variable {Q : α → sProp (MT nD τ sig ℕ (Elt F) ℕ UU ℕ)}

/-! ## Elements a load or store touches -/

theorem whole_setOn (b : Ref sig .tc) (r : Rect b.ty.shape) : (Memref.whole b : Memref sig .tc _ _ _).view.setOn r.set = r.set :=
  (View.set_slice _ r).symm.trans (View.set_slice_whole b r)
theorem access_setOn (b : Ref sig .tc) (r : Rect b.ty.shape) : ((Memref.whole b : Memref sig .tc _ _ _).access r).setOn Finset.univ = r.set :=
  (View.setOn_univ _).trans (View.set_slice_whole b r)

theorem zero2 : (![0, 0] : Fin 2 → ℕ) = fun _ => 0 := by funext a; fin_cases a <;> rfl

/-! ## Buffers of the call -/

/-- The rows handed in, and the result's buffer. -/
def xinP (d : Dev nD) (f : Vec F S64x1024 .bf16) : sProp 𝕄 :=
  ((d : Thread nD τ).loc cc0_stg0_0) ↦{fullShare} (f : Buf (Elt F) ((d : Thread nD τ).loc cc0_stg0_0))
def outP (d : Dev nD) (f : Vec F S1024x1024 .f32) : sProp 𝕄 :=
  ((d : Thread nD τ).loc cc0_stg1_0) ↦{fullShare} (f : Buf (Elt F) ((d : Thread nD τ).loc cc0_stg1_0))
def aFree (d : Dev nD) : sProp 𝕄 := iprop(∃ f, aP d f)

theorem rOwn_set (c : Dev nD) : (rOwn c).set = cS c :=
  (congrArg (fun r : Rect S1024x1024 => (r.set : Finset S1024x1024.Idx)) (rOwn_eq c)).trans (rC_set c)

theorem own_store (X : Dev nD → Vec F S64x1024 .bf16) (c : Dev nD) (f : S1024x1024.Idx → Elt F .bf16) (w : Vec F S64x1024 .bf16) (hw : w = X c) :
    ∀ i ∈ cS c, (xM.access (rOwn c)).write (Elt F) f w Finset.univ i = gath X i := fun i hi =>
  store_agree cc0_scratch0 (rOwn c) f (gath X) w (fun x => (gath_chunk X c x).trans (congrFun hw.symm x)) i ((rOwn_set c).symm ▸ hi)
theorem XV_zero (c : Dev nD) : XV I 0 c = k0_pay2 (I.x c) := rfl

theorem wp_xinit (c : Dev nD) {rest : P F α} (fx : Vec F S64x1024 .bf16) (hfx : fx = I.x c) :
    iprop(xinP c fx ∗ xFree c c)
      ⊢ iprop((xinP c fx ∗ xP c c fullShare (XF I 0) -∗ wpc c rest Q) -∗ wpc c (den c rest .xinit) Q) := by
  subst hfx
  simp only [den, Prog.lift, Prog.bind_op, Prog.bind_ret]
  unfold xinP xFree xP
  iintro ⟨Hi, ⟨%f, Hx⟩⟩ Hk
  iapply (wp_load 𝒱₀ (c : Thread nD τ) none Set.univ (m := xinM) (Finset.subset_univ _)) $$ Hi; iintro Hi
  iapply (wp_load 𝒱₀ (c : Thread nD τ) none Set.univ (m := xM) (S := cS c) ((whole_setOn cc0_scratch0 (rOwn c)).trans (rOwn_set c)).subset) $$ Hx; iintro Hx
  iapply (wp_store 𝒱₀ (c : Thread nD τ) none Set.univ (m := xM) (r := rOwn c) (S := cS c) (Mk := Finset.univ)
    ((access_setOn cc0_scratch0 (rOwn c)).trans (rOwn_set c)).subset) $$ Hx; iintro Hx
  iapply Hk
  isplitl [Hi]; · iexact Hi
  ihave Hx := (Entails.of_eq (pointsTo_congr (own_store (XV I 0) c f _
    ((congrArg k0_pay2 (Memref.readAt_unit_zero (Elt F) cc0_stg0_0 zero2 _ (I.x c))).trans (XV_zero I c).symm)))) $$ Hx
  iexact Hx

theorem wp_xput (c : Dev nD) (l : ℕ) {rest : P F α} :
    iprop(aP c (ACC I l c 16) ∗ xFree c c)
      ⊢ iprop((aP c (ACC I l c 16) ∗ xP c c fullShare (XF I (l + 1)) -∗ wpc c rest Q) -∗ wpc c (den c rest .xput) Q) := by
  simp only [den, xputA, xputB, Prog.pure_eq_ret, Prog.lift, Prog.bind_op, Prog.bind_ret]
  unfold aP xFree xP
  iintro ⟨Hi, ⟨%f, Hx⟩⟩ Hk
  iapply (wp_load 𝒱₀ (c : Thread nD τ) none Set.univ (m := aM) (Finset.subset_univ _)) $$ Hi; iintro Hi
  iapply (wp_load 𝒱₀ (c : Thread nD τ) none Set.univ (m := xM) (S := cS c) ((whole_setOn cc0_scratch0 (rOwn c)).trans (rOwn_set c)).subset) $$ Hx; iintro Hx
  iapply (wp_store 𝒱₀ (c : Thread nD τ) none Set.univ (m := xM) (r := rOwn c) (S := cS c) (Mk := Finset.univ)
    ((access_setOn cc0_scratch0 (rOwn c)).trans (rOwn_set c)).subset) $$ Hx; iintro Hx
  iapply Hk
  isplitl [Hi]; · iexact Hi
  ihave Hx := (Entails.of_eq (pointsTo_congr (own_store (XV I (l + 1)) c f _
    ((congrArg (fun v => k0_pay56 (k0_pay55 v)) (Memref.readAt_unit_zero (Elt F) cc0_scratch3 zero2 _ (ACC I l c 16))).trans (XV_succ I l c).symm)))) $$ Hx
  iexact Hx

theorem wp_accInit (c : Dev nD) (l : ℕ) {rest : P F α} :
    iprop(aFree c ∗ pP c c (PF I l c))
      ⊢ iprop((aP c (ACC I l c 0) ∗ pP c c (PF I l c) -∗ wpc c rest Q) -∗ wpc c (den c rest .accInit) Q) := by
  simp only [den, Prog.lift, Prog.bind_op, Prog.bind_ret]
  unfold aFree aP pP
  iintro ⟨⟨%f, Ha⟩, Hp⟩ Hk
  iapply (wp_load 𝒱₀ (c : Thread nD τ) none Set.univ (m := pM) (S := cS c) ((whole_setOn cc0_scratch1 (rOwn c)).trans (rOwn_set c)).subset) $$ Hp; iintro Hp
  iapply (wp_load 𝒱₀ (c : Thread nD τ) none Set.univ (m := aM) (Finset.subset_univ _)) $$ Ha; iintro Ha
  iapply (wp_store 𝒱₀ (c : Thread nD τ) none Set.univ (m := aM) (r := rA) (Mk := Finset.univ) (Finset.subset_univ _)) $$ Ha; iintro Ha
  iapply Hk
  isplitl [Ha]
  · ihave Ha := (Entails.of_eq (congrArg (fun v : Buf (Elt F) ((c : Thread nD τ).loc cc0_scratch3) => (((c : Thread nD τ).loc cc0_scratch3) ↦{fullShare} v : sProp 𝕄))
      (Memref.write_access_unit_zero_univ (Elt F) cc0_scratch3 zero2 _ f _))) $$ Ha
    iexact Ha
  iexact Hp

theorem pay_rsR (c j : Dev nD) (l : ℕ) : pay I c (some (.rsR j)) l j = iprop(rP c j (RBF I l c) ∗ xFree j c ∗ rch j (some (.agR c)) (l + 1)) := rfl

theorem wp_accAdd (c : Dev nD) (j : Fin 16) (h : j ≠ c) (l n : ℕ) (hl : l < 3) (hn : 48 + 32 * l ≤ n) {rest : P F α} :
    iprop(Ctx I K ∗ (crd c (some (.rsR j)) l ∗ At c (some (.rsR j)) l ∗ owesAny c n) ∗ aP c (ACC I l c j.val))
      ⊢ iprop(((rP c j (RBF I l c) ∗ xFree j c ∗ rch j (some (.agR c)) (l + 1)) ∗ At c (some (.rsR j)) (l + 1) ∗ owesAny c n ∗ aP c (ACC I l c (j.val + 1))
          -∗ wpc c rest Q) -∗ wpc c (den c rest (.accAdd j)) Q) := by
  simp only [den]
  rw [dif_pos ((notPeer_iff c j).2 h)]
  simp only [Prog.lift, Prog.bind_op, Prog.bind_ret]
  iintro ⟨#HC, ⟨H1, H2, H3⟩, Ha⟩ Hk
  iapply (wp_wait I K c (.rsR j) l n j (dut_rsR h hl) (by omega) (.inr ⟨by omega, by show 2 * l + 3 < _; omega⟩) rfl (N_slot j)) $$ [H1 H2 H3]
  · isplitr; · iexact HC
    isplitl [H1]; · iexact H1
    isplitl [H2]; · iexact H2
    iexact H3
  iintro ⟨Hp, Hat, Ho⟩
  ihave Hp := (Entails.of_eq (pay_rsR I c j l)) $$ Hp
  icases Hp with ⟨Hr, Hx, Hc⟩
  unfold aP rP
  iapply (wp_load 𝒱₀ (c : Thread nD τ) none Set.univ (m := aM) (Finset.subset_univ _)) $$ Ha; iintro Ha
  iapply (wp_load 𝒱₀ (c : Thread nD τ) none Set.univ (m := rM) (S := sS j) ((whole_setOn cc0_scratch2 (rS j)).trans (rS_set j)).subset) $$ Hr; iintro Hr
  iapply (wp_load 𝒱₀ (c : Thread nD τ) none Set.univ (m := aM) (Finset.subset_univ _)) $$ Ha; iintro Ha
  iapply (wp_store 𝒱₀ (c : Thread nD τ) none Set.univ (m := aM) (r := rA) (Mk := Finset.univ) (Finset.subset_univ _)) $$ Ha; iintro Ha
  iapply Hk
  isplitl [Hr Hx Hc]
  · isplitl [Hr]; · iexact Hr
    isplitl [Hx]; · iexact Hx
    iexact Hc
  isplitl [Hat]; · iexact Hat
  isplitl [Ho]; · iexact Ho
  ihave Ha := (Entails.of_eq (congrArg (fun v : Buf (Elt F) ((c : Thread nD τ).loc cc0_scratch3) => (((c : Thread nD τ).loc cc0_scratch3) ↦{fullShare} v : sProp 𝕄))
    ((Memref.write_access_unit_zero_univ (Elt F) cc0_scratch3 zero2 _ _ _).trans
      ((congrArg (fun v => k0_pay12 v (rM.view.readAt (Elt F) (rS j).toLoadRect (RBF I l c))) (Memref.readAt_unit_zero (Elt F) cc0_scratch3 zero2 _ (ACC I l c j.val))).trans (ACC_succ I l c j h).symm)))) $$ Ha
  iexact Ha

omit [FloatOps F] in
/-- Elements covered by pairwise disjoint sets. -/
theorem covered {T : Type} {ℓ : Loc nD τ sig} {q : PosShare TreeShare} {f : Buf (Elt F) ℓ} (S : Finset T) (K : T → Finset (Idx ℓ)) (A : Finset (Idx ℓ))
    (h : ∀ t ∈ S, ∀ t' ∈ S, t ≠ t' → Disjoint (K t) (K t')) (hA : ∀ i, (∃ t ∈ S, i ∈ K t) ↔ i ∈ A) :
    ((ℓ ↦[A]{q} f) : sProp 𝕄) = bigSep S fun t => ℓ ↦[K t]{q} f := by
  rw [← pointsTo_biUnion S K h]
  refine congrArg (fun A => (ℓ ↦[A]{q} f : sProp 𝕄)) (Finset.ext fun i => ?_)
  rw [Finset.mem_biUnion]; exact (hA i).symm
omit [FloatOps F] in
theorem covered_join {T : Type} [DecidableEq T] {ℓ : Loc nD τ sig} {q : PosShare TreeShare} (S : Finset T) (K : T → Finset (Idx ℓ)) (A : Finset (Idx ℓ)) (f₀ : Buf (Elt F) ℓ)
    (h : ∀ t ∈ S, ∀ t' ∈ S, t ≠ t' → Disjoint (K t) (K t')) (hA : ∀ i, (∃ t ∈ S, i ∈ K t) ↔ i ∈ A) :
    bigSep S (fun t => iprop(∃ f, ℓ ↦[K t]{q} f)) ⊢ (iprop(∃ f, ℓ ↦[A]{q} f) : sProp 𝕄) := by
  haveI : Nonempty (Buf (Elt F) ℓ) := ⟨f₀⟩
  have h₀ : bigSep S (fun t => iprop(∃ f, ℓ ↦[K t]{q} f)) ⊢ (iprop(∃ fs : T → Buf (Elt F) ℓ, bigSep S fun t => iprop(ℓ ↦[K t]{q} fs t)) : sProp 𝕄) :=
    BI.bigSep_exists_pi (Y := fun _ : T => Buf (Elt F) ℓ) S (fun t f => (ℓ ↦[K t]{q} f : sProp 𝕄))
  iintro H
  ihave H := h₀ $$ H
  icases H with ⟨%fs, H⟩
  ihave H := (pointsTo_biUnion_join S K fs f₀ h) $$ H
  icases H with ⟨%g, -, H⟩
  iexists g
  ihave H := (Entails.of_eq (congrArg (fun A => (ℓ ↦[A]{q} g : sProp 𝕄)) (Finset.ext fun i => Finset.mem_biUnion.trans (hA i)))) $$ H
  iexact H

theorem mem_cS {j : Fin 16} {i : S1024x1024.Idx} : i ∈ cS j ↔ (i 0).val / 64 = j.val := by simp only [cS, Finset.mem_filter, Finset.mem_univ, true_and]
theorem mem_gS {g : Fin 4} {i : S1024x1024.Idx} : i ∈ gS g ↔ (i 0).val / 256 = g.val := by simp only [gS, Finset.mem_filter, Finset.mem_univ, true_and]
theorem mem_grp {g : Fin 4} {j : Fin 16} : j ∈ grp g ↔ j.val / 4 = g.val := by simp only [grp, Finset.mem_filter, Finset.mem_univ, true_and]
theorem in_all (i : S1024x1024.Idx) : (∃ t ∈ (Finset.univ : Finset (Fin 16)), i ∈ cS t) ↔ i ∈ (Finset.univ : Finset S1024x1024.Idx) :=
  ⟨fun _ => Finset.mem_univ _, fun _ => ⟨rowDev (i 0), Finset.mem_univ _, mem_cS.2 rfl⟩⟩
theorem in_grp (g : Fin 4) (i : S1024x1024.Idx) : (∃ t ∈ grp g, i ∈ cS t) ↔ i ∈ gS g := by
  rw [mem_gS]
  constructor
  · rintro ⟨t, ht, hi⟩; rw [mem_grp] at ht; rw [mem_cS] at hi; omega
  · intro h; exact ⟨rowDev (i 0), mem_grp.2 (by show (i 0).val / 64 / 4 = g.val; omega), mem_cS.2 rfl⟩

/-- All rows, at some share. -/
theorem rows_all (c : Dev nD) (q : PosShare TreeShare) (f : S1024x1024.Idx → Elt F .bf16) :
    (((c : Thread nD τ).loc cc0_scratch0) ↦{q} (f : Buf (Elt F) ((c : Thread nD τ).loc cc0_scratch0)) : sProp 𝕄) = bigSep Finset.univ (fun j => xP c j q f) := by
  unfold xP
  exact covered (ℓ := (c : Thread nD τ).loc cc0_scratch0) (q := q) (f := f) Finset.univ (fun j => (cS j : Finset (Idx ((c : Thread nD τ).loc cc0_scratch0)))) Finset.univ (fun t _ t' _ h => cS_disj h) in_all
theorem rows_grp (c : Dev nD) (q : PosShare TreeShare) (f : S1024x1024.Idx → Elt F .bf16) (g : Fin 4) :
    (((c : Thread nD τ).loc cc0_scratch0) ↦[gS g]{q} (f : Buf (Elt F) ((c : Thread nD τ).loc cc0_scratch0)) : sProp 𝕄) = bigSep (grp g) (fun j => xP c j q f) := by
  unfold xP
  exact covered (ℓ := (c : Thread nD τ).loc cc0_scratch0) (q := q) (f := f) (grp g) (fun j => (cS j : Finset (Idx ((c : Thread nD τ).loc cc0_scratch0)))) (gS g) (fun t _ t' _ h => cS_disj h) (in_grp g)
theorem prod_grp (c : Dev nD) (f : S1024x1024.Idx → Elt F .bf16) (g : Fin 4) :
    (((c : Thread nD τ).loc cc0_scratch1) ↦[gS g]{fullShare} (f : Buf (Elt F) ((c : Thread nD τ).loc cc0_scratch1)) : sProp 𝕄) = bigSep (grp g) (fun j => pP c j f) := by
  unfold pP
  exact covered (ℓ := (c : Thread nD τ).loc cc0_scratch1) (q := fullShare) (f := f) (grp g) (fun j => (cS j : Finset (Idx ((c : Thread nD τ).loc cc0_scratch1)))) (gS g) (fun t _ t' _ h => cS_disj h) (in_grp g)
theorem prod_join (c : Dev nD) (g : Fin 4) (f₀ : Buf (Elt F) ((c : Thread nD τ).loc cc0_scratch1)) :
    bigSep (grp g) (fun j => pFree c j) ⊢ (iprop(∃ f : Buf (Elt F) ((c : Thread nD τ).loc cc0_scratch1), ((c : Thread nD τ).loc cc0_scratch1) ↦[gS g]{fullShare} f) : sProp 𝕄) := by
  unfold pFree pP
  exact covered_join (ℓ := (c : Thread nD τ).loc cc0_scratch1) (q := fullShare) (grp g) (fun j => (cS j : Finset (Idx ((c : Thread nD τ).loc cc0_scratch1)))) (gS g) f₀ (fun t _ t' _ h => cS_disj h) (in_grp g)

theorem wp_out (c : Dev nD) {rest : P F α} (q : PosShare TreeShare) (fo : Vec F S1024x1024 .f32) :
    iprop(bigSep Finset.univ (fun j => xP c j q (XF I 3)) ∗ outP c fo)
      ⊢ iprop((bigSep Finset.univ (fun j => xP c j q (XF I 3)) ∗ outP c (OUT I) -∗ wpc c rest Q) -∗ wpc c (den c rest .out) Q) := by
  rw [← rows_all]
  simp only [den, Prog.lift, Prog.bind_op, Prog.bind_ret]
  unfold outP
  iintro ⟨Hx, Ho⟩ Hk
  iapply (wp_load 𝒱₀ (c : Thread nD τ) none Set.univ (m := xM) (Finset.subset_univ _)) $$ Hx; iintro Hx
  iapply (wp_load 𝒱₀ (c : Thread nD τ) none Set.univ (m := outM) (Finset.subset_univ _)) $$ Ho; iintro Ho
  iapply (wp_store 𝒱₀ (c : Thread nD τ) none Set.univ (m := outM) (r := rXX) (Mk := Finset.univ) (Finset.subset_univ _)) $$ Ho; iintro Ho
  iapply Hk
  isplitl [Hx]; · iexact Hx
  ihave Ho := (Entails.of_eq (congrArg (fun v : Buf (Elt F) ((c : Thread nD τ).loc cc0_stg1_0) => (((c : Thread nD τ).loc cc0_stg1_0) ↦{fullShare} v : sProp 𝕄))
    ((Memref.write_access_unit_zero_univ (Elt F) cc0_stg1_0 zero2 _ _ _).trans (congrArg k0_pay1 (Memref.readAt_unit_zero (Elt F) cc0_scratch0 zero2 _ (XF I 3)))))) $$ Ho
  iexact Ho

/-! ## Weights -/

def siFree (d : Dev nD) : sProp 𝕄 := iprop(∃ f, siP d f)
def soFree (d : Dev nD) : sProp 𝕄 := iprop(∃ f, soP d f)
def biFree (d : Dev nD) (i : Fin 2) : sProp 𝕄 := iprop(∃ f, biP d i f)
def boFree (d : Dev nD) (i : Fin 2) : sProp 𝕄 := iprop(∃ f, boP d i f)
/-- The slots' contents once a layer's weights are in them. -/
def BI (w : Vec F S1024x2048 .f32) : S2x1024x2048.Idx → Elt F .bf16 := fun x => k0_pay3 w (ValueIdx.ix3 (⟨0, Nat.one_pos⟩ : Fin 1) (x 1 : Fin 1024) (x 2 : Fin 2048))
def BO (w : Vec F S2048x1024 .f32) : S2x2048x1024.Idx → Elt F .bf16 := fun x => k0_pay4 w (ValueIdx.ix3 (⟨0, Nat.one_pos⟩ : Fin 1) (x 1 : Fin 2048) (x 2 : Fin 1024))

theorem BI_emb (w : Vec F S1024x2048 .f32) (i : Fin 2) (x : (rI i).shape.Idx) : BI w ((rI i).emb x) = k0_pay3 w x := by
  refine congrArg (k0_pay3 w) (funext fun a => Fin.ext ?_)
  have h0 : (x 0).val < 1 := (x 0).isLt
  match a with
  | ⟨0, _⟩ => show 0 = (x 0).val; omega
  | ⟨1, _⟩ => exact (ValueKit.rect_emb_unit_val _ _ _ _ _).trans (Nat.zero_add _)
  | ⟨2, _⟩ => exact (ValueKit.rect_emb_unit_val _ _ _ _ _).trans (Nat.zero_add _)
theorem BO_emb (w : Vec F S2048x1024 .f32) (i : Fin 2) (x : (rO i).shape.Idx) : BO w ((rO i).emb x) = k0_pay4 w x := by
  refine congrArg (k0_pay4 w) (funext fun a => Fin.ext ?_)
  have h0 : (x 0).val < 1 := (x 0).isLt
  match a with
  | ⟨0, _⟩ => show 0 = (x 0).val; omega
  | ⟨1, _⟩ => exact (ValueKit.rect_emb_unit_val _ _ _ _ _).trans (Nat.zero_add _)
  | ⟨2, _⟩ => exact (ValueKit.rect_emb_unit_val _ _ _ _ _).trans (Nat.zero_add _)
theorem BI_read (w : Vec F S1024x2048 .f32) (i : Fin 2) : biM.view.readAt (Elt F) (rI i).toLoadRect (BI w) = k0_pay3 w := funext (BI_emb w i)
theorem BO_read (w : Vec F S2048x1024 .f32) (i : Fin 2) : boM.view.readAt (Elt F) (rO i).toLoadRect (BO w) = k0_pay4 w := funext (BO_emb w i)

theorem bi_store (w : Vec F S1024x2048 .f32) (i : Fin 2) (f : S2x1024x2048.Idx → Elt F .bf16) (v : FVec F S1x1024x2048 .bf16) (hv : v = k0_pay3 w) :
    ∀ x ∈ bI i, (biM.access (rI i)).write (Elt F) f v Finset.univ x = BI w x := fun x hx =>
  store_agree cc0_scratch6 (rI i) f (BI w) v (fun y => (BI_emb w i y).trans (congrFun hv.symm y)) x ((rI_set i).symm ▸ hx)
theorem bo_store (w : Vec F S2048x1024 .f32) (i : Fin 2) (f : S2x2048x1024.Idx → Elt F .bf16) (v : FVec F S1x2048x1024 .bf16) (hv : v = k0_pay4 w) :
    ∀ x ∈ bO i, (boM.access (rO i)).write (Elt F) f v Finset.univ x = BO w x := fun x hx =>
  store_agree cc0_scratch7 (rO i) f (BO w) v (fun y => (BO_emb w i y).trans (congrFun hv.symm y)) x ((rO_set i).symm ▸ hx)

theorem wp_wput (c : Dev nD) (i : Fin 2) (wi : Vec F S1024x2048 .f32) (wo : Vec F S2048x1024 .f32) {rest : P F α} :
    iprop(siP c wi ∗ soP c wo ∗ biFree c i ∗ boFree c i)
      ⊢ iprop((siP c wi ∗ soP c wo ∗ biP c i (BI wi) ∗ boP c i (BO wo) -∗ wpc c rest Q) -∗ wpc c (den c rest (.wput i)) Q) := by
  simp only [den, Prog.lift, Prog.bind_op, Prog.bind_ret]
  unfold siP soP biFree boFree biP boP
  iintro ⟨Hi, Ho, ⟨%f, Hbi⟩, ⟨%g, Hbo⟩⟩ Hk
  iapply (wp_load 𝒱₀ (c : Thread nD τ) none Set.univ (m := siM) (Finset.subset_univ _)) $$ Hi; iintro Hi
  iapply (wp_load 𝒱₀ (c : Thread nD τ) none Set.univ (m := biM) (S := bI i) ((whole_setOn cc0_scratch6 (rI i)).trans (rI_set i)).subset) $$ Hbi; iintro Hbi
  iapply (wp_store 𝒱₀ (c : Thread nD τ) none Set.univ (m := biM) (r := rI i) (S := bI i) (Mk := Finset.univ)
    ((access_setOn cc0_scratch6 (rI i)).trans (rI_set i)).subset) $$ Hbi; iintro Hbi
  iapply (wp_load 𝒱₀ (c : Thread nD τ) none Set.univ (m := soM) (Finset.subset_univ _)) $$ Ho; iintro Ho
  iapply (wp_load 𝒱₀ (c : Thread nD τ) none Set.univ (m := boM) (S := bO i) ((whole_setOn cc0_scratch7 (rO i)).trans (rO_set i)).subset) $$ Hbo; iintro Hbo
  iapply (wp_store 𝒱₀ (c : Thread nD τ) none Set.univ (m := boM) (r := rO i) (S := bO i) (Mk := Finset.univ)
    ((access_setOn cc0_scratch7 (rO i)).trans (rO_set i)).subset) $$ Hbo; iintro Hbo
  iapply Hk
  isplitl [Hi]; · iexact Hi
  isplitl [Ho]; · iexact Ho
  isplitl [Hbi]
  · ihave Hbi := (Entails.of_eq (pointsTo_congr (bi_store wi i f _ (congrArg k0_pay3 (Memref.readAt_unit_zero (Elt F) cc0_scratch4 zero2 _ wi))))) $$ Hbi
    iexact Hbi
  · ihave Hbo := (Entails.of_eq (pointsTo_congr (bo_store wo i g _ (congrArg k0_pay4 (Memref.readAt_unit_zero (Elt F) cc0_scratch5 zero2 _ wo))))) $$ Hbo
    iexact Hbo

theorem dut_wd (c : Dev nD) (i : Fin 2) (l : ℕ) (hl : l < 3) : dut c (some (.wd i)) l = {c} := if_pos hl

/-- Both fetches of a layer's weights are on their way, or to be waited for. -/
def wCrd (c : Dev nD) (l : ℕ) : sProp 𝕄 := iprop(crd c (some (.wd 0)) l ∗ crd c (some (.wd 1)) l)
def wAt (c : Dev nD) (l : ℕ) : sProp 𝕄 := iprop(At c (some (.wd 0)) l ∗ At c (some (.wd 1)) l)
def wTok (c : Dev nD) (l : ℕ) : sProp 𝕄 := iprop(tok c (some (.wd 0)) l c ∗ tok c (some (.wd 1)) l c)
def wArr (c : Dev nD) (l : Fin 3) : sProp 𝕄 := iprop(wiP c l (I.wi l c) ∗ woP c l (I.wo l c))

theorem lay_val : ∀ l : Fin 3, lay l.val = l := by decide

theorem wi_copy (l : Fin 3) (fd : Vec F S1024x2048 .f32) : ∀ (c : Dev nD) (f : Vec F S1024x2048 .f32),
    ∃ fs : Buf (Elt F) ((wiM l).view.loc (c : Thread nD τ)), (((wiM l).view.loc (c : Thread nD τ) ↦[(wiM l).view.set]{fullShare} fs) : sProp 𝕄) = wiP c l f
      ∧ siM.view.write (Elt F) fd ((wiM l).view.read (Elt F) fs) Finset.univ = f := by
  intro c f
  match l with
  | 0 => exact ⟨f, by unfold wiP wiM; rw [View.set_whole], View.write_whole_univ _ _ _⟩
  | 1 => exact ⟨f, by unfold wiP wiM; rw [View.set_whole], View.write_whole_univ _ _ _⟩
  | 2 => exact ⟨f, by unfold wiP wiM; rw [View.set_whole], View.write_whole_univ _ _ _⟩
theorem wo_copy (l : Fin 3) (fd : Vec F S2048x1024 .f32) : ∀ (c : Dev nD) (f : Vec F S2048x1024 .f32),
    ∃ fs : Buf (Elt F) ((woM l).view.loc (c : Thread nD τ)), (((woM l).view.loc (c : Thread nD τ) ↦[(woM l).view.set]{fullShare} fs) : sProp 𝕄) = woP c l f
      ∧ soM.view.write (Elt F) fd ((woM l).view.read (Elt F) fs) Finset.univ = f := by
  intro c f
  match l with
  | 0 => exact ⟨f, by unfold woP woM; rw [View.set_whole], View.write_whole_univ _ _ _⟩
  | 1 => exact ⟨f, by unfold woP woM; rw [View.set_whole], View.write_whole_univ _ _ _⟩
  | 2 => exact ⟨f, by unfold woP woM; rw [View.set_whole], View.write_whole_univ _ _ _⟩

theorem wp_wstart (c : Dev nD) (l : Fin 3) {rest : P F α} :
    iprop(Ctx I K ∗ wArr I c l ∗ siFree c ∗ soFree c ∗ wTok c l.val ∗ (rch c (some (.wd 0)) l.val ∗ rch c (some (.wd 1)) l.val))
      ⊢ iprop((wCrd c l.val -∗ wpc c rest Q) -∗ wpc c (den c rest (.wstart l)) Q) := by
  simp only [den, Prog.lift, Prog.bind_op, Prog.bind_ret]
  unfold wArr siFree soFree wTok wCrd crd tok rch siP soP
  iintro ⟨#HC, ⟨Hwi, Hwo⟩, ⟨%fi, Hsi⟩, ⟨%fo, Hso⟩, ⟨Ht0, Ht1⟩, ⟨#Hr0, #Hr1⟩⟩ Hk
  obtain ⟨gi, ei, ci⟩ := wi_copy l fi c (I.wi l c)
  obtain ⟨go, eo, co⟩ := wo_copy l fo c (I.wo l c)
  ihave Hwi := (Entails.of_eq ei.symm) $$ Hwi
  ihave Hwo := (Entails.of_eq eo.symm) $$ Hwo
  have hd (i : Fin 2) : c ∈ (Sch I).duties (cell c (some (.wd i))) l.val := by rw [Sch_duties, dut_wd c i l.val l.isLt]; exact Finset.mem_singleton_self _
  have p0 : iprop((siM.view.loc (c : Thread nD τ) ↦[siM.view.set]{fullShare} (siM.view.write (Elt F) fi ((wiM l).view.read (Elt F) gi) Finset.univ))
      ∗ ((wiM l).view.loc (c : Thread nD τ) ↦[(wiM l).view.set]{fullShare} gi)) ⊢ (Sch I).payload (cell c (some (.wd 0))) l.val c := by
    rw [Sch_payload, ei, ci, View.set_whole]
    show _ ⊢ iprop(siP c (I.wi (lay l.val) c) ∗ wiP c (lay l.val) (I.wi (lay l.val) c))
    rw [lay_val]
    exact .rfl
  have p1 : iprop((soM.view.loc (c : Thread nD τ) ↦[soM.view.set]{fullShare} (soM.view.write (Elt F) fo ((woM l).view.read (Elt F) go) Finset.univ))
      ∗ ((woM l).view.loc (c : Thread nD τ) ↦[(woM l).view.set]{fullShare} go)) ⊢ (Sch I).payload (cell c (some (.wd 1))) l.val c := by
    rw [Sch_payload, eo, co, View.set_whole]
    show _ ⊢ iprop(soP c (I.wo (lay l.val) c) ∗ woP c (lay l.val) (I.wo (lay l.val) c))
    rw [lay_val]
    exact .rfl
  have n0 : siM.view.dmaCredit = amt (some (.wd 0)) := by show _ = NW 0; unfold NW; rfl
  have n1 : soM.view.dmaCredit = amt (some (.wd 1)) := by show _ = NW 1; unfold NW; rfl
  iapply (Rounds.wp_copy_pointsTo 𝒱₀ ER (Sch I) (c : Thread nD τ) none (κ := K (c, some (.wd 0))) (sem := csem (some (.wd 0))) (src := wiM l) (dst := siM) (hd 0) l.val _ n0 (Sch_amount I c _ _ _) p0) $$ [Hwi Hsi Ht0]
  · isplitr; · iapply (Ctx_inv I K c (some (.wd 0))); iexact HC
    isplitl [Hwi]; · iexact Hwi
    isplitl [Hsi]; · rw [View.set_whole]; iexact Hsi
    isplitl [Ht0]; · iexact Ht0
    iexact Hr0
  iintro Hc0
  iapply (Rounds.wp_copy_pointsTo 𝒱₀ ER (Sch I) (c : Thread nD τ) none (κ := K (c, some (.wd 1))) (sem := csem (some (.wd 1))) (src := woM l) (dst := soM) (hd 1) l.val _ n1 (Sch_amount I c _ _ _) p1) $$ [Hwo Hso Ht1]
  · isplitr; · iapply (Ctx_inv I K c (some (.wd 1))); iexact HC
    isplitl [Hwo]; · iexact Hwo
    isplitl [Hso]; · rw [View.set_whole]; iexact Hso
    isplitl [Ht1]; · iexact Ht1
    iexact Hr1
  iintro Hc1
  iapply Hk
  isplitl [Hc0]; · iexact Hc0
  iexact Hc1

theorem pay_wd0 (c : Dev nD) (l : Fin 3) : pay I c (some (.wd 0)) l.val c = iprop(siP c (I.wi l c) ∗ wiP c l (I.wi l c)) := by
  show iprop(siP c (I.wi (lay l.val) c) ∗ wiP c (lay l.val) (I.wi (lay l.val) c)) = _
  rw [lay_val]
theorem pay_wd1 (c : Dev nD) (l : Fin 3) : pay I c (some (.wd 1)) l.val c = iprop(soP c (I.wo l c) ∗ woP c l (I.wo l c)) := by
  show iprop(soP c (I.wo (lay l.val) c) ∗ woP c (lay l.val) (I.wo (lay l.val) c)) = _
  rw [lay_val]

theorem wp_wwait (c : Dev nD) (l : Fin 3) (n : ℕ) {rest : P F α} :
    iprop(Ctx I K ∗ wCrd c l.val ∗ wAt c l.val ∗ owesAny c n)
      ⊢ iprop((siP c (I.wi l c) ∗ soP c (I.wo l c) ∗ wArr I c l ∗ wAt c (l.val + 1) ∗ owesAny c n -∗ wpc c rest Q) -∗ wpc c (den c rest (.wwait l)) Q) := by
  simp only [den, Prog.lift, Prog.bind_op, Prog.bind_ret]
  unfold wCrd wAt wArr
  have n0 : siM.view.dmaCredit = amt (some (.wd 0)) := by show _ = NW 0; unfold NW; rfl
  have n1 : soM.view.dmaCredit = amt (some (.wd 1)) := by show _ = NW 1; unfold NW; rfl
  iintro ⟨#HC, ⟨Hc0, Hc1⟩, ⟨Ha0, Ha1⟩, Ho⟩ Hk
  iapply (wp_wait I K c (.wd 0) l.val n c (dut_wd c 0 l.val l.isLt) (by have := l.isLt; omega) (.inl rfl) rfl n0) $$ [Hc0 Ha0 Ho]
  · isplitr; · iexact HC
    isplitl [Hc0]; · iexact Hc0
    isplitl [Ha0]; · iexact Ha0
    iexact Ho
  iintro ⟨Hp0, Ha0, Ho⟩
  iapply (wp_wait I K (k := fun _ => rest) c (.wd 1) l.val n c (dut_wd c 1 l.val l.isLt) (by have := l.isLt; omega) (.inl rfl) rfl n1) $$ [Hc1 Ha1 Ho]
  · isplitr; · iexact HC
    isplitl [Hc1]; · iexact Hc1
    isplitl [Ha1]; · iexact Ha1
    iexact Ho
  iintro ⟨Hp1, Ha1, Ho⟩
  ihave Hp0 := (Entails.of_eq (pay_wd0 I c l)) $$ Hp0
  ihave Hp1 := (Entails.of_eq (pay_wd1 I c l)) $$ Hp1
  icases Hp0 with ⟨Hs0, Hw0⟩
  icases Hp1 with ⟨Hs1, Hw1⟩
  iapply Hk
  isplitl [Hs0]; · iexact Hs0
  isplitl [Hs1]; · iexact Hs1
  isplitl [Hw0 Hw1]
  · isplitl [Hw0]; · iexact Hw0
    iexact Hw1
  isplitl [Ha0 Ha1]
  · isplitl [Ha0]; · iexact Ha0
    iexact Ha1
  iexact Ho

/-! ## A row group's product -/

theorem mm_store (wi : Vec F S1024x2048 .f32) (wo : Vec F S2048x1024 .f32) (xf : S1024x1024.Idx → Elt F .bf16) (g : Fin 4) (f : S1024x1024.Idx → Elt F .bf16)
    (v : Vec F S256x1024 .bf16) (hv : v = mmv wi wo xf g) : ∀ i ∈ gS g, (pM.access (rG g)).write (Elt F) f v Finset.univ i = part wi wo xf i := fun i hi =>
  store_agree cc0_scratch1 (rG g) f (part wi wo xf) v (fun x => (part_grp wi wo xf g x).trans (congrFun hv.symm x)) i ((rG_set g).symm ▸ hi)

theorem wp_mm (c : Dev nD) (i : Fin 2) (g : Fin 4) (l : ℕ) (q : PosShare TreeShare) {rest : P F α} :
    iprop(bigSep (grp g) (fun j => xP c j q (XF I l)) ∗ bigSep (grp g) (fun j => pFree c j) ∗ biP c i (BI (I.wi (lay l) c)) ∗ boP c i (BO (I.wo (lay l) c)))
      ⊢ iprop((bigSep (grp g) (fun j => xP c j q (XF I l)) ∗ bigSep (grp g) (fun j => pP c j (PF I l c)) ∗ biP c i (BI (I.wi (lay l) c)) ∗ boP c i (BO (I.wo (lay l) c))
          -∗ wpc c rest Q) -∗ wpc c (den c rest (.mm i g)) Q) := by
  rw [← rows_grp, ← prod_grp]
  simp only [den, mmA, mmB, Prog.pure_eq_ret, Prog.lift, Prog.bind_op, Prog.bind_ret]
  unfold biP boP
  iintro ⟨Hx, Hp, Hbi, Hbo⟩ Hk
  ihave Hp := (prod_join c g (fun i => XF I 0 i)) $$ Hp
  icases Hp with ⟨%f, Hp⟩
  iapply (wp_load 𝒱₀ (c : Thread nD τ) none Set.univ (m := xM) (S := gS g) ((whole_setOn cc0_scratch0 (rG g)).trans (rG_set g)).subset) $$ Hx; iintro Hx
  iapply (wp_load 𝒱₀ (c : Thread nD τ) none Set.univ (m := biM) (S := bI i) ((whole_setOn cc0_scratch6 (rI i)).trans (rI_set i)).subset) $$ Hbi; iintro Hbi
  iapply (wp_load 𝒱₀ (c : Thread nD τ) none Set.univ (m := boM) (S := bO i) ((whole_setOn cc0_scratch7 (rO i)).trans (rO_set i)).subset) $$ Hbo; iintro Hbo
  iapply (wp_load 𝒱₀ (c : Thread nD τ) none Set.univ (m := pM) (S := gS g) ((whole_setOn cc0_scratch1 (rG g)).trans (rG_set g)).subset) $$ Hp; iintro Hp
  iapply (wp_store 𝒱₀ (c : Thread nD τ) none Set.univ (m := pM) (r := rG g) (S := gS g) (Mk := Finset.univ)
    ((access_setOn cc0_scratch1 (rG g)).trans (rG_set g)).subset) $$ Hp; iintro Hp
  iapply Hk
  isplitl [Hx]; · iexact Hx
  isplitl [Hp]
  · ihave Hp := (Entails.of_eq (pointsTo_congr (mm_store (I.wi (lay l) c) (I.wo (lay l) c) (XF I l) g f _
      (congrArg₂ (fun a b => k0_pay30 (k0_pay29 (xM.view.readAt (Elt F) (rG g).toLoadRect (XF I l)) a) b) (BI_read (I.wi (lay l) c) i) (BO_read (I.wo (lay l) c) i))))) $$ Hp
    iexact Hp
  isplitl [Hbi]; · iexact Hbi
  iexact Hbo

/-! ## The barrier -/

/-- The device signalled at trip `t`. -/
abbrev nb (c : Dev nD) (t : ℕ) : Dev nD := ⟨(c.val + t + 1) % 16, by have := nD_eq; omega⟩

/-- What is still to be handed over at trip `t`. -/
def barInv (c : Dev nD) (t : ℕ) : sProp 𝕄 :=
  iprop(Ctx I K ∗ owesAny c t ∗ bigSep (Finset.Ico t 15) fun k => iprop(tok (nb c k) none 0 c ∗ xFree c (nb c k)))

omit [FloatOps F] in
theorem from_head {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) from Finset.ext fun i => by simp only [Finset.mem_insert, Finset.mem_Ico]; omega,
    SparseCore.bigSep_insert' (by simp only [Finset.mem_Ico]; omega)]

theorem nb_ne (c : Dev nD) (t : ℕ) (h : t < 15) : nb c t ≠ c := fun e => by
  have := congrArg Fin.val e
  have hc : c.val < 16 := c.isLt
  simp only at this; omega

theorem trips_eq : k0_t1_loop.trips = 15 := by decide +kernel

theorem bar_pay (d p : Dev nD) : (Sch I).payload ((d : Thread nD τ), SemLoc.reg barS) 0 p = xFree p d := Sch_payload I d none 0 p

theorem bar_step (c : Dev nD) (t : Fin k0_t1_loop.trips) :
    barInv I K c t.val ⊢ wpc c (onW (k0_t1_body (F := F)) c (SemArray.scalar (sig.barrier 0 rfl)) t ()) (fun _ => barInv I K c (t.val + 1)) := by
  have ht : t.val < 15 := lt_of_lt_of_eq t.isLt trips_eq
  have hd : (⟨k0_dev1 c t, k0_dev1_lt c t⟩ : Dev nD) = nb c t.val := Fin.ext (k0_dev1_eq c t)
  have hm : c ∈ (Sch I).duties (cell (nb c t.val) none) 0 := by
    rw [Sch_duties]; show c ∈ Finset.univ.erase (nb c t.val)
    exact Finset.mem_erase.2 ⟨(nb_ne c t.val ht).symm, Finset.mem_univ _⟩
  have hO : O c t.val = O c (t.val + 1) + tallyAt (cell (nb c t.val) none) 0 1 := by
    rw [O_step c t.val (by omega), ob_some (obC_bar c t.val ht (nb c t.val) rfl)]; rfl
  simp only [onW, k0_t1_body, semSignalWord, Prog.lift, Prog.bind_op, Prog.bind_ret, Prog.pure_eq_ret]
  rw [hd]
  unfold barInv owesAny
  rw [from_head ht]
  unfold tok
  iintro ⟨#HC, ⟨%W, Ho⟩, ⟨Ht, Hx⟩, Hr⟩
  iapply (Rounds.wp_signal 𝒱₀ ER (Sch I) (c : Thread nD τ) none (dst := (nb c t.val : Thread nD τ)) (κ := K (nb c t.val, none))
      (d := c) hm (Sch_amount I (nb c t.val) none 0 c) 0 (O c (t.val + 1)) hO) $$ [Ho Ht Hx]
  · isplitr; · iapply (Ctx_inv I K (nb c t.val) none); iexact HC
    isplitl [Ho]; · iexact Ho
    isplitl [Ht]; · iexact Ht
    isplitl [Hx]
    · ihave Hx := (Entails.of_eq (bar_pay I (nb c t.val) c).symm) $$ Hx
      iexact Hx
    iapply (Ctx_reached I K (nb c t.val) none); iexact HC
  iintro Ho
  rw [wp_ret]
  imodintro
  isplitr; · iexact HC
  isplitl [Ho]; · iexists W; iexact Ho
  iexact Hr

theorem bar_expect (c : Dev nD) : 0 + (15#32).toNat = (Sch I).expect (cell c none) 0 := by
  rw [Sch_expect]
  show _ = (Finset.univ.erase c).card * 1
  rw [Finset.card_erase_of_mem (Finset.mem_univ c), Finset.card_univ, Fintype.card_fin, nD_eq]; rfl
theorem bar_pays (c : Dev nD) : bigSep ((Sch I).duties (cell c none) 0 \ ∅) (fun d => (Sch I).payload (cell c none) 0 d) = bigSep (Finset.univ.erase c) (fun p => xFree p c) := by
  rw [Sch_duties, Finset.sdiff_empty]
  exact bigSep_congr fun p _ => Sch_payload I c none 0 p

theorem wp_bar (c : Dev nD) {rest : P F α} :
    iprop(Ctx I K ∗ owesAny c 0 ∗ (bigSep (Finset.Ico 0 15) fun k => iprop(tok (nb c k) none 0 c ∗ xFree c (nb c k))) ∗ cred (tallyAt (cell c none) 0 15) ∗ At c none 0)
      ⊢ iprop((bigSep (Finset.univ.erase c) (fun p => xFree p c) ∗ At c none 1 ∗ owesAny c 16 -∗ wpc c rest Q) -∗ wpc c (den c rest .bar) Q) := by
  have hO : O c 15 = O c 16 := by rw [O_step c 15 (by omega), ob_none (obC_15 c), add_zero]
  simp only [den]
  iintro ⟨#HC, Ho, Hb, Hc, Hat⟩ Hk
  iapply (Scf.wp_for_bind frame (wpE (defs₀ (F := F)) 𝒱₀ (c : Thread nD τ) none) Set.univ k0_t1_loop.lb k0_t1_loop.ub k0_t1_loop.st k0_t1_ok ⟨⟩
    (onW (k0_t1_body (F := F)) c (SemArray.scalar (sig.barrier 0 rfl))) (fun t _ => barInv I K c t) (fun t _ => bar_step I K c t)) $$ [Ho Hb]
  · unfold barInv
    isplitr; · iexact HC
    isplitl [Ho]; · iexact Ho
    iexact Hb
  iintro %_ Hinv
  ihave Hinv := (Entails.of_eq (congrArg (barInv I K c) trips_eq)) $$ Hinv
  unfold barInv owesAny At
  icases Hinv with ⟨-, ⟨%W, Ho⟩, -⟩
  icases Hat with ⟨Hat, -⟩
  simp only [semWaitWord, Prog.lift, Prog.bind_op, Prog.bind_ret]
  ihave Ho := (Entails.of_eq (congrArg (fun o => (owes (c : Thread nD τ) o W : sProp 𝕄)) hO)) $$ Ho
  iapply (Rounds.wp_wait_rest_token 𝒱₀ ER (Sch I) (c : Thread nD τ) none (κ := K (c, none)) (sm := csem none)
      (wpE_semWait_eq 𝒱₀ (c : Thread nD τ) none Set.univ) (Set.mem_univ _) 0 (O := O c 16) (W := W) (R := 0) (m := 0) (T := ∅)
      (bar_expect I c)) $$ [Hc Ho Hat]
  · isplitr; · iapply (Ctx_inv I K c none); iexact HC
    isplitl [Hc]; · iexact Hc
    isplitl [Ho]; · iexact Ho
    isplitr
    · iapply (mayWait_of c (csem none) 0 16 (by omega) (.inr ⟨le_rfl, by rw [show lv ((c : Thread nD τ), csem none) 0 = _ from lv_cell c none 0]; decide⟩))
      iapply (Ctx_lev I K); iexact HC
    iexact Hat
  iintro ⟨Ho, Hat, Hr, Hp⟩
  iapply Hk
  ihave Hp := (Entails.of_eq (bar_pays I c)) $$ Hp
  isplitl [Hp]; · iexact Hp
  isplitl [Hat Hr]
  · isplitl [Hat]; · iexact Hat
    iexact Hr
  iexists _; iexact Ho

end Cert.Proof.KernelIdeal
end
-- ==== Proof.KernelIdeal.Loops.lean ====
/- The steps repeated once for every other device. -/
module

public import proofs.«01_k».proof.Proof.KernelIdeal.Local

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)
variable {α : Type}
variable {Q : α → sProp (MT nD τ sig ℕ (Elt F) ℕ UU ℕ)}

/-! ## A range of peers -/

/-- The devices `a, …, a + n - 1` other than `c`. -/
def seg (a n : ℕ) (c : Fin 16) : Finset (Fin 16) := (Finset.univ.filter fun j => a ≤ j.val ∧ j.val < a + n).erase c
theorem mem_seg {a n : ℕ} {c j : Fin 16} : j ∈ seg a n c ↔ j ≠ c ∧ a ≤ j.val ∧ j.val < a + n := by
  simp only [seg, Finset.mem_erase, Finset.mem_filter, Finset.mem_univ, true_and]
theorem seg_all (c : Fin 16) : seg 0 16 c = Finset.univ.erase c := by
  ext j; have := j.isLt
  rw [mem_seg, Finset.mem_erase]; simp only [Finset.mem_univ]; constructor
  · exact fun h => ⟨h.1, trivial⟩
  · exact fun h => ⟨h.1, by omega, by omega⟩

omit [FloatOps F] in
theorem seg_head (a n : ℕ) (c : Fin 16) (ha : a < 16) (h : Fin.ofNat 16 a ≠ c) (Φ : Fin 16 → sProp 𝕄) :
    bigSep (seg a (n + 1) c) Φ = iprop(Φ (Fin.ofNat 16 a) ∗ bigSep (seg (a + 1) n c) Φ) := by
  have hv : (Fin.ofNat 16 a).val = a := Nat.mod_eq_of_lt ha
  rw [show seg a (n + 1) c = insert (Fin.ofNat 16 a) (seg (a + 1) n c) from Finset.ext fun j => by
      rw [Finset.mem_insert, mem_seg, mem_seg]
      constructor
      · rintro ⟨h1, h2, h3⟩
        by_cases e : j.val = a
        · exact .inl (Fin.ext (e.trans hv.symm))
        · exact .inr ⟨h1, by omega, by omega⟩
      · rintro (rfl | ⟨h1, h2, h3⟩)
        · exact ⟨h, by omega, by omega⟩
        · exact ⟨h1, by omega, by omega⟩,
    SparseCore.bigSep_insert' (fun hm => by have := (mem_seg.1 hm).2.1; omega)]
theorem seg_skip (a n : ℕ) (c : Fin 16) (ha : a < 16) (h : Fin.ofNat 16 a = c) : seg a (n + 1) c = seg (a + 1) n c := by
  have hv : c.val = a := h ▸ Nat.mod_eq_of_lt ha
  ext j
  rw [mem_seg, mem_seg]
  constructor
  · rintro ⟨h1, h2, h3⟩
    have : j.val ≠ a := fun e => h1 (Fin.ext (e.trans hv.symm))
    exact ⟨h1, by omega, by omega⟩
  · rintro ⟨h1, h2, h3⟩; exact ⟨h1, by omega, by omega⟩

omit [FloatOps F] in
/-- All the other devices, by row group. -/
theorem seg_groups (c : Fin 16) (Φ : Fin 16 → sProp 𝕄) :
    bigSep (seg 0 16 c) Φ = iprop(bigSep (seg 0 4 c) Φ ∗ bigSep (seg 4 4 c) Φ ∗ bigSep (seg 8 4 c) Φ ∗ bigSep (seg 12 4 c) Φ) := by
  have hd : ∀ {a n b m : ℕ}, a + n ≤ b → Disjoint (seg a n c) (seg b m c) := fun h => Finset.disjoint_left.2 fun j h1 h2 => by
    rw [mem_seg] at h1 h2; omega
  have hu : ∀ (a n m : ℕ), seg a (n + m) c = seg a n c ∪ seg (a + n) m c := fun a n m => Finset.ext fun j => by
    rw [Finset.mem_union, mem_seg, mem_seg, mem_seg]
    by_cases e : j = c
    · simp only [e, ne_eq, not_true_eq_false, false_and, or_self]
    · simp only [ne_eq, e, not_false_eq_true, true_and]; omega
  rw [show seg 0 16 c = seg 0 4 c ∪ (seg 4 4 c ∪ (seg 8 4 c ∪ seg 12 4 c)) by
      rw [← hu 8 4 4, ← hu 4 4 8, ← hu 0 4 12],
    SparseCore.bigSep_union' (by rw [← hu 8 4 4, ← hu 4 4 8]; exact hd (by omega)),
    SparseCore.bigSep_union' (by rw [← hu 8 4 4]; exact hd (by omega)), SparseCore.bigSep_union' (hd (by omega))]

/-- A step for every device of a range but `c` itself, where it does nothing. -/
theorem wp_loop (c : Dev nD) (op : Fin 16 → Op) (hself : ∀ rest : P F α, den c rest (op c) = rest) (R : ℕ → sProp 𝕄) (hR : R c.val = R (c.val + 1))
    (A B : Fin 16 → sProp 𝕄)
    (h : ∀ (j : Fin 16), j ≠ c → ∀ rest : P F α, iprop(Ctx I K ∗ R j.val ∗ A j) ⊢ iprop((R (j.val + 1) ∗ B j -∗ wpc c rest Q) -∗ wpc c (den c rest (op j)) Q))
    (n : ℕ) : ∀ (a : ℕ), a + n ≤ 16 → ∀ (rest : P F α),
    iprop(Ctx I K ∗ R a ∗ bigSep (seg a n c) A) ⊢ iprop((R (a + n) ∗ bigSep (seg a n c) B -∗ wpc c rest Q) -∗ wpc c (seqK c ((fins a n).map op) rest) Q) := by
  induction n with
  | zero =>
    intro a ha rest
    have he : ∀ Φ : Fin 16 → sProp 𝕄, bigSep (seg a 0 c) Φ = iprop(emp) := fun Φ => by
      rw [show seg a 0 c = ∅ from Finset.eq_empty_of_forall_notMem fun j hj => by rw [mem_seg] at hj; omega]; rfl
    rw [he, he]
    iintro ⟨-, HR, -⟩ Hk
    iapply Hk
    isplitl [HR]; · iexact HR
    iempintro
  | succ n ih =>
    intro a ha rest
    have ha' : a < 16 := by omega
    have hv : (Fin.ofNat 16 a).val = a := Nat.mod_eq_of_lt ha'
    show _ ⊢ iprop(_ -∗ wpc c (den c (seqK c ((fins (a + 1) n).map op) rest) (op (Fin.ofNat 16 a))) Q)
    rw [show a + (n + 1) = a + 1 + n by omega]
    by_cases e : Fin.ofNat 16 a = c
    · have hca : c.val = a := by rw [← e]; exact hv
      rw [e, hself, seg_skip a n c ha' e, show R a = R (a + 1) by rw [← hca]; exact hR]
      exact ih (a + 1) (by omega) rest
    · rw [seg_head a n c ha' e, seg_head a n c ha' e]
      have h' := h (Fin.ofNat 16 a) e (seqK c ((fins (a + 1) n).map op) rest)
      rw [hv] at h'
      iintro ⟨#HC, HR, HA, HAs⟩ Hk
      iapply h' $$ [HR HA]
      · isplitr; · iexact HC
        isplitl [HR]; · iexact HR
        iexact HA
      iintro ⟨HR, HB⟩
      iapply (ih (a + 1) (by omega) rest) $$ [HR HAs]
      · isplitr; · iexact HC
        isplitl [HR]; · iexact HR
        iexact HAs
      iintro ⟨HR, HBs⟩
      iapply Hk
      isplitl [HR]; · iexact HR
      isplitl [HB]; · iexact HB
      iexact HBs

theorem O_self (c : Dev nD) (n : ℕ) (h : 16 ≤ n) (hn : n < 128) (hc : (n - 16) % 16 = c.val) : O c n = O c (n + 1) := by
  rw [O_step c n hn, ob_none (obC_self c n h hc), add_zero]
theorem owes_self (c : Dev nD) (n : ℕ) (h : 16 ≤ n) (hn : n < 128) (hc : (n - 16) % 16 = c.val) : (owesAny c n : sProp 𝕄) = owesAny c (n + 1) := by
  unfold owesAny; rw [O_self c n h hn hc]

/-! ## The six loops -/

def agTok (c : Dev nD) (l : ℕ) (j : Fin 16) : sProp 𝕄 := iprop(tok c (some (.agS j)) l c ∗ tok j (some (.agR c)) l c)
def rsTok (c : Dev nD) (l : ℕ) (j : Fin 16) : sProp 𝕄 := iprop(tok c (some (.rsS j)) l c ∗ tok j (some (.rsR c)) l c)

/-- What device `c` needs to send its rows to `j` in round `l`. -/
def sendX (c : Dev nD) (l : ℕ) (j : Fin 16) : sProp 𝕄 :=
  iprop(xP c c (lent j) (XF I l) ∗ (xFree j c ∗ rch j (some (.agR c)) l) ∗ ret c j l ∗ rch c (some (.agS j)) l ∗ agTok c l j)

theorem agSends (c : Dev nD) (l : ℕ) (hl : l < 4) (a n : ℕ) (h : a + n ≤ 16) {rest : P F α} :
    iprop(Ctx I K ∗ owesAny c (16 + 32 * l + a) ∗ bigSep (seg a n c) (sendX I c l))
      ⊢ iprop((owesAny c (16 + 32 * l + (a + n)) ∗ bigSep (seg a n c) (fun j => crd c (some (.agS j)) l) -∗ wpc c rest Q)
        -∗ wpc c (seqK c ((fins a n).map .agSend) rest) Q) := by
  have hc : c.val < 16 := c.isLt
  refine wp_loop I K c .agSend (self_agSend c) (fun k => owesAny c (16 + 32 * l + k)) (owes_self c _ (by omega) (by omega) (by omega)) (sendX I c l)
    (fun j => crd c (some (.agS j)) l) (fun j hj rest => ?_) n a h rest
  unfold sendX agTok
  iintro ⟨#HC, Ho, Hx, ⟨Hf, Hr⟩, Hret, Hrs, Ht, Ht'⟩ Hk
  iapply (wp_agSend I K c j hj l hl) $$ [Ho Hx Hf Hr Hret Hrs Ht Ht']
  · isplitr; · iexact HC
    isplitl [Hx]; · iexact Hx
    isplitl [Hf Hret]
    · isplitl [Hf]; · iexact Hf
      iexact Hret
    isplitl [Ho]; · iexact Ho
    isplitl [Ht]; · iexact Ht
    isplitl [Hrs]; · iexact Hrs
    isplitl [Ht']; · iexact Ht'
    iexact Hr
  iintro ⟨Hc, Ho⟩
  iapply Hk
  isplitl [Ho]; · iexact Ho
  iexact Hc

theorem agWaits (c : Dev nD) (l : ℕ) (hl : l < 4) (m : ℕ) (hm : 32 * l + 32 ≤ m) (a n : ℕ) (h : a + n ≤ 16) {rest : P F α} :
    iprop(Ctx I K ∗ owesAny c m ∗ bigSep (seg a n c) (fun j => iprop(crd c (some (.agR j)) l ∗ At c (some (.agR j)) l)))
      ⊢ iprop((owesAny c m ∗ bigSep (seg a n c) (fun j => iprop(xP c j fullShare (XF I l) ∗ ret j c l ∗ At c (some (.agR j)) (l + 1))) -∗ wpc c rest Q)
        -∗ wpc c (seqK c ((fins a n).map .agWait) rest) Q) := by
  refine wp_loop I K c .agWait (self_agWait c) (fun _ => owesAny c m) rfl _ _ (fun j hj rest => ?_) n a h rest
  iintro ⟨#HC, Ho, Hc, Ha⟩ Hk
  iapply (wp_agWait I K c j hj l m hl hm) $$ [Ho Hc Ha]
  · isplitr; · iexact HC
    isplitl [Hc]; · iexact Hc
    isplitl [Ha]; · iexact Ha
    iexact Ho
  iintro ⟨⟨Hx, Hr⟩, Ha, Ho⟩
  iapply Hk
  isplitl [Ho]; · iexact Ho
  isplitl [Hx]; · iexact Hx
  isplitl [Hr]; · iexact Hr
  iexact Ha

theorem agDones (c : Dev nD) (l : ℕ) (hl : l < 4) (m : ℕ) (a n : ℕ) (h : a + n ≤ 16) {rest : P F α} :
    iprop(Ctx I K ∗ owesAny c m ∗ bigSep (seg a n c) (fun j => iprop(crd c (some (.agS j)) l ∗ At c (some (.agS j)) l)))
      ⊢ iprop((owesAny c m ∗ bigSep (seg a n c) (fun j => iprop(xP c c (lent j) (XF I l) ∗ At c (some (.agS j)) (l + 1))) -∗ wpc c rest Q)
        -∗ wpc c (seqK c ((fins a n).map .agDone) rest) Q) := by
  refine wp_loop I K c .agDone (self_agDone c) (fun _ => owesAny c m) rfl _ _ (fun j hj rest => ?_) n a h rest
  iintro ⟨#HC, Ho, Hc, Ha⟩ Hk
  iapply (wp_agDone I K c j hj l m hl) $$ [Ho Hc Ha]
  · isplitr; · iexact HC
    isplitl [Hc]; · iexact Hc
    isplitl [Ha]; · iexact Ha
    iexact Ho
  iintro ⟨Hx, Ha, Ho⟩
  iapply Hk
  isplitl [Ho]; · iexact Ho
  isplitl [Hx]; · iexact Hx
  iexact Ha

theorem rsDones (c : Dev nD) (l : ℕ) (hl : l < 3) (m : ℕ) (a n : ℕ) (h : a + n ≤ 16) {rest : P F α} :
    iprop(Ctx I K ∗ owesAny c m ∗ bigSep (seg a n c) (fun j => iprop(crd c (some (.rsS j)) l ∗ At c (some (.rsS j)) l)))
      ⊢ iprop((owesAny c m ∗ bigSep (seg a n c) (fun j => iprop(pP c j (PF I l c) ∗ At c (some (.rsS j)) (l + 1))) -∗ wpc c rest Q)
        -∗ wpc c (seqK c ((fins a n).map .rsDone) rest) Q) := by
  refine wp_loop I K c .rsDone (self_rsDone c) (fun _ => owesAny c m) rfl _ _ (fun j hj rest => ?_) n a h rest
  iintro ⟨#HC, Ho, Hc, Ha⟩ Hk
  iapply (wp_rsDone I K c j hj l m hl) $$ [Ho Hc Ha]
  · isplitr; · iexact HC
    isplitl [Hc]; · iexact Hc
    isplitl [Ha]; · iexact Ha
    iexact Ho
  iintro ⟨Hx, Ha, Ho⟩
  iapply Hk
  isplitl [Ho]; · iexact Ho
  isplitl [Hx]; · iexact Hx
  iexact Ha

/-- What device `c` needs to send `j` its partial product in layer `l`. -/
def sendP (c : Dev nD) (l : ℕ) (j : Fin 16) : sProp 𝕄 :=
  iprop(pP c j (PF I l c) ∗ ret j c l ∗ xP c j fullShare (XF I l) ∗ At c (some (.agR j)) (l + 1) ∗ At c (some (.rsS j)) l ∗ rsTok c l j)
def sentP (c : Dev nD) (l : ℕ) (j : Fin 16) : sProp 𝕄 :=
  iprop(At c (some (.agR j)) (l + 1) ∗ crd c (some (.rsS j)) l ∗ At c (some (.rsS j)) l)

theorem ret_lt (c : Dev nD) (j : Fin 16) (l : ℕ) (h : l < 3) : (ret c j l : sProp 𝕄) = iprop(rFree c j ∗ rch c (some (.rsR j)) l) := by
  unfold ret rch; rw [if_pos h]

theorem At_eq (c : Dev nD) (k : CK) (r : ℕ) : (At c k r : sProp 𝕄) = iprop(atPos ER (cell c k) r ∅ 0 ∗ rch c k r) := rfl

theorem rsSends (c : Dev nD) (l : ℕ) (hl : l < 3) (a n : ℕ) (h : a + n ≤ 16) {rest : P F α} :
    iprop(Ctx I K ∗ owesAny c (32 + 32 * l + a) ∗ bigSep (seg a n c) (sendP I c l))
      ⊢ iprop((owesAny c (32 + 32 * l + (a + n)) ∗ bigSep (seg a n c) (sentP c l) -∗ wpc c rest Q)
        -∗ wpc c (seqK c ((fins a n).map .rsSend) rest) Q) := by
  have hc : c.val < 16 := c.isLt
  refine wp_loop I K c .rsSend (self_rsSend c) (fun k => owesAny c (32 + 32 * l + k)) (owes_self c _ (by omega) (by omega) (by omega)) (sendP I c l)
    (sentP c l) (fun j hj rest => ?_) n a h rest
  unfold sendP sentP rsTok
  rw [ret_lt j c l hl, At_eq, At_eq]
  iintro ⟨#HC, Ho, Hp, ⟨Hr, #Hrr⟩, Hx, ⟨Ha, #Har⟩, ⟨Hs, #Hsr⟩, Ht, Ht'⟩ Hk
  iapply (wp_rsSend I K c j hj l hl) $$ [Ho Hp Hr Hx Ht Ht']
  · isplitr; · iexact HC
    isplitl [Hp]; · iexact Hp
    isplitl [Hr]; · iexact Hr
    isplitl [Hx]
    · isplitl [Hx]; · unfold xFree; iexists (XF I l); iexact Hx
      iexact Har
    isplitl [Ho]; · iexact Ho
    isplitl [Ht]; · iexact Ht
    isplitr; · iexact Hsr
    isplitl [Ht']; · iexact Ht'
    iexact Hrr
  iintro ⟨Hc, Ho⟩
  iapply Hk
  isplitl [Ho]; · iexact Ho
  isplitl [Ha]
  · isplitl [Ha]; · iexact Ha
    iexact Har
  isplitl [Hc]; · iexact Hc
  isplitl [Hs]; · iexact Hs
  iexact Hsr

theorem accAdds (c : Dev nD) (l : ℕ) (hl : l < 3) (m : ℕ) (hm : 48 + 32 * l ≤ m) (a n : ℕ) (h : a + n ≤ 16) {rest : P F α} :
    iprop(Ctx I K ∗ (owesAny c m ∗ aP c (ACC I l c a)) ∗ bigSep (seg a n c) (fun j => iprop(crd c (some (.rsR j)) l ∗ At c (some (.rsR j)) l)))
      ⊢ iprop(((owesAny c m ∗ aP c (ACC I l c (a + n)))
          ∗ bigSep (seg a n c) (fun j => iprop(rP c j (RBF I l c) ∗ (xFree j c ∗ rch j (some (.agR c)) (l + 1)) ∗ At c (some (.rsR j)) (l + 1))) -∗ wpc c rest Q)
        -∗ wpc c (seqK c ((fins a n).map .accAdd) rest) Q) := by
  refine wp_loop I K c .accAdd (self_accAdd c) (fun k => iprop(owesAny c m ∗ aP c (ACC I l c k))) ?_ _ _ (fun j hj rest => ?_) n a h rest
  · show iprop(owesAny c m ∗ aP c (ACC I l c c.val)) = iprop(owesAny c m ∗ aP c (ACC I l c (c.val + 1)))
    rw [ACC_skip I l c c rfl]
  iintro ⟨#HC, ⟨Ho, Hacc⟩, Hc, Ha⟩ Hk
  iapply (wp_accAdd I K c j hj l m hl hm) $$ [Ho Hc Ha Hacc]
  · isplitr; · iexact HC
    isplitl [Ho Hc Ha]
    · isplitl [Hc]; · iexact Hc
      isplitl [Ha]; · iexact Ha
      iexact Ho
    iexact Hacc
  iintro ⟨⟨Hr, Hx⟩, Ha, Ho, Hacc⟩
  iapply Hk
  isplitl [Ho Hacc]
  · isplitl [Ho]; · iexact Ho
    iexact Hacc
  isplitl [Hr]; · iexact Hr
  isplitl [Hx]; · iexact Hx
  iexact Ha

end Cert.Proof.KernelIdeal
end
-- ==== Proof.KernelIdeal.Layer.lean ====
/- One layer on one device. -/
module

public import proofs.«01_k».proof.Proof.KernelIdeal.Loops
public import proofs.«01_k».proof.Proof.KernelIdeal.Whole

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)
variable {α : Type}
variable {Q : α → sProp (MT nD τ sig ℕ (Elt F) ℕ UU ℕ)}

/-! ## Families -/

abbrev fam (c : Fin 16) (Φ : Fin 16 → sProp 𝕄) : sProp 𝕄 := bigSep (seg 0 16 c) Φ

section
omit [FloatOps F]
theorem big_map {S : Finset (Fin 16)} {Φ Ψ : Fin 16 → sProp 𝕄} (h : ∀ j, Φ j ⊢ Ψ j) : (bigSep S Φ : sProp 𝕄) ⊢ bigSep S Ψ :=
  bigSep_mono fun j _ => h j
theorem big_two {S : Finset (Fin 16)} {X A B : Fin 16 → sProp 𝕄} (h : ∀ j, X j ⊢ iprop(A j ∗ B j)) :
    (bigSep S X : sProp 𝕄) ⊢ iprop(bigSep S A ∗ bigSep S B) := by
  rw [← bigSep_sep']; exact big_map h
theorem big_join {S : Finset (Fin 16)} {X A B : Fin 16 → sProp 𝕄} (h : ∀ j, iprop(A j ∗ B j) ⊢ X j) :
    (iprop(bigSep S A ∗ bigSep S B) : sProp 𝕄) ⊢ bigSep S X := by
  rw [← bigSep_sep']; exact big_map h
end

/-! ## Shares of the device's own rows -/

theorem xP_halves (c : Dev nD) (j : Fin 16) (q : PosShare TreeShare) (f : S1024x1024.Idx → Elt F .bf16) :
    (xP c j q f : sProp 𝕄) ⊣⊢ iprop(xP c j q.left f ∗ xP c j q.right f) := by
  unfold xP; exact pointsTo_share q.mem_left_op_right

theorem lends (c : Dev nD) (f : S1024x1024.Idx → Elt F .bf16) (n : ℕ) : n ≤ 16 → ((xP c c (kept 0) f : sProp 𝕄) ⊢ iprop(xP c c (kept n) f ∗ bigSep (Finset.univ.filter fun j : Fin 16 => j.val < n) fun j => xP c c (lent j) f))
    ∧ ((iprop(xP c c (kept n) f ∗ bigSep (Finset.univ.filter fun j : Fin 16 => j.val < n) fun j => xP c c (lent j) f) : sProp 𝕄) ⊢ xP c c (kept 0) f) := by
  induction n with
  | zero =>
    intro _
    rw [show (Finset.univ.filter fun j : Fin 16 => j.val < 0) = ∅ from Finset.filter_eq_empty_iff.2 fun _ _ => Nat.not_lt_zero _, bigSep_empty]
    constructor
    · iintro H; isplitl [H]; · iexact H
      iempintro
    · iintro ⟨H, -⟩; iexact H
  | succ n ih =>
    intro hn
    obtain ⟨h1, h2⟩ := ih (by omega)
    rw [show (Finset.univ.filter fun j : Fin 16 => j.val < n + 1) = insert (⟨n, hn⟩ : Fin 16) (Finset.univ.filter fun j : Fin 16 => j.val < n) from
        Finset.ext fun j => by
          simp only [Finset.mem_insert, Finset.mem_filter, Finset.mem_univ, true_and, Fin.ext_iff]; omega,
      SparseCore.bigSep_insert' (by simp only [Finset.mem_filter, Finset.mem_univ, true_and]; omega)]
    constructor
    · iintro H
      ihave H := h1 $$ H
      icases H with ⟨Hk, Hl⟩
      ihave Hk := (xP_halves c c (kept n) f).1 $$ Hk
      icases Hk with ⟨Ha, Hb⟩
      isplitl [Ha]; · iexact Ha
      isplitl [Hb]; · iexact Hb
      iexact Hl
    · iintro ⟨Ha, Hb, Hl⟩
      iapply h2
      isplitl [Ha Hb]
      · iapply (xP_halves c c (kept n) f).2
        isplitl [Ha]; · iexact Ha
        iexact Hb
      iexact Hl

theorem lends_all (c : Dev nD) (f : S1024x1024.Idx → Elt F .bf16) :
    ((xP c c (fullShare : PosShare TreeShare).right f : sProp 𝕄) ⊢ iprop(xP c c (kept 16) f ∗ bigSep (Finset.univ.filter fun j : Fin 16 => j.val < 16) fun j => xP c c (lent j) f))
    ∧ ((iprop(xP c c (kept 16) f ∗ bigSep (Finset.univ.filter fun j : Fin 16 => j.val < 16) fun j => xP c c (lent j) f) : sProp 𝕄) ⊢ xP c c (fullShare : PosShare TreeShare).right f) :=
  lends c f 16 le_rfl

/-- The parts of the own rows' share that are not lent. -/
def own (c : Dev nD) (f : S1024x1024.Idx → Elt F .bf16) : sProp 𝕄 :=
  iprop(xP c c (fullShare : PosShare TreeShare).left f ∗ xP c c (kept 16) f ∗ xP c c (lent c) f)
theorem lent_all (c : Dev nD) (f : S1024x1024.Idx → Elt F .bf16) :
    (bigSep (Finset.univ.filter fun j : Fin 16 => j.val < 16) (fun j => xP c c (lent j) f) : sProp 𝕄) = iprop(xP c c (lent c) f ∗ fam c fun j => xP c c (lent j) f) := by
  rw [show (Finset.univ.filter fun j : Fin 16 => j.val < 16) = Finset.univ from Finset.filter_true_of_mem fun j _ => j.isLt, bigSep_univ_at _ c, fam, seg_all]
theorem own_split (c : Dev nD) (f : S1024x1024.Idx → Elt F .bf16) :
    (xP c c fullShare f : sProp 𝕄) ⊢ iprop(own c f ∗ fam c fun j => xP c c (lent j) f) := by
  unfold own
  iintro H
  ihave H := (xP_halves c c fullShare f).1 $$ H
  icases H with ⟨Hl, Hr⟩
  ihave Hr := (lends_all c f).1 $$ Hr
  icases Hr with ⟨Hk, Hr⟩
  ihave Hr := (Entails.of_eq (lent_all c f)) $$ Hr
  icases Hr with ⟨Hc, Hr⟩
  isplitr [Hr]
  · isplitl [Hl]; · iexact Hl
    isplitl [Hk]; · iexact Hk
    iexact Hc
  iexact Hr
theorem own_join (c : Dev nD) (f : S1024x1024.Idx → Elt F .bf16) :
    (iprop(own c f ∗ fam c fun j => xP c c (lent j) f) : sProp 𝕄) ⊢ xP c c fullShare f := by
  unfold own
  iintro ⟨⟨Hl, Hk, Hc⟩, Hr⟩
  iapply (xP_halves c c fullShare f).2
  isplitl [Hl]; · iexact Hl
  iapply (lends_all c f).2
  isplitl [Hk]; · iexact Hk
  iapply (Entails.of_eq (lent_all c f).symm)
  isplitl [Hc]; · iexact Hc
  iexact Hr

/-! ## A row group -/

/-- The device's own rows of its partial product, once the row groups before row device `k` are done. -/
def ownP (c : Dev nD) (l k : ℕ) : sProp 𝕄 := if c.val < k then pP c c (PF I l c) else pFree c c
/-- A weight slot holding layer `l`'s weights. -/
def slotP (c : Dev nD) (i : Fin 2) (l : Fin 3) : sProp 𝕄 := iprop(biP c i (BI (I.wi l c)) ∗ boP c i (BO (I.wo l c)))

theorem grp_in (c : Fin 16) (g : Fin 4) (h : c ∈ grp g) : grp g = insert c (seg (4 * g.val) 4 c) := by
  have hg := g.isLt
  rw [mem_grp] at h
  ext j
  rw [mem_grp, Finset.mem_insert, mem_seg]
  by_cases e : j = c
  · simp only [e, h, true_or]
  · simp only [e, ne_eq, not_false_eq_true, true_and, false_or]; omega
theorem grp_out (c : Fin 16) (g : Fin 4) (h : c ∉ grp g) : grp g = seg (4 * g.val) 4 c := by
  have hg := g.isLt
  rw [mem_grp] at h
  ext j
  rw [mem_grp, mem_seg]
  by_cases e : j = c
  · simp only [e, ne_eq, not_true_eq_false, false_and, iff_false]; exact h
  · simp only [e, ne_eq, not_false_eq_true, true_and]; omega

theorem wp_mmG (c : Dev nD) (i : Fin 2) (g : Fin 4) (a : ℕ) (ha : a = 4 * g.val) (l : Fin 3) {rest : P F α} :
    iprop(bigSep (seg a 4 c) (fun j => iprop(xP c j fullShare (XF I l.val) ∗ pFree c j)) ∗ xP c c (fullShare : PosShare TreeShare).left (XF I l.val)
        ∗ ownP I c l.val a ∗ slotP I c i l)
      ⊢ iprop((bigSep (seg a 4 c) (fun j => iprop(xP c j fullShare (XF I l.val) ∗ pP c j (PF I l.val c))) ∗ xP c c (fullShare : PosShare TreeShare).left (XF I l.val)
        ∗ ownP I c l.val (a + 4) ∗ slotP I c i l -∗ wpc c rest Q) -∗ wpc c (den c rest (.mm i g)) Q) := by
  subst ha
  have hg := g.isLt
  unfold slotP
  have hm := fun q => wp_mm I c i g l.val q (rest := rest) (Q := Q)
  rw [lay_val] at hm
  rw [bigSep_sep', bigSep_sep']
  by_cases h : c ∈ grp g
  · have hc := mem_grp.1 h
    have hns : c ∉ seg (4 * g.val) 4 c := fun h' => (mem_seg.1 h').1 rfl
    have hm := hm (fullShare : PosShare TreeShare).left
    rw [grp_in c g h] at hm
    simp only [SparseCore.bigSep_insert' hns] at hm
    unfold ownP
    rw [if_neg (by omega), if_pos (by omega)]
    iintro ⟨⟨Hx, Hp⟩, Hl, Ho, Hbi, Hbo⟩ Hk
    ihave Hx := (big_two fun j => (xP_halves c j fullShare (XF I l.val)).1) $$ Hx
    icases Hx with ⟨Hx, Hx'⟩
    iapply hm $$ [Hx Hl Hp Ho Hbi Hbo]
    · isplitl [Hx Hl]
      · isplitl [Hl]; · iexact Hl
        iexact Hx
      isplitl [Hp Ho]
      · isplitl [Ho]; · iexact Ho
        iexact Hp
      isplitl [Hbi]; · iexact Hbi
      iexact Hbo
    iintro ⟨⟨Hl, Hx⟩, ⟨Ho, Hp⟩, Hbi, Hbo⟩
    iapply Hk
    isplitl [Hx Hx' Hp]
    · isplitl [Hx Hx']
      · iapply (big_join fun j => (xP_halves c j fullShare (XF I l.val)).2)
        isplitl [Hx]; · iexact Hx
        iexact Hx'
      iexact Hp
    isplitl [Hl]; · iexact Hl
    isplitl [Ho]; · iexact Ho
    isplitl [Hbi]; · iexact Hbi
    iexact Hbo
  · have hm := hm fullShare
    rw [grp_out c g h] at hm
    have hc := mt mem_grp.2 h
    unfold ownP
    rw [if_congr (show c.val < 4 * g.val + 4 ↔ c.val < 4 * g.val by omega) rfl rfl]
    iintro ⟨⟨Hx, Hp⟩, Hl, Ho, Hbi, Hbo⟩ Hk
    iapply hm $$ [Hx Hp Hbi Hbo]
    · isplitl [Hx]; · iexact Hx
      isplitl [Hp]; · iexact Hp
      isplitl [Hbi]; · iexact Hbi
      iexact Hbo
    iintro ⟨Hx, Hp, Hbi, Hbo⟩
    iapply Hk
    isplitl [Hx Hp]
    · isplitl [Hx]; · iexact Hx
      iexact Hp
    isplitl [Hl]; · iexact Hl
    isplitl [Ho]; · iexact Ho
    isplitl [Hbi]; · iexact Hbi
    iexact Hbo

/-- A peer's part in a row group: before its rows are there, and once they are. -/
def gIn (c : Dev nD) (l : ℕ) (j : Fin 16) : sProp 𝕄 :=
  iprop((crd c (some (.agR j)) l ∗ At c (some (.agR j)) l) ∗ (pFree c j ∗ At c (some (.rsS j)) l ∗ rsTok c l j))
def gMid (c : Dev nD) (l : ℕ) (j : Fin 16) : sProp 𝕄 :=
  iprop((xP c j fullShare (XF I l) ∗ pFree c j) ∗ (ret j c l ∗ At c (some (.agR j)) (l + 1) ∗ At c (some (.rsS j)) l ∗ rsTok c l j))

theorem gWait (c : Dev nD) (l : ℕ) (hl : l < 4) (m : ℕ) (hm : 32 * l + 32 ≤ m) (a n : ℕ) (h : a + n ≤ 16) {rest : P F α} :
    iprop(Ctx I K ∗ owesAny c m ∗ bigSep (seg a n c) (gIn c l))
      ⊢ iprop((owesAny c m ∗ bigSep (seg a n c) (gMid I c l) -∗ wpc c rest Q) -∗ wpc c (seqK c ((fins a n).map .agWait) rest) Q) := by
  have hj : ∀ j, iprop((xP c j fullShare (XF I l) ∗ ret j c l ∗ At c (some (.agR j)) (l + 1)) ∗ (pFree c j ∗ At c (some (.rsS j)) l ∗ rsTok c l j)) ⊢ gMid I c l j := fun j => by
    unfold gMid
    iintro ⟨⟨Hx, Hr, Ha⟩, Hp, Hs, Ht⟩
    isplitl [Hx Hp]
    · isplitl [Hx]; · iexact Hx
      iexact Hp
    isplitl [Hr]; · iexact Hr
    isplitl [Ha]; · iexact Ha
    isplitl [Hs]; · iexact Hs
    iexact Ht
  iintro ⟨#HC, Ho, Hg⟩ Hk
  unfold gIn
  ihave Hg := (Entails.of_eq (bigSep_sep' (seg a n c) _ _)) $$ Hg
  icases Hg with ⟨Hw, Hg⟩
  iapply (agWaits I K c l hl m hm a n h) $$ [Ho Hw]
  · isplitr; · iexact HC
    isplitl [Ho]; · iexact Ho
    iexact Hw
  iintro ⟨Ho, Hw⟩
  iapply Hk
  isplitl [Ho]; · iexact Ho
  iapply (big_join hj)
  isplitl [Hw]; · iexact Hw
  iexact Hg

/-- A row group's product, and its rows sent on. -/
theorem gSend (c : Dev nD) (l : Fin 3) (i : Fin 2) (g : Fin 4) (a : ℕ) (ha : a = 4 * g.val) {rest : P F α} :
    iprop(Ctx I K ∗ owesAny c (32 + 32 * l.val + a) ∗ bigSep (seg a 4 c) (gMid I c l.val) ∗ xP c c (fullShare : PosShare TreeShare).left (XF I l.val)
        ∗ ownP I c l.val a ∗ slotP I c i l)
      ⊢ iprop((owesAny c (32 + 32 * l.val + (a + 4)) ∗ bigSep (seg a 4 c) (sentP c l.val) ∗ xP c c (fullShare : PosShare TreeShare).left (XF I l.val)
        ∗ ownP I c l.val (a + 4) ∗ slotP I c i l -∗ wpc c rest Q) -∗ wpc c (den c (seqK c ((fins a 4).map .rsSend) rest) (.mm i g)) Q) := by
  have hg := g.isLt
  have hj : ∀ j, iprop((xP c j fullShare (XF I l.val) ∗ pP c j (PF I l.val c)) ∗ (ret j c l.val ∗ At c (some (.agR j)) (l.val + 1) ∗ At c (some (.rsS j)) l.val ∗ rsTok c l.val j))
      ⊢ sendP I c l.val j := fun j => by
    unfold sendP
    iintro ⟨⟨Hx, Hp⟩, Hr, Ha, Hs, Ht⟩
    isplitl [Hp]; · iexact Hp
    isplitl [Hr]; · iexact Hr
    isplitl [Hx]; · iexact Hx
    isplitl [Ha]; · iexact Ha
    isplitl [Hs]; · iexact Hs
    iexact Ht
  iintro ⟨#HC, Ho, Hg, Hl, Hown, Hs⟩ Hk
  unfold gMid
  ihave Hg := (Entails.of_eq (bigSep_sep' (seg a 4 c) _ _)) $$ Hg
  icases Hg with ⟨Hx, Hg⟩
  iapply (wp_mmG I c i g a ha l) $$ [Hx Hl Hown Hs]
  · isplitl [Hx]; · iexact Hx
    isplitl [Hl]; · iexact Hl
    isplitl [Hown]; · iexact Hown
    iexact Hs
  iintro ⟨Hx, Hl, Hown, Hs⟩
  iapply (rsSends I K c l.val l.isLt a 4 (by omega)) $$ [Ho Hx Hg]
  · isplitr; · iexact HC
    isplitl [Ho]; · iexact Ho
    iapply (big_join hj)
    isplitl [Hx]; · iexact Hx
    iexact Hg
  iintro ⟨Ho, Hg⟩
  iapply Hk
  isplitl [Ho]; · iexact Ho
  isplitl [Hg]; · iexact Hg
  isplitl [Hl]; · iexact Hl
  isplitl [Hown]; · iexact Hown
  iexact Hs

end Cert.Proof.KernelIdeal
end
-- ==== Proof.KernelIdeal.Body.lean ====
/- The body of the kernel on one device, from what it starts with to what it leaves. -/
module

public import proofs.«01_k».proof.Proof.KernelIdeal.Layer

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)
variable {α : Type}
variable {Q : α → sProp (MT nD τ sig ℕ (Elt F) ℕ UU ℕ)}

/-! ## The weights, layer by layer -/

def stgFree (c : Dev nD) : sProp 𝕄 := iprop(siFree c ∗ soFree c)
def slotFree (c : Dev nD) (i : Fin 2) : sProp 𝕄 := iprop(biFree c i ∗ boFree c i)
/-- The weights in a layer, beside the slot it reads: before it fetches the next layer's, and after. -/
def wNext (c : Dev nD) : Fin 3 → sProp 𝕄
  | 0 => iprop(slotFree c 1 ∗ wCrd c 1 ∗ wAt c 1 ∗ wTok c 2 ∗ wArr I c 0 ∗ wArr I c 2)
  | 1 => iprop(slotFree c 0 ∗ wCrd c 2 ∗ wAt c 2 ∗ wArr I c 0 ∗ wArr I c 1)
  | 2 => iprop(slotFree c 1 ∗ stgFree c ∗ wAt c 3 ∗ wArr I c 0 ∗ wArr I c 1 ∗ wArr I c 2)
def wDone (c : Dev nD) : Fin 3 → sProp 𝕄
  | 0 => iprop(slotP I c 1 1 ∗ wCrd c 2 ∗ wAt c 2 ∗ wArr I c 0 ∗ wArr I c 1)
  | 1 => iprop(slotP I c 0 2 ∗ stgFree c ∗ wAt c 3 ∗ wArr I c 0 ∗ wArr I c 1 ∗ wArr I c 2)
  | 2 => iprop(slotFree c 1 ∗ stgFree c ∗ wAt c 3 ∗ wArr I c 0 ∗ wArr I c 1 ∗ wArr I c 2)

theorem slot_free (c : Dev nD) (i : Fin 2) (l : Fin 3) : slotP I c i l ⊢ slotFree c i := by
  unfold slotP slotFree biFree boFree
  iintro ⟨Ha, Hb⟩
  isplitl [Ha]; · iexists _; iexact Ha
  iexists _; iexact Hb

/-- Arrived weights are moved to their slot. -/
theorem wp_place (c : Dev nD) (l : Fin 3) (i : Fin 2) (n : ℕ) {rest : P F α} :
    iprop(Ctx I K ∗ owesAny c n ∗ wCrd c l.val ∗ wAt c l.val ∗ slotFree c i)
      ⊢ iprop((owesAny c n ∗ slotP I c i l ∗ stgFree c ∗ wAt c (l.val + 1) ∗ wArr I c l -∗ wpc c rest Q) -∗ wpc c (seqK c [.wwait l, .wput i] rest) Q) := by
  simp only [seqK]
  unfold slotFree slotP stgFree
  iintro ⟨#HC, Ho, Hc, Ha, Hbi, Hbo⟩ Hk
  iapply (wp_wwait I K c l n) $$ [Ho Hc Ha]
  · isplitr; · iexact HC
    isplitl [Hc]; · iexact Hc
    isplitl [Ha]; · iexact Ha
    iexact Ho
  iintro ⟨Hsi, Hso, Hw, Ha, Ho⟩
  iapply (wp_wput c i (I.wi l c) (I.wo l c)) $$ [Hsi Hso Hbi Hbo]
  · isplitl [Hsi]; · iexact Hsi
    isplitl [Hso]; · iexact Hso
    isplitl [Hbi]; · iexact Hbi
    iexact Hbo
  iintro ⟨Hsi, Hso, Hbi, Hbo⟩
  iapply Hk
  isplitl [Ho]; · iexact Ho
  isplitl [Hbi Hbo]
  · isplitl [Hbi]; · iexact Hbi
    iexact Hbo
  isplitl [Hsi Hso]
  · isplitl [Hsi]; · unfold siFree; iexists _; iexact Hsi
    unfold soFree; iexists _; iexact Hso
  isplitl [Ha]; · iexact Ha
  iexact Hw

/-- A layer's weights are sent for. -/
theorem wp_order (c : Dev nD) (l : Fin 3) {rest : P F α} :
    iprop(Ctx I K ∗ wArr I c l ∗ stgFree c ∗ wTok c l.val ∗ wAt c l.val)
      ⊢ iprop((wCrd c l.val ∗ wAt c l.val -∗ wpc c rest Q) -∗ wpc c (den c rest (.wstart l)) Q) := by
  unfold stgFree wAt
  rw [At_eq, At_eq]
  iintro ⟨#HC, Hw, ⟨Hsi, Hso⟩, Ht, ⟨Ha, #Hra⟩, Hb, #Hrb⟩ Hk
  iapply (wp_wstart I K c l) $$ [Hw Hsi Hso Ht]
  · isplitr; · iexact HC
    isplitl [Hw]; · iexact Hw
    isplitl [Hsi]; · iexact Hsi
    isplitl [Hso]; · iexact Hso
    isplitl [Ht]; · iexact Ht
    isplitl []; · iexact Hra
    iexact Hrb
  iintro Hc
  iapply Hk
  isplitl [Hc]; · iexact Hc
  isplitl [Ha]
  · isplitl [Ha]; · iexact Ha
    iexact Hra
  isplitl [Hb]; · iexact Hb
  iexact Hrb

theorem wp_fetch (c : Dev nD) (l : Fin 3) (n : ℕ) {rest : P F α} :
    iprop(Ctx I K ∗ owesAny c n ∗ wNext I c l) ⊢ iprop((owesAny c n ∗ wDone I c l -∗ wpc c rest Q) -∗ wpc c (seqK c (fetch l) rest) Q) := by
  match l with
  | 0 =>
    show iprop(Ctx I K ∗ owesAny c n ∗ slotFree c 1 ∗ wCrd c 1 ∗ wAt c 1 ∗ wTok c 2 ∗ wArr I c 0 ∗ wArr I c 2)
      ⊢ iprop((owesAny c n ∗ slotP I c 1 1 ∗ wCrd c 2 ∗ wAt c 2 ∗ wArr I c 0 ∗ wArr I c 1 -∗ wpc c rest Q)
        -∗ wpc c (seqK c [.wwait 1, .wput 1] (den c rest (.wstart 2))) Q)
    iintro ⟨#HC, Ho, Hs, Hc, Ha, Ht, H0, H2⟩ Hk
    iapply (wp_place I K c 1 1 n) $$ [Ho Hs Hc Ha]
    · isplitr; · iexact HC
      isplitl [Ho]; · iexact Ho
      isplitl [Hc]; · iexact Hc
      isplitl [Ha]; · iexact Ha
      iexact Hs
    iintro ⟨Ho, Hs, Hg, Ha, H1⟩
    iapply (wp_order I K c 2) $$ [Hg Ha Ht H2]
    · isplitr; · iexact HC
      isplitl [H2]; · iexact H2
      isplitl [Hg]; · iexact Hg
      isplitl [Ht]; · iexact Ht
      iexact Ha
    iintro ⟨Hc, Ha⟩
    iapply Hk
    isplitl [Ho]; · iexact Ho
    isplitl [Hs]; · iexact Hs
    isplitl [Hc]; · iexact Hc
    isplitl [Ha]; · iexact Ha
    isplitl [H0]; · iexact H0
    iexact H1
  | 1 =>
    show iprop(Ctx I K ∗ owesAny c n ∗ slotFree c 0 ∗ wCrd c 2 ∗ wAt c 2 ∗ wArr I c 0 ∗ wArr I c 1)
      ⊢ iprop((owesAny c n ∗ slotP I c 0 2 ∗ stgFree c ∗ wAt c 3 ∗ wArr I c 0 ∗ wArr I c 1 ∗ wArr I c 2 -∗ wpc c rest Q)
        -∗ wpc c (seqK c [.wwait 2, .wput 0] rest) Q)
    iintro ⟨#HC, Ho, Hs, Hc, Ha, H0, H1⟩ Hk
    iapply (wp_place I K c 2 0 n) $$ [Ho Hs Hc Ha]
    · isplitr; · iexact HC
      isplitl [Ho]; · iexact Ho
      isplitl [Hc]; · iexact Hc
      isplitl [Ha]; · iexact Ha
      iexact Hs
    iintro ⟨Ho, Hs, Hg, Ha, H2⟩
    iapply Hk
    isplitl [Ho]; · iexact Ho
    isplitl [Hs]; · iexact Hs
    isplitl [Hg]; · iexact Hg
    isplitl [Ha]; · iexact Ha
    isplitl [H0]; · iexact H0
    isplitl [H1]; · iexact H1
    iexact H2
  | 2 =>
    show iprop(Ctx I K ∗ owesAny c n ∗ wNext I c 2) ⊢ iprop((owesAny c n ∗ wNext I c 2 -∗ wpc c rest Q) -∗ wpc c rest Q)
    iintro ⟨-, H⟩ Hk
    iapply Hk
    iexact H

/-! ## A layer -/

/-- What is left of the leaves to send, and of what may be waited for, in layer `l`. -/
def later (c : Dev nD) (a b : ℕ) (j : Fin 16) : sProp 𝕄 :=
  iprop((bigSep (Finset.Ico a 4) fun r => iprop(agTok c r j ∗ crd c (some (.agR j)) r)) ∗ bigSep (Finset.Ico b 3) fun r => iprop(rsTok c r j ∗ crd c (some (.rsR j)) r))
/-- After the last layer the receive slots lie idle; before, the peers hold them. -/
def idle (c : Dev nD) (l : ℕ) (j : Fin 16) : sProp 𝕄 := if l < 3 then iprop(emp) else rFree c j

/-- The part of peer `j` in device `c`'s state at the start of layer `l`. -/
def La (c : Dev nD) (l : ℕ) (j : Fin 16) : sProp 𝕄 :=
  iprop((crd c (some (.agS j)) l ∗ At c (some (.agS j)) l) ∗ (crd c (some (.agR j)) l ∗ At c (some (.agR j)) l) ∗ pFree c j
    ∗ At c (some (.rsR j)) l ∗ At c (some (.rsS j)) l ∗ later c (l + 1) l j ∗ idle c l j)
def gRest (c : Dev nD) (l : ℕ) (j : Fin 16) : sProp 𝕄 :=
  iprop((crd c (some (.rsR j)) l ∗ At c (some (.rsR j)) l) ∗ (agTok c (l + 1) j ∗ crd c (some (.agR j)) (l + 1) ∗ later c (l + 2) (l + 1) j))

theorem La_split (c : Dev nD) (l : ℕ) (h : l < 3) (j : Fin 16) :
    (La c l j : sProp 𝕄) ⊢ iprop((crd c (some (.agS j)) l ∗ At c (some (.agS j)) l) ∗ gIn c l j ∗ gRest c l j) := by
  unfold La gIn gRest later
  rw [from_head (show l + 1 < 4 by omega), from_head h]
  iintro ⟨H1, H2, Hp, Hr, Hs, ⟨⟨⟨Hta, Hca⟩, Hla⟩, ⟨Htr, Hcr⟩, Hlr⟩, -⟩
  isplitl [H1]; · iexact H1
  isplitl [H2 Hp Hs Htr]
  · isplitl [H2]; · iexact H2
    isplitl [Hp]; · iexact Hp
    isplitl [Hs]; · iexact Hs
    iexact Htr
  isplitl [Hcr Hr]
  · isplitl [Hcr]; · iexact Hcr
    iexact Hr
  isplitl [Hta]; · iexact Hta
  isplitl [Hca]; · iexact Hca
  isplitl [Hla]; · iexact Hla
  iexact Hlr

/-- What is kept of a peer's part while the next rows are sent. -/
def gKeep (c : Dev nD) (l : ℕ) (j : Fin 16) : sProp 𝕄 :=
  iprop(At c (some (.rsR j)) l ∗ At c (some (.agS j)) l ∗ idle c l j ∗ crd c (some (.agR j)) l ∗ later c (l + 1) l j)

theorem send_split (c : Dev nD) (l : ℕ) (h : l < 3) (j : Fin 16) :
    iprop(xP c c (lent j) (XF I (l + 1)) ∗ (rP c j (RBF I l c) ∗ (xFree j c ∗ rch j (some (.agR c)) (l + 1)) ∗ At c (some (.rsR j)) (l + 1))
        ∗ At c (some (.agS j)) (l + 1) ∗ (agTok c (l + 1) j ∗ crd c (some (.agR j)) (l + 1) ∗ later c (l + 2) (l + 1) j))
      ⊢ iprop(sendX I c (l + 1) j ∗ gKeep c (l + 1) j) := by
  unfold sendX gKeep
  have hr : iprop(rP c j (RBF I l c) ∗ rch c (some (.rsR j)) (l + 1)) ⊢ iprop(ret c j (l + 1) ∗ idle c (l + 1) j) := by
    unfold ret idle rch rFree
    split
    · iintro ⟨H, #Hr⟩
      isplitl [H]
      · isplitl [H]; · iexists _; iexact H
        iexact Hr
      iempintro
    · iintro ⟨H, -⟩
      isplitr; · iempintro
      iexists _; iexact H
  rw [At_eq, At_eq]
  iintro ⟨Hx, ⟨Hr, Hf, Ha, #Har⟩, ⟨Hs, #Hsr⟩, Ht, Hc, Hl⟩
  ihave Hr := hr $$ [Hr]
  · isplitl [Hr]; · iexact Hr
    iexact Har
  icases Hr with ⟨Hr, Hi⟩
  isplitl [Hx Hf Hr Ht]
  · isplitl [Hx]; · iexact Hx
    isplitl [Hf]; · iexact Hf
    isplitl [Hr]; · iexact Hr
    isplitr; · iexact Hsr
    iexact Ht
  isplitl [Ha]
  · isplitl [Ha]; · iexact Ha
    iexact Har
  isplitl [Hs]
  · isplitl [Hs]; · iexact Hs
    iexact Hsr
  isplitl [Hi]; · iexact Hi
  isplitl [Hc]; · iexact Hc
  iexact Hl

theorem La_join (c : Dev nD) (l m : ℕ) (j : Fin 16) :
    iprop(crd c (some (.agS j)) m ∗ gKeep c m j ∗ At c (some (.agR j)) m ∗ (pP c j (PF I l c) ∗ At c (some (.rsS j)) m)) ⊢ La c m j := by
  unfold La gKeep
  iintro ⟨Hc, ⟨Hr, Hs, Hi, Hca, Hl⟩, Ha, Hp, Hrs⟩
  isplitl [Hc Hs]
  · isplitl [Hc]; · iexact Hc
    iexact Hs
  isplitl [Hca Ha]
  · isplitl [Hca]; · iexact Hca
    iexact Ha
  isplitl [Hp]; · unfold pFree; iexists _; iexact Hp
  isplitl [Hr]; · iexact Hr
  isplitl [Hrs]; · iexact Hrs
  isplitl [Hl]; · iexact Hl
  iexact Hi

/-- Device `c` at the start of layer `l`. -/
def Lst (c : Dev nD) (l : ℕ) : sProp 𝕄 :=
  iprop(owesAny c (32 * l + 32) ∗ fam c (La c l) ∗ own c (XF I l) ∗ pFree c c ∗ aFree c)

theorem wp_layer (c : Dev nD) (l : Fin 3) {rest : P F α} :
    iprop(Ctx I K ∗ Lst I c l.val ∗ slotP I c (wslot l) l ∗ wNext I c l)
      ⊢ iprop((Lst I c (l.val + 1) ∗ slotP I c (wslot l) l ∗ wDone I c l -∗ wpc c rest Q) -∗ wpc c (seqK c (layer l) rest) Q) := by
  have hl := l.isLt
  have hc : c.val < 16 := c.isLt
  simp only [layer, ← seqK_append, seqK]
  unfold Lst own
  iintro ⟨#HC, ⟨Ho, Hf, ⟨Hl, Hk16, Hlc⟩, Hpc, Hac⟩, Hs, Hw⟩ Hk
  ihave Hf := (big_two (La_split c l.val l.isLt)) $$ Hf
  icases Hf with ⟨Hag, Hf⟩
  ihave Hf := (Entails.of_eq (bigSep_sep' (seg 0 16 c) (gIn c l.val) (gRest c l.val))) $$ Hf
  icases Hf with ⟨Hg, Hrest⟩
  ihave Hg := (Entails.of_eq (seg_groups c (gIn c l.val))) $$ Hg
  icases Hg with ⟨Hg0, Hg1, Hg2, Hg3⟩
  ihave Hown := (Entails.of_eq (show (pFree c c : sProp 𝕄) = ownP I c l.val 0 by unfold ownP; rw [if_neg (by omega)])) $$ Hpc
  -- the first row group
  iapply (gWait I K c l.val (by omega) (32 * l.val + 32) (by omega) 0 4 (by omega)) $$ [Ho Hg0]
  · isplitr; · iexact HC
    isplitl [Ho]; · iexact Ho
    iexact Hg0
  iintro ⟨Ho, Hg0⟩
  ihave Ho := (Entails.of_eq (congrArg (owesAny (F := F) c) (show 32 * l.val + 32 = 32 + 32 * l.val + 0 by omega))) $$ Ho
  iapply (gSend I K c l (wslot l) 0 0 rfl) $$ [Ho Hg0 Hl Hown Hs]
  · isplitr; · iexact HC
    isplitl [Ho]; · iexact Ho
    isplitl [Hg0]; · iexact Hg0
    isplitl [Hl]; · iexact Hl
    isplitl [Hown]; · iexact Hown
    iexact Hs
  iintro ⟨Ho, Hg0, Hl, Hown, Hs⟩
  -- the second
  iapply (gWait I K c l.val (by omega) (32 + 32 * l.val + 4) (by omega) 4 4 (by omega)) $$ [Ho Hg1]
  · isplitr; · iexact HC
    isplitl [Ho]; · iexact Ho
    iexact Hg1
  iintro ⟨Ho, Hg1⟩
  iapply (agDones I K c l.val (by omega) (32 + 32 * l.val + 4) 0 16 (by omega)) $$ [Ho Hag]
  · isplitr; · iexact HC
    isplitl [Ho]; · iexact Ho
    iexact Hag
  iintro ⟨Ho, Hag⟩
  iapply (gSend I K c l (wslot l) 1 4 rfl) $$ [Ho Hg1 Hl Hown Hs]
  · isplitr; · iexact HC
    isplitl [Ho]; · iexact Ho
    isplitl [Hg1]; · iexact Hg1
    isplitl [Hl]; · iexact Hl
    isplitl [Hown]; · iexact Hown
    iexact Hs
  iintro ⟨Ho, Hg1, Hl, Hown, Hs⟩
  -- the third
  iapply (gWait I K c l.val (by omega) (32 + 32 * l.val + 8) (by omega) 8 4 (by omega)) $$ [Ho Hg2]
  · isplitr; · iexact HC
    isplitl [Ho]; · iexact Ho
    iexact Hg2
  iintro ⟨Ho, Hg2⟩
  iapply (wp_fetch I K c l (32 + 32 * l.val + 8)) $$ [Ho Hw]
  · isplitr; · iexact HC
    isplitl [Ho]; · iexact Ho
    iexact Hw
  iintro ⟨Ho, Hw⟩
  iapply (gSend I K c l (wslot l) 2 8 rfl) $$ [Ho Hg2 Hl Hown Hs]
  · isplitr; · iexact HC
    isplitl [Ho]; · iexact Ho
    isplitl [Hg2]; · iexact Hg2
    isplitl [Hl]; · iexact Hl
    isplitl [Hown]; · iexact Hown
    iexact Hs
  iintro ⟨Ho, Hg2, Hl, Hown, Hs⟩
  -- the fourth
  iapply (gWait I K c l.val (by omega) (32 + 32 * l.val + 12) (by omega) 12 4 (by omega)) $$ [Ho Hg3]
  · isplitr; · iexact HC
    isplitl [Ho]; · iexact Ho
    iexact Hg3
  iintro ⟨Ho, Hg3⟩
  iapply (gSend I K c l (wslot l) 3 12 rfl) $$ [Ho Hg3 Hl Hown Hs]
  · isplitr; · iexact HC
    isplitl [Ho]; · iexact Ho
    isplitl [Hg3]; · iexact Hg3
    isplitl [Hl]; · iexact Hl
    isplitl [Hown]; · iexact Hown
    iexact Hs
  iintro ⟨Ho, Hg3, Hl, Hown, Hs⟩
  ihave Ho := (Entails.of_eq (congrArg (owesAny (F := F) c) (show 32 + 32 * l.val + (12 + 4) = 48 + 32 * l.val by omega))) $$ Ho
  ihave Hg := (Entails.of_eq (seg_groups c (sentP c l.val)).symm) $$ [Hg0 Hg1 Hg2 Hg3]
  · isplitl [Hg0]; · iexact Hg0
    isplitl [Hg1]; · iexact Hg1
    isplitl [Hg2]; · iexact Hg2
    iexact Hg3
  unfold sentP
  ihave Hg := (Entails.of_eq (bigSep_sep' (seg 0 16 c) _ _)) $$ Hg
  icases Hg with ⟨HagR, HrsS⟩
  ihave Hown := (Entails.of_eq (show ownP I c l.val (12 + 4) = (pP c c (PF I l.val c) : sProp 𝕄) by unfold ownP; rw [if_pos (by omega)])) $$ Hown
  -- the sum
  iapply (wp_accInit I c l.val) $$ [Hac Hown]
  · isplitl [Hac]; · iexact Hac
    iexact Hown
  iintro ⟨Hac, Hown⟩
  ihave Hrest := (big_two (fun j => show gRest c l.val j ⊢ iprop((crd c (some (.rsR j)) l.val ∗ At c (some (.rsR j)) l.val)
    ∗ (agTok c (l.val + 1) j ∗ crd c (some (.agR j)) (l.val + 1) ∗ later c (l.val + 2) (l.val + 1) j)) from .rfl)) $$ Hrest
  icases Hrest with ⟨HrsR, Hrest⟩
  iapply (accAdds I K c l.val hl (48 + 32 * l.val) le_rfl 0 16 (by omega)) $$ [Ho Hac HrsR]
  · isplitr; · iexact HC
    isplitl [Ho Hac]
    · isplitl [Ho]; · iexact Ho
      iexact Hac
    iexact HrsR
  iintro ⟨⟨Ho, Hac⟩, HrsR⟩
  iapply (rsDones I K c l.val hl (48 + 32 * l.val) 0 16 (by omega)) $$ [Ho HrsS]
  · isplitr; · iexact HC
    isplitl [Ho]; · iexact Ho
    iexact HrsS
  iintro ⟨Ho, HrsS⟩
  -- the new rows
  ihave Hag := (Entails.of_eq (bigSep_sep' (seg 0 16 c) (fun j => xP c c (lent j) (XF I l.val)) (fun j => At c (some (.agS j)) (l.val + 1)))) $$ Hag
  icases Hag with ⟨Hle, Hag⟩
  ihave Hx := (own_join c (XF I l.val)) $$ [Hl Hk16 Hlc Hle]
  · isplitr [Hle]
    · unfold own
      isplitl [Hl]; · iexact Hl
      isplitl [Hk16]; · iexact Hk16
      iexact Hlc
    iexact Hle
  iapply (wp_xput I c l.val) $$ [Hac Hx]
  · isplitl [Hac]; · iexact Hac
    unfold xFree; iexists _; iexact Hx
  iintro ⟨Hac, Hx⟩
  ihave Hx := (own_split c (XF I (l.val + 1))) $$ Hx
  icases Hx with ⟨Hx, Hle⟩
  have hj : (iprop(fam c (fun j => xP c c (lent j) (XF I (l.val + 1)))
      ∗ fam c (fun j => iprop(rP c j (RBF I l.val c) ∗ (xFree j c ∗ rch j (some (.agR c)) (l.val + 1)) ∗ At c (some (.rsR j)) (l.val + 1)))
      ∗ fam c (fun j => At c (some (.agS j)) (l.val + 1))
      ∗ fam c (fun j => iprop(agTok c (l.val + 1) j ∗ crd c (some (.agR j)) (l.val + 1) ∗ later c (l.val + 2) (l.val + 1) j))) : sProp 𝕄)
      ⊢ iprop(fam c (sendX I c (l.val + 1)) ∗ fam c (gKeep c (l.val + 1))) := by
    simp only [fam, ← bigSep_sep']
    exact big_map fun j => send_split I c l.val hl j
  ihave Hsend := hj $$ [Hle HrsR Hag Hrest]
  · isplitl [Hle]; · iexact Hle
    isplitl [HrsR]; · iexact HrsR
    isplitl [Hag]; · iexact Hag
    iexact Hrest
  icases Hsend with ⟨Hsend, Hkeep⟩
  ihave Ho := (Entails.of_eq (congrArg (owesAny (F := F) c) (show 48 + 32 * l.val = 16 + 32 * (l.val + 1) + 0 by omega))) $$ Ho
  iapply (agSends I K c (l.val + 1) (by omega) 0 16 (by omega)) $$ [Ho Hsend]
  · isplitr; · iexact HC
    isplitl [Ho]; · iexact Ho
    iexact Hsend
  iintro ⟨Ho, Hsent⟩
  ihave Ho := (Entails.of_eq (congrArg (owesAny (F := F) c) (show 16 + 32 * (l.val + 1) + (0 + 16) = 32 * (l.val + 1) + 32 by omega))) $$ Ho
  have hj' : (iprop(fam c (fun j => crd c (some (.agS j)) (l.val + 1)) ∗ fam c (gKeep c (l.val + 1)) ∗ fam c (fun j => At c (some (.agR j)) (l.val + 1))
      ∗ fam c (fun j => iprop(pP c j (PF I l.val c) ∗ At c (some (.rsS j)) (l.val + 1)))) : sProp 𝕄) ⊢ fam c (La c (l.val + 1)) := by
    simp only [fam, ← bigSep_sep']
    exact big_map fun j => La_join I c l.val (l.val + 1) j
  iapply Hk
  isplitr [Hs Hw]
  · isplitl [Ho]; · iexact Ho
    isplitl [Hsent Hkeep HagR HrsS]
    · iapply hj'
      isplitl [Hsent]; · iexact Hsent
      isplitl [Hkeep]; · iexact Hkeep
      isplitl [HagR]; · iexact HagR
      iexact HrsS
    isplitl [Hx]; · unfold own; iexact Hx
    isplitl [Hown]; · unfold pFree; iexists _; iexact Hown
    unfold aFree; iexists _; iexact Hac
  isplitl [Hs]; · iexact Hs
  iexact Hw

end Cert.Proof.KernelIdeal
end
-- ==== Proof.KernelIdeal.Ends.lean ====
/- The whole body on one device: what comes before the layers, the layers, and what comes after. -/
module

public import proofs.«01_k».proof.Proof.KernelIdeal.Body

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)
variable {α : Type}
variable {Q : α → sProp (MT nD τ sig ℕ (Elt F) ℕ UU ℕ)}

def outFree (d : Dev nD) : sProp 𝕄 := iprop(∃ f, outP d f)

/-- What peer `j` is for device `c` at the start. -/
def Fa (c : Dev nD) (j : Fin 16) : sProp 𝕄 :=
  iprop(At c (some (.agS j)) 0 ∗ At c (some (.agR j)) 0 ∗ At c (some (.rsS j)) 0 ∗ At c (some (.rsR j)) 0 ∗ pFree c j ∗ rFree c j ∗ later c 0 0 j)
/-- And at the end. -/
def Fz (c : Dev nD) (j : Fin 16) : sProp 𝕄 :=
  iprop(At c (some (.agS j)) 4 ∗ At c (some (.agR j)) 4 ∗ At c (some (.rsS j)) 3 ∗ At c (some (.rsR j)) 3 ∗ pFree c j ∗ rFree c j ∗ xFree c j)

def wArrs (c : Dev nD) : sProp 𝕄 := iprop(wArr I c 0 ∗ wArr I c 1 ∗ wArr I c 2)

/-- What device `c` starts with. -/
def Sta (c : Dev nD) : sProp 𝕄 :=
  iprop(owesAny c 0 ∗ (bigSep (Finset.Ico 0 15) fun k => iprop(tok (nb c k) none 0 c ∗ xFree c (nb c k))) ∗ cred (tallyAt (cell c none) 0 15) ∗ At c none 0
    ∗ fam c (Fa c) ∗ xFree c c ∗ pFree c c ∗ xinP c (I.x c) ∗ outFree c ∗ aFree c
    ∗ wArrs I c ∗ wAt c 0 ∗ (wTok c 0 ∗ wTok c 1 ∗ wTok c 2) ∗ stgFree c ∗ slotFree c 0 ∗ slotFree c 1)
/-- What device `c` ends with. -/
def Fin' (c : Dev nD) : sProp 𝕄 :=
  iprop(owesAny c 128 ∗ At c none 1 ∗ fam c (Fz c) ∗ xFree c c ∗ pFree c c ∗ xinP c (I.x c) ∗ outP c (OUT I) ∗ aFree c
    ∗ wArrs I c ∗ wAt c 3 ∗ stgFree c ∗ slotFree c 0 ∗ slotFree c 1)

theorem first_split (c : Dev nD) (j : Fin 16) :
    iprop(xP c c (lent j) (XF I 0) ∗ (Fa c j ∗ xFree j c) ∗ Ctx I K)
      ⊢ iprop(sendX I c 0 j ∗ (gKeep c 0 j ∗ pFree c j ∗ At c (some (.agR j)) 0 ∗ At c (some (.rsS j)) 0)) := by
  unfold Fa sendX gKeep later idle
  rw [ret_lt c j 0 (by omega), if_pos (show 0 < 3 by omega), from_head (show 0 < 4 by omega), At_eq c (some (.agS j)), At_eq c (some (.rsR j))]
  iintro ⟨Hx, ⟨⟨⟨Hs, #Hsr⟩, Ha, Hrs, ⟨Hr, #Hrr⟩, Hp, Hrf, ⟨⟨Ht, Hc⟩, Hl⟩, Hl'⟩, Hf⟩, #HC⟩
  isplitl [Hx Hrf Ht Hf]
  · isplitl [Hx]; · iexact Hx
    isplitl [Hf]
    · isplitl [Hf]; · iexact Hf
      unfold rch; iapply (Ctx_reached I K j (some (.agR c))); iexact HC
    isplitl [Hrf]
    · isplitl [Hrf]; · iexact Hrf
      iexact Hrr
    isplitr; · iexact Hsr
    iexact Ht
  isplitl [Hs Hr Hc Hl Hl']
  · isplitl [Hr]
    · isplitl [Hr]; · iexact Hr
      iexact Hrr
    isplitl [Hs]
    · isplitl [Hs]; · iexact Hs
      iexact Hsr
    isplitr; · iempintro
    isplitl [Hc]; · iexact Hc
    isplitl [Hl]; · iexact Hl
    iexact Hl'
  isplitl [Hp]; · iexact Hp
  isplitl [Ha]; · iexact Ha
  iexact Hrs

theorem first_join (c : Dev nD) (j : Fin 16) :
    iprop(crd c (some (.agS j)) 0 ∗ (gKeep c 0 j ∗ pFree c j ∗ At c (some (.agR j)) 0 ∗ At c (some (.rsS j)) 0)) ⊢ (La c 0 j : sProp 𝕄) := by
  unfold La gKeep
  iintro ⟨Hc, ⟨Hr, Hs, Hi, Hca, Hl⟩, Hp, Ha, Hrs⟩
  isplitl [Hc Hs]
  · isplitl [Hc]; · iexact Hc
    iexact Hs
  isplitl [Hca Ha]
  · isplitl [Hca]; · iexact Hca
    iexact Ha
  isplitl [Hp]; · iexact Hp
  isplitl [Hr]; · iexact Hr
  isplitl [Hrs]; · iexact Hrs
  isplitl [Hl]; · iexact Hl
  iexact Hi

theorem wp_pre (c : Dev nD) {rest : P F α} :
    iprop(Ctx I K ∗ Sta I c)
      ⊢ iprop((Lst I c 0 ∗ slotP I c 0 0 ∗ wNext I c 0 ∗ At c none 1 ∗ xinP c (I.x c) ∗ outFree c -∗ wpc c rest Q) -∗ wpc c (seqK c pre rest) Q) := by
  have e : pre = .wstart 0 :: .bar :: .xinit :: ((fins 0 16).map .agSend ++ ([.wwait 0, .wput 0] ++ [.wstart 1])) := rfl
  rw [e, seqK, seqK, seqK, ← seqK_append, ← seqK_append, show seqK c [.wstart 1] rest = den c rest (.wstart 1) from rfl]
  unfold Sta wArrs
  iintro ⟨#HC, Ho, Hb, Hcb, Hab, Hf, Hx, Hp, Hin, Hout, Hac, ⟨H0, H1, H2⟩, Hwa, ⟨Ht0, Ht1, Ht2⟩, Hg, Hs0, Hs1⟩ Hk
  iapply (wp_order I K c 0) $$ [H0 Hg Ht0 Hwa]
  · isplitr; · iexact HC
    isplitl [H0]; · iexact H0
    isplitl [Hg]; · iexact Hg
    isplitl [Ht0]; · iexact Ht0
    iexact Hwa
  iintro ⟨Hwc, Hwa⟩
  iapply (wp_bar I K c) $$ [Ho Hb Hcb Hab]
  · isplitr; · iexact HC
    isplitl [Ho]; · iexact Ho
    isplitl [Hb]; · iexact Hb
    isplitl [Hcb]; · iexact Hcb
    iexact Hab
  iintro ⟨Hfs, Hab, Ho⟩
  iapply (wp_xinit I c (I.x c) rfl) $$ [Hin Hx]
  · isplitl [Hin]; · iexact Hin
    iexact Hx
  iintro ⟨Hin, Hx⟩
  ihave Hx := (own_split c (XF I 0)) $$ Hx
  icases Hx with ⟨Hx, Hle⟩
  ihave Hfs := (Entails.of_eq (congrArg (fun S => (bigSep S (fun p => xFree p c) : sProp 𝕄)) (seg_all c).symm)) $$ Hfs
  have hcs : Ctx I K ⊢ fam c (fun _ => Ctx I K) := bigSep_of_persistent _ _
  have hj : (iprop(fam c (fun j => xP c c (lent j) (XF I 0)) ∗ (fam c (Fa c) ∗ fam c (fun j => xFree j c)) ∗ fam c (fun _ => Ctx I K)) : sProp 𝕄)
      ⊢ iprop(fam c (sendX I c 0) ∗ fam c (fun j => iprop(gKeep c 0 j ∗ pFree c j ∗ At c (some (.agR j)) 0 ∗ At c (some (.rsS j)) 0))) := by
    simp only [fam, ← bigSep_sep']
    exact big_map fun j => first_split I K c j
  ihave Hsend := hj $$ [Hle Hf Hfs]
  · isplitl [Hle]; · iexact Hle
    isplitl [Hf Hfs]
    · isplitl [Hf]; · iexact Hf
      iexact Hfs
    iapply hcs; iexact HC
  icases Hsend with ⟨Hsend, Hkeep⟩
  ihave Ho := (Entails.of_eq (congrArg (owesAny (F := F) c) (show 16 = 16 + 32 * 0 + 0 by omega))) $$ Ho
  iapply (agSends I K c 0 (by omega) 0 16 (by omega)) $$ [Ho Hsend]
  · isplitr; · iexact HC
    isplitl [Ho]; · iexact Ho
    iexact Hsend
  iintro ⟨Ho, Hsent⟩
  ihave Ho := (Entails.of_eq (congrArg (owesAny (F := F) c) (show 16 + 32 * 0 + (0 + 16) = 32 * 0 + 32 by omega))) $$ Ho
  iapply (wp_place I K c 0 0 (32 * 0 + 32)) $$ [Ho Hs0 Hwc Hwa]
  · isplitr; · iexact HC
    isplitl [Ho]; · iexact Ho
    isplitl [Hwc]; · iexact Hwc
    isplitl [Hwa]; · iexact Hwa
    iexact Hs0
  iintro ⟨Ho, Hs0, Hg, Hwa, H0⟩
  iapply (wp_order I K c 1) $$ [H1 Hg Ht1 Hwa]
  · isplitr; · iexact HC
    isplitl [H1]; · iexact H1
    isplitl [Hg]; · iexact Hg
    isplitl [Ht1]; · iexact Ht1
    iexact Hwa
  iintro ⟨Hwc, Hwa⟩
  iapply Hk
  isplitl [Ho Hsent Hkeep Hx Hp Hac]
  · unfold Lst
    isplitl [Ho]; · iexact Ho
    isplitl [Hsent Hkeep]
    · iapply (big_join (first_join c))
      isplitl [Hsent]; · iexact Hsent
      iexact Hkeep
    isplitl [Hx]; · iexact Hx
    isplitl [Hp]; · iexact Hp
    iexact Hac
  isplitl [Hs0]; · iexact Hs0
  isplitl [Hs1 Hwc Hwa Ht2 H0 H2]
  · unfold wNext
    isplitl [Hs1]; · iexact Hs1
    isplitl [Hwc]; · iexact Hwc
    isplitl [Hwa]; · iexact Hwa
    isplitl [Ht2]; · iexact Ht2
    isplitl [H0]; · iexact H0
    iexact H2
  isplitl [Hab]; · iexact Hab
  isplitl [Hin]; · iexact Hin
  iexact Hout

theorem last_split (c : Dev nD) (j : Fin 16) :
    (La c 3 j : sProp 𝕄) ⊢ iprop((crd c (some (.agS j)) 3 ∗ At c (some (.agS j)) 3) ∗ (crd c (some (.agR j)) 3 ∗ At c (some (.agR j)) 3)
      ∗ (pFree c j ∗ At c (some (.rsR j)) 3 ∗ At c (some (.rsS j)) 3 ∗ rFree c j)) := by
  unfold La idle
  rw [if_neg (by omega)]
  iintro ⟨H1, H2, Hp, Hr, Hs, -, Hi⟩
  isplitl [H1]; · iexact H1
  isplitl [H2]; · iexact H2
  isplitl [Hp]; · iexact Hp
  isplitl [Hr]; · iexact Hr
  isplitl [Hs]; · iexact Hs
  iexact Hi

theorem last_join (c : Dev nD) (j : Fin 16) :
    iprop(xP c j fullShare (XF I 3) ∗ At c (some (.agS j)) 4 ∗ (ret j c 3 ∗ At c (some (.agR j)) 4) ∗ (pFree c j ∗ At c (some (.rsR j)) 3 ∗ At c (some (.rsS j)) 3 ∗ rFree c j))
      ⊢ (Fz c j : sProp 𝕄) := by
  unfold Fz
  iintro ⟨Hx, Hs, ⟨-, Ha⟩, Hp, Hr, Hrs, Hrf⟩
  isplitl [Hs]; · iexact Hs
  isplitl [Ha]; · iexact Ha
  isplitl [Hrs]; · iexact Hrs
  isplitl [Hr]; · iexact Hr
  isplitl [Hp]; · iexact Hp
  isplitl [Hrf]; · iexact Hrf
  unfold xFree; iexists _; iexact Hx

theorem wp_post (c : Dev nD) {rest : P F α} :
    iprop(Ctx I K ∗ Lst I c 3 ∗ outFree c)
      ⊢ iprop((owesAny c 128 ∗ fam c (Fz c) ∗ xFree c c ∗ pFree c c ∗ aFree c ∗ outP c (OUT I) -∗ wpc c rest Q) -∗ wpc c (seqK c post rest) Q) := by
  simp only [post, ← seqK_append, seqK]
  unfold Lst outFree
  iintro ⟨#HC, ⟨Ho, Hf, Hx, Hp, Hac⟩, ⟨%fo, Hout⟩⟩ Hk
  ihave Hf := (big_two (last_split c)) $$ Hf
  icases Hf with ⟨Hs, Hf⟩
  ihave Hf := (Entails.of_eq (bigSep_sep' (seg 0 16 c) _ _)) $$ Hf
  icases Hf with ⟨Ha, Hf⟩
  iapply (agWaits I K c 3 (by omega) (32 * 3 + 32) le_rfl 0 16 (by omega)) $$ [Ho Ha]
  · isplitr; · iexact HC
    isplitl [Ho]; · iexact Ho
    iexact Ha
  iintro ⟨Ho, Ha⟩
  iapply (agDones I K c 3 (by omega) (32 * 3 + 32) 0 16 (by omega)) $$ [Ho Hs]
  · isplitr; · iexact HC
    isplitl [Ho]; · iexact Ho
    iexact Hs
  iintro ⟨Ho, Hs⟩
  ihave Hs := (Entails.of_eq (bigSep_sep' (seg 0 16 c) (fun j => xP c c (lent j) (XF I 3)) (fun j => At c (some (.agS j)) (3 + 1)))) $$ Hs
  icases Hs with ⟨Hle, Hs⟩
  ihave Ha := (Entails.of_eq (bigSep_sep' (seg 0 16 c) (fun j => xP c j fullShare (XF I 3)) (fun j => iprop(ret j c 3 ∗ At c (some (.agR j)) (3 + 1))))) $$ Ha
  icases Ha with ⟨Hxs, Ha⟩
  ihave Hx := (own_join c (XF I 3)) $$ [Hx Hle]
  · isplitl [Hx]; · iexact Hx
    iexact Hle
  have hall : (bigSep Finset.univ (fun j => xP c j fullShare (XF I 3)) : sProp 𝕄) = iprop(xP c c fullShare (XF I 3) ∗ fam c fun j => xP c j fullShare (XF I 3)) := by
    rw [bigSep_univ_at _ c, fam, seg_all]
  iapply (wp_out I c fullShare fo) $$ [Hx Hxs Hout]
  · isplitr [Hout]
    · iapply (Entails.of_eq hall.symm)
      isplitl [Hx]; · iexact Hx
      iexact Hxs
    iexact Hout
  iintro ⟨Hxs, Hout⟩
  ihave Hxs := (Entails.of_eq hall) $$ Hxs
  icases Hxs with ⟨Hx, Hxs⟩
  have hj : (iprop(fam c (fun j => xP c j fullShare (XF I 3)) ∗ fam c (fun j => At c (some (.agS j)) 4) ∗ fam c (fun j => iprop(ret j c 3 ∗ At c (some (.agR j)) 4))
      ∗ fam c (fun j => iprop(pFree c j ∗ At c (some (.rsR j)) 3 ∗ At c (some (.rsS j)) 3 ∗ rFree c j))) : sProp 𝕄) ⊢ fam c (Fz c) := by
    simp only [fam, ← bigSep_sep']
    exact big_map fun j => last_join I c j
  iapply Hk
  isplitl [Ho]; · iexact Ho
  isplitl [Hxs Hs Ha Hf]
  · iapply hj
    isplitl [Hxs]; · iexact Hxs
    isplitl [Hs]; · iexact Hs
    isplitl [Ha]; · iexact Ha
    iexact Hf
  isplitl [Hx]; · unfold xFree; iexists _; iexact Hx
  isplitl [Hp]; · iexact Hp
  isplitl [Hac]; · iexact Hac
  iexact Hout

theorem wDone_0 (c : Dev nD) : iprop(slotP I c 0 0 ∗ wDone I c 0) ⊢ iprop(slotP I c 1 1 ∗ wNext I c 1) := by
  show iprop(slotP I c 0 0 ∗ slotP I c 1 1 ∗ wCrd c 2 ∗ wAt c 2 ∗ wArr I c 0 ∗ wArr I c 1) ⊢ iprop(slotP I c 1 1 ∗ slotFree c 0 ∗ wCrd c 2 ∗ wAt c 2 ∗ wArr I c 0 ∗ wArr I c 1)
  iintro ⟨H0, H1, H⟩
  isplitl [H1]; · iexact H1
  isplitl [H0]; · iapply (slot_free I c 0 0); iexact H0
  iexact H
theorem wDone_1 (c : Dev nD) : iprop(slotP I c 1 1 ∗ wDone I c 1) ⊢ iprop(slotP I c 0 2 ∗ wNext I c 2) := by
  show iprop(slotP I c 1 1 ∗ slotP I c 0 2 ∗ stgFree c ∗ wAt c 3 ∗ wArr I c 0 ∗ wArr I c 1 ∗ wArr I c 2)
    ⊢ iprop(slotP I c 0 2 ∗ slotFree c 1 ∗ stgFree c ∗ wAt c 3 ∗ wArr I c 0 ∗ wArr I c 1 ∗ wArr I c 2)
  iintro ⟨H0, H1, H⟩
  isplitl [H1]; · iexact H1
  isplitl [H0]; · iapply (slot_free I c 1 1); iexact H0
  iexact H
theorem wDone_2 (c : Dev nD) : iprop(slotP I c 0 2 ∗ wDone I c 2) ⊢ iprop(slotFree c 0 ∗ slotFree c 1 ∗ stgFree c ∗ wAt c 3 ∗ wArr I c 0 ∗ wArr I c 1 ∗ wArr I c 2) := by
  show iprop(slotP I c 0 2 ∗ slotFree c 1 ∗ stgFree c ∗ wAt c 3 ∗ wArr I c 0 ∗ wArr I c 1 ∗ wArr I c 2) ⊢ _
  iintro ⟨H0, H⟩
  isplitl [H0]; · iapply (slot_free I c 0 2); iexact H0
  iexact H

theorem wp_prog (c : Dev nD) {rest : P F α} :
    iprop(Ctx I K ∗ Sta I c) ⊢ iprop((Fin' I c -∗ wpc c rest Q) -∗ wpc c (seqK c prog rest) Q) := by
  simp only [prog, ← seqK_append]
  iintro ⟨#HC, H⟩ Hk
  iapply (wp_pre I K c) $$ [H]
  · isplitr; · iexact HC
    iexact H
  iintro ⟨HL, Hs, Hw, Hab, Hin, Hout⟩
  iapply (wp_layer I K c 0) $$ [HL Hs Hw]
  · isplitr; · iexact HC
    isplitl [HL]; · iexact HL
    isplitl [Hs]; · iexact Hs
    iexact Hw
  iintro ⟨HL, Hs, Hw⟩
  ihave Hw := (wDone_0 I c) $$ [Hs Hw]
  · isplitl [Hs]; · iexact Hs
    iexact Hw
  icases Hw with ⟨Hs, Hw⟩
  iapply (wp_layer I K c 1) $$ [HL Hs Hw]
  · isplitr; · iexact HC
    isplitl [HL]; · iexact HL
    isplitl [Hs]; · iexact Hs
    iexact Hw
  iintro ⟨HL, Hs, Hw⟩
  ihave Hw := (wDone_1 I c) $$ [Hs Hw]
  · isplitl [Hs]; · iexact Hs
    iexact Hw
  icases Hw with ⟨Hs, Hw⟩
  iapply (wp_layer I K c 2) $$ [HL Hs Hw]
  · isplitr; · iexact HC
    isplitl [HL]; · iexact HL
    isplitl [Hs]; · iexact Hs
    iexact Hw
  iintro ⟨HL, Hs, Hw⟩
  ihave Hw := (wDone_2 I c) $$ [Hs Hw]
  · isplitl [Hs]; · iexact Hs
    iexact Hw
  icases Hw with ⟨Hs0, Hs1, Hg, Hwa, Hw⟩
  iapply (wp_post I K c) $$ [HL Hout]
  · isplitr; · iexact HC
    isplitl [HL]; · iexact HL
    iexact Hout
  iintro ⟨Ho, Hf, Hx, Hp, Hac, Hout⟩
  iapply Hk
  unfold Fin' wArrs
  isplitl [Ho]; · iexact Ho
  isplitl [Hab]; · iexact Hab
  isplitl [Hf]; · iexact Hf
  isplitl [Hx]; · iexact Hx
  isplitl [Hp]; · iexact Hp
  isplitl [Hin]; · iexact Hin
  isplitl [Hout]; · iexact Hout
  isplitl [Hac]; · iexact Hac
  isplitl [Hw]; · iexact Hw
  isplitl [Hwa]; · iexact Hwa
  isplitl [Hg]; · iexact Hg
  isplitl [Hs0]; · iexact Hs0
  iexact Hs1

end Cert.Proof.KernelIdeal
end
-- ==== Proof.KernelIdeal.Close.lean ====
/- A device's semaphores taken back at zero, and its buffers cut up and put together. -/
module

public import proofs.«01_k».proof.Proof.KernelIdeal.Ends

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)

/-! ## All cells of a device -/

/-- A device's cells, kind by kind. -/
def ckE : (Fin 1 ⊕ Fin 16 ⊕ Fin 16 ⊕ Fin 16 ⊕ Fin 16 ⊕ Fin 2) ≃ CK where
  toFun
    | .inl _ => none
    | .inr (.inl j) => some (.agS j)
    | .inr (.inr (.inl j)) => some (.agR j)
    | .inr (.inr (.inr (.inl j))) => some (.rsS j)
    | .inr (.inr (.inr (.inr (.inl j)))) => some (.rsR j)
    | .inr (.inr (.inr (.inr (.inr i)))) => some (.wd i)
  invFun
    | none => .inl 0
    | some (.agS j) => .inr (.inl j)
    | some (.agR j) => .inr (.inr (.inl j))
    | some (.rsS j) => .inr (.inr (.inr (.inl j)))
    | some (.rsR j) => .inr (.inr (.inr (.inr (.inl j))))
    | some (.wd i) => .inr (.inr (.inr (.inr (.inr i))))
  left_inv := by rintro (i | j | j | j | j | i) <;> first | rfl | exact congrArg Sum.inl (Subsingleton.elim _ _)
  right_inv := by rintro (_ | (j | j | j | j | i)) <;> rfl

omit [FloatOps F] in
theorem bigSep_fin1 (Φ : Fin 1 → sProp 𝕄) : bigSep Finset.univ Φ = Φ 0 := bigSep_singleton (i := (0 : Fin 1)) (Φ := Φ)
omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem big_CK (Φ : CK → sProp 𝕄) : bigSep Finset.univ Φ
    = iprop(Φ none ∗ (bigSep Finset.univ fun j => Φ (some (.agS j))) ∗ (bigSep Finset.univ fun j => Φ (some (.agR j)))
        ∗ (bigSep Finset.univ fun j => Φ (some (.rsS j))) ∗ (bigSep Finset.univ fun j => Φ (some (.rsR j))) ∗ Φ (some (.wd 0)) ∗ Φ (some (.wd 1))) := by
  rw [bigSep_univ_equiv ckE Φ, bigSep_univ_sum, bigSep_univ_sum, bigSep_univ_sum, bigSep_univ_sum, bigSep_univ_sum, bigSep_fin1, bigSep_fin2]
  rfl

omit [FloatOps F] in
theorem all_at (c : Dev nD) (Φ : Fin 16 → sProp 𝕄) : bigSep Finset.univ Φ = iprop(Φ c ∗ fam c Φ) := by
  rw [bigSep_univ_at Φ c, fam, seg_all]

omit [FloatOps F] in
theorem with_persistent {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Cell `k` has no raise left to come. -/
def Done (c : Dev nD) (k : CK) : sProp 𝕄 := iprop(∃ R, ⌜∀ r, R ≤ r → dut c k r = ∅⌝ ∗ At c k R)

theorem Done_close (c : Dev nD) (k : CK) : iprop(Ctx I K ∗ Done c k) ⊢ (|={Set.univ}=> semVal (cell c k) 0 : sProp 𝕄) := by
  unfold Done At
  iintro ⟨#HC, ⟨%R, %hR, Hat, -⟩⟩
  iapply (Rounds.cell_close ER (Sch I) (Set.mem_univ (K (c, k))) (fun h => h) (R := R) (fun r hr => (Sch_duties I c k r).trans (hR r hr))) $$ [Hat]
  isplitr; · iapply (Ctx_inv I K c k); iexact HC
  iexact Hat

theorem close_all (c : Dev nD) : iprop(Ctx I K ∗ bigSep Finset.univ (Done c)) ⊢ (|={Set.univ}=> bigSep Finset.univ (fun k => semVal (cell c k) 0) : sProp 𝕄) :=
  (with_persistent fun k _ => Done_close I K c k).trans (bigSep_fupd _ _)

theorem done_of (c : Dev nD) (k : CK) (R : ℕ) (h : ∀ r, R ≤ r → dut c k r = ∅) : (At c k R : sProp 𝕄) ⊢ Done c k := by
  unfold Done
  iintro H; iexists R; isplitr; · ipureintro; exact h
  iexact H

theorem dut_self (c : Dev nD) (r : ℕ) : dut c (some (.agS c)) r = ∅ ∧ dut c (some (.agR c)) r = ∅ ∧ dut c (some (.rsS c)) r = ∅ ∧ dut c (some (.rsR c)) r = ∅ :=
  ⟨if_neg fun h => h.2 rfl, if_neg fun h => h.2 rfl, if_neg fun h => h.2 rfl, if_neg fun h => h.2 rfl⟩

/-- A device's place in its four cells with itself as peer. -/
def selfAt (c : Dev nD) : sProp 𝕄 :=
  iprop(At c (some (.agS c)) 0 ∗ At c (some (.agR c)) 0 ∗ At c (some (.rsS c)) 0 ∗ At c (some (.rsR c)) 0)
/-- A device's place in its cells with peer `j` at the end. -/
def endAt (c j : Dev nD) : sProp 𝕄 :=
  iprop(At c (some (.agS j)) 4 ∗ At c (some (.agR j)) 4 ∗ At c (some (.rsS j)) 3 ∗ At c (some (.rsR j)) 3)
def allDone (c j : Dev nD) : sProp 𝕄 :=
  iprop(Done c (some (.agS j)) ∗ Done c (some (.agR j)) ∗ Done c (some (.rsS j)) ∗ Done c (some (.rsR j)))

theorem self_done (c : Dev nD) : (selfAt c : sProp 𝕄) ⊢ allDone c c := by
  unfold selfAt allDone
  iintro ⟨H1, H2, H3, H4⟩
  isplitl [H1]; · iapply (done_of c _ 0 fun r _ => (dut_self c r).1); iexact H1
  isplitl [H2]; · iapply (done_of c _ 0 fun r _ => (dut_self c r).2.1); iexact H2
  isplitl [H3]; · iapply (done_of c _ 0 fun r _ => (dut_self c r).2.2.1); iexact H3
  iapply (done_of c _ 0 fun r _ => (dut_self c r).2.2.2); iexact H4
theorem dut_end (c j : Dev nD) : (∀ r, 4 ≤ r → dut c (some (.agS j)) r = ∅) ∧ (∀ r, 4 ≤ r → dut c (some (.agR j)) r = ∅)
    ∧ (∀ r, 3 ≤ r → dut c (some (.rsS j)) r = ∅) ∧ ∀ r, 3 ≤ r → dut c (some (.rsR j)) r = ∅ :=
  ⟨fun r hr => if_neg fun h => Nat.not_lt.2 hr h.1, fun r hr => if_neg fun h => Nat.not_lt.2 hr h.1,
    fun r hr => if_neg fun h => Nat.not_lt.2 hr h.1, fun r hr => if_neg fun h => Nat.not_lt.2 hr h.1⟩
theorem end_done (c j : Dev nD) : (endAt c j : sProp 𝕄) ⊢ allDone c j := by
  unfold endAt allDone
  iintro ⟨H1, H2, H3, H4⟩
  isplitl [H1]; · iapply (done_of c _ 4 (dut_end c j).1); iexact H1
  isplitl [H2]; · iapply (done_of c _ 4 (dut_end c j).2.1); iexact H2
  isplitl [H3]; · iapply (done_of c _ 3 (dut_end c j).2.2.1); iexact H3
  iapply (done_of c _ 3 (dut_end c j).2.2.2); iexact H4

theorem all_done (c : Dev nD) : iprop(At c none 1 ∗ selfAt c ∗ fam c (endAt c) ∗ wAt c 3) ⊢ (bigSep Finset.univ (Done c) : sProp 𝕄) := by
  rw [big_CK, all_at c (fun j => Done c (some (.agS j))), all_at c (fun j => Done c (some (.agR j))), all_at c (fun j => Done c (some (.rsS j))), all_at c (fun j => Done c (some (.rsR j)))]
  unfold wAt
  iintro ⟨Hb, Hs, Hf, Hw0, Hw1⟩
  ihave Hs := (self_done c) $$ Hs
  have hf : (fam c (endAt c) : sProp 𝕄) ⊢ iprop((fam c fun j => Done c (some (.agS j))) ∗ (fam c fun j => Done c (some (.agR j))) ∗ (fam c fun j => Done c (some (.rsS j))) ∗ (fam c fun j => Done c (some (.rsR j)))) := by
    simp only [fam, ← bigSep_sep']
    exact big_map fun j => end_done c j
  ihave Hf := hf $$ Hf
  unfold allDone
  icases Hs with ⟨S1, S2, S3, S4⟩
  icases Hf with ⟨F1, F2, F3, F4⟩
  isplitl [Hb]; · iapply (done_of c none 1 fun r hr => if_neg fun h => by omega); iexact Hb
  isplitl [S1 F1]; · isplitl [S1] <;> iassumption
  isplitl [S2 F2]; · isplitl [S2] <;> iassumption
  isplitl [S3 F3]; · isplitl [S3] <;> iassumption
  isplitl [S4 F4]; · isplitl [S4] <;> iassumption
  isplitl [Hw0]
  · iapply (done_of c (some (.wd 0)) 3 fun r hr => if_neg (Nat.not_lt.2 hr)); iexact Hw0
  · iapply (done_of c (some (.wd 1)) 3 fun r hr => if_neg (Nat.not_lt.2 hr)); iexact Hw1

/-- The barrier's cell and the kernel's own. -/
def optE : (Fin 1 ⊕ SK) ≃ CK where
  toFun | .inl _ => none | .inr k => some k
  invFun | none => .inl 0 | some k => .inr k
  left_inv := by rintro (i | k) <;> first | rfl | exact congrArg Sum.inl (Subsingleton.elim _ _)
  right_inv := by rintro (_ | k) <;> rfl
omit [FloatOps F] in
theorem big_opt (Φ : CK → sProp 𝕄) : bigSep Finset.univ Φ = iprop(Φ none ∗ bigSep Finset.univ fun k : SK => Φ (some k)) := by
  rw [bigSep_univ_equiv optE Φ, bigSep_univ_sum, bigSep_fin1]; rfl

/-! ## A device's scratch buffers -/

theorem mem_sS {j : Fin 16} {i : S16x64x1024.Idx} : i ∈ sS j ↔ (i 0).val = j.val := by simp only [sS, Finset.mem_filter, Finset.mem_univ, true_and]
theorem in_slots (i : S16x64x1024.Idx) : (∃ t ∈ (Finset.univ : Finset (Fin 16)), i ∈ sS t) ↔ i ∈ (Finset.univ : Finset S16x64x1024.Idx) :=
  ⟨fun _ => Finset.mem_univ _, fun _ => ⟨(i 0 : Fin 16), Finset.mem_univ _, mem_sS.2 rfl⟩⟩
theorem in_bI (i : S2x1024x2048.Idx) : (∃ t ∈ (Finset.univ : Finset (Fin 2)), i ∈ bI t) ↔ i ∈ (Finset.univ : Finset S2x1024x2048.Idx) :=
  ⟨fun _ => Finset.mem_univ _, fun _ => ⟨(i 0 : Fin 2), Finset.mem_univ _, Finset.mem_filter.2 ⟨Finset.mem_univ _, rfl⟩⟩⟩
theorem in_bO (i : S2x2048x1024.Idx) : (∃ t ∈ (Finset.univ : Finset (Fin 2)), i ∈ bO t) ↔ i ∈ (Finset.univ : Finset S2x2048x1024.Idx) :=
  ⟨fun _ => Finset.mem_univ _, fun _ => ⟨(i 0 : Fin 2), Finset.mem_univ _, Finset.mem_filter.2 ⟨Finset.mem_univ _, rfl⟩⟩⟩
theorem bI_disj {i j : Fin 2} (h : i ≠ j) : Disjoint (bI i) (bI j) := Finset.disjoint_left.2 fun x h1 h2 =>
  h (Fin.ext ((Finset.mem_filter.1 h1).2.symm.trans (Finset.mem_filter.1 h2).2))
theorem bO_disj {i j : Fin 2} (h : i ≠ j) : Disjoint (bO i) (bO j) := Finset.disjoint_left.2 fun x h1 h2 =>
  h (Fin.ext ((Finset.mem_filter.1 h1).2.symm.trans (Finset.mem_filter.1 h2).2))

omit [FloatOps F] in
/-- A buffer at some contents is its parts, each at some contents. -/
theorem parts_eq {T : Type} [DecidableEq T] [Fintype T] (ℓ : Loc nD τ sig) (f₀ : Buf (Elt F) ℓ) (Kp : T → Finset (Idx ℓ))
    (h : ∀ t ∈ (Finset.univ : Finset T), ∀ t' ∈ (Finset.univ : Finset T), t ≠ t' → Disjoint (Kp t) (Kp t'))
    (hA : ∀ i, (∃ t ∈ (Finset.univ : Finset T), i ∈ Kp t) ↔ i ∈ (Finset.univ : Finset (Idx ℓ))) :
    (iprop(∃ f : Buf (Elt F) ℓ, ℓ ↦{fullShare} f) : sProp 𝕄) = bigSep Finset.univ fun t => iprop(∃ f : Buf (Elt F) ℓ, ℓ ↦[Kp t]{fullShare} f) := by
  have hx : ∀ f, (bigSep Finset.univ (fun t => iprop(ℓ ↦[Kp t]{fullShare} f)) : sProp 𝕄) ⊢ bigSep Finset.univ fun t => iprop(∃ f : Buf (Elt F) ℓ, ℓ ↦[Kp t]{fullShare} f) :=
    fun f => bigSep_mono fun t _ => show (iprop(ℓ ↦[Kp t]{fullShare} f) : sProp 𝕄) ⊢ iprop(∃ f : Buf (Elt F) ℓ, ℓ ↦[Kp t]{fullShare} f) by iintro H; iexists f; iexact H
  have h1 : (iprop(∃ f : Buf (Elt F) ℓ, ℓ ↦{fullShare} f) : sProp 𝕄) ⊢ bigSep Finset.univ fun t => iprop(∃ f : Buf (Elt F) ℓ, ℓ ↦[Kp t]{fullShare} f) := by
    iintro ⟨%f, H⟩
    ihave H := (Entails.of_eq (covered (q := fullShare) (f := f) Finset.univ Kp Finset.univ h hA)) $$ H
    iapply (hx f); iexact H
  exact Entails.antisymm h1 (covered_join Finset.univ Kp Finset.univ f₀ h hA)

/-- A device's scratch buffers, cut up as the program uses them. -/
def bufs (c : Dev nD) : sProp 𝕄 :=
  iprop(bigSep Finset.univ (xFree c) ∗ bigSep Finset.univ (pFree c) ∗ bigSep Finset.univ (rFree c) ∗ aFree c ∗ stgFree c ∗ slotFree c 0 ∗ slotFree c 1)

omit [FloatOps F] in
theorem anyBuf (ℓ : Loc nD τ sig) [∀ e, Nonempty (Elt F e)] : Nonempty (Buf (Elt F) ℓ) := ⟨fun _ => Classical.choice inferInstance⟩

/-- The same, buffer by buffer. -/
def bufs0 (c : Dev nD) : sProp 𝕄 :=
  iprop(bigSep Finset.univ (xFree c) ∗ bigSep Finset.univ (pFree c) ∗ bigSep Finset.univ (rFree c) ∗ aFree c ∗ siFree c ∗ soFree c
    ∗ (biFree c 0 ∗ biFree c 1) ∗ boFree c 0 ∗ boFree c 1)
theorem bufs0_to (c : Dev nD) : (bufs0 c : sProp 𝕄) ⊢ bufs c := by
  unfold bufs bufs0 stgFree slotFree
  iintro ⟨H0, H1, H2, H3, H4, H5, ⟨H6, H6'⟩, H7, H7'⟩
  isplitl [H0]; · iexact H0
  isplitl [H1]; · iexact H1
  isplitl [H2]; · iexact H2
  isplitl [H3]; · iexact H3
  isplitl [H4 H5]; · isplitl [H4] <;> iassumption
  isplitl [H6 H7]; · isplitl [H6] <;> iassumption
  isplitl [H6'] <;> iassumption
theorem bufs0_of (c : Dev nD) : (bufs c : sProp 𝕄) ⊢ bufs0 c := by
  unfold bufs bufs0 stgFree slotFree
  iintro ⟨H0, H1, H2, H3, ⟨H4, H5⟩, ⟨H6, H7⟩, ⟨H6', H7'⟩⟩
  isplitl [H0]; · iexact H0
  isplitl [H1]; · iexact H1
  isplitl [H2]; · iexact H2
  isplitl [H3]; · iexact H3
  isplitl [H4]; · iexact H4
  isplitl [H5]; · iexact H5
  isplitl [H6 H6']; · isplitl [H6] <;> iassumption
  isplitl [H7] <;> iassumption
theorem bufs_eq (c : Dev nD) : (Pipeline.scopedRest (Ix := ℕ) (Name := ℕ) (U := UU) (Lvl := ℕ) (Val := Elt F) spec0 c : sProp 𝕄) = bufs c := by
  rw [scopedRest0_eq,
    parts_eq ((c : Thread nD τ).loc cc0_scratch0) (Classical.choice (anyBuf _)) (fun j => (cS j : Finset (Idx ((c : Thread nD τ).loc cc0_scratch0)))) (fun t _ t' _ h => cS_disj h) in_all,
    parts_eq ((c : Thread nD τ).loc cc0_scratch1) (Classical.choice (anyBuf _)) (fun j => (cS j : Finset (Idx ((c : Thread nD τ).loc cc0_scratch1)))) (fun t _ t' _ h => cS_disj h) in_all,
    parts_eq ((c : Thread nD τ).loc cc0_scratch2) (Classical.choice (anyBuf _)) (fun j => (sS j : Finset (Idx ((c : Thread nD τ).loc cc0_scratch2)))) (fun t _ t' _ h => sS_disj h) in_slots,
    parts_eq ((c : Thread nD τ).loc cc0_scratch6) (Classical.choice (anyBuf _)) (fun j => (bI j : Finset (Idx ((c : Thread nD τ).loc cc0_scratch6)))) (fun t _ t' _ h => bI_disj h) in_bI,
    parts_eq ((c : Thread nD τ).loc cc0_scratch7) (Classical.choice (anyBuf _)) (fun j => (bO j : Finset (Idx ((c : Thread nD τ).loc cc0_scratch7)))) (fun t _ t' _ h => bO_disj h) in_bO,
    bigSep_fin2, bigSep_fin2]
  exact Entails.antisymm (bufs0_to c) (bufs0_of c)

end Cert.Proof.KernelIdeal
end
-- ==== Proof.KernelIdeal.Start.lean ====
/- From what the launch gives a device to what its program starts from, and from what it ends with to what the launch wants back. -/
module

public import proofs.«01_k».proof.Proof.KernelIdeal.Close

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)

/-- A device's peers, in the order in which it greets them. -/
theorem nb_image (c : Dev nD) : (Finset.Ico 0 15).image (nb c) = seg 0 16 c := by
  have h : ∀ c : Fin 16, (Finset.Ico 0 15).image (fun t => (⟨(c.val + t + 1) % 16, Nat.mod_lt _ (by decide)⟩ : Fin 16)) = (Finset.univ.filter fun j : Fin 16 => 0 ≤ j.val ∧ j.val < 0 + 16).erase c := by
    decide +kernel
  exact h c
theorem nb_inj (c : Dev nD) : Set.InjOn (nb c) ↑(Finset.Ico 0 15) := fun a ha b hb e => by
  have h : (c.val + a + 1) % 16 = (c.val + b + 1) % 16 := congrArg Fin.val e
  have hc : c.val < 16 := c.isLt
  have ha' := (Finset.mem_Ico.1 (Finset.mem_coe.1 ha)).2
  have hb' := (Finset.mem_Ico.1 (Finset.mem_coe.1 hb)).2
  omega
omit [FloatOps F] in
theorem big_nb (c : Dev nD) (Φ : Fin 16 → sProp 𝕄) : (bigSep (Finset.Ico 0 15) fun t => Φ (nb c t)) = fam c Φ := by
  rw [fam, ← nb_image c, bigSep_image_of_injOn (nb_inj c)]

/-- The leave a device has to raise cells: the barrier's of its peers, those of its sends and of its peers' arrivals, its fetches'. -/
def payP (c j : Dev nD) : sProp 𝕄 := iprop((bigSep (Finset.Ico 0 4) fun r => agTok c r j) ∗ bigSep (Finset.Ico 0 3) fun r => rsTok c r j)
def payToks (c : Dev nD) : sProp 𝕄 :=
  iprop((fam c fun j => tok j none 0 c) ∗ fam c (payP c) ∗ wTok c 0 ∗ wTok c 1 ∗ wTok c 2)
/-- What a device may wait for from its peers. -/
def crdP (c j : Dev nD) : sProp 𝕄 := iprop((bigSep (Finset.Ico 0 4) fun r => crd c (some (.agR j)) r) ∗ bigSep (Finset.Ico 0 3) fun r => crd c (some (.rsR j)) r)
def crds (c : Dev nD) : sProp 𝕄 := iprop(cred (tallyAt (cell c none) 0 15) ∗ fam c (crdP c))
def pos0 (c : Dev nD) : sProp 𝕄 := bigSep Finset.univ fun k : CK => atPos ER (cell c k) 0 ∅ 0

theorem at_zero (c : Dev nD) : iprop(Ctx I K ∗ pos0 c) ⊢ (bigSep Finset.univ (fun k : CK => At c k 0) : sProp 𝕄) :=
  with_persistent fun k _ => show iprop(Ctx I K ∗ atPos ER (cell c k) 0 ∅ 0) ⊢ (At c k 0 : sProp 𝕄) by
    unfold At
    iintro ⟨#HC, H⟩
    isplitl [H]; · iexact H
    iapply (Ctx_reached I K c k); iexact HC

theorem later_join (c j : Dev nD) : iprop(payP c j ∗ crdP c j) ⊢ (later c 0 0 j : sProp 𝕄) := by
  unfold payP crdP later
  rw [bigSep_sep' (Finset.Ico 0 4) (fun r => agTok c r j) (fun r => crd c (some (.agR j)) r), bigSep_sep' (Finset.Ico 0 3) (fun r => rsTok c r j) (fun r => crd c (some (.rsR j)) r)]
  iintro ⟨⟨H1, H2⟩, H3, H4⟩
  isplitl [H1 H3]; · isplitl [H1] <;> iassumption
  isplitl [H2] <;> iassumption

/-- What a device starts from, but for its places in its cells with itself as peer and the receive slot for itself. -/
theorem sta_intro (c : Dev nD) :
    iprop(Ctx I K ∗ pos0 c ∗ payToks c ∗ crds c ∗ bufs c ∗ wArrs I c ∗ owesAny c 0 ∗ xinP c (I.x c) ∗ outFree c) ⊢ (iprop(Sta I c ∗ selfAt c ∗ rFree c c) : sProp 𝕄) := by
  have hf : iprop((fam c fun j => At c (some (.agS j)) 0) ∗ (fam c fun j => At c (some (.agR j)) 0) ∗ (fam c fun j => At c (some (.rsS j)) 0) ∗ (fam c fun j => At c (some (.rsR j)) 0)
      ∗ fam c (pFree c) ∗ fam c (rFree c) ∗ fam c (payP c) ∗ fam c (crdP c)) ⊢ (fam c (Fa c) : sProp 𝕄) := by
    simp only [fam, ← bigSep_sep']
    exact big_map fun j => show iprop(At c (some (.agS j)) 0 ∗ At c (some (.agR j)) 0 ∗ At c (some (.rsS j)) 0 ∗ At c (some (.rsR j)) 0 ∗ pFree c j ∗ rFree c j ∗ payP c j ∗ crdP c j) ⊢ (Fa c j : sProp 𝕄) by
      unfold Fa
      iintro ⟨H1, H2, H3, H4, H5, H6, H7, H8⟩
      isplitl [H1]; · iexact H1
      isplitl [H2]; · iexact H2
      isplitl [H3]; · iexact H3
      isplitl [H4]; · iexact H4
      isplitl [H5]; · iexact H5
      isplitl [H6]; · iexact H6
      iapply (later_join c j)
      isplitl [H7] <;> iassumption
  have hb : iprop((fam c fun j => tok j none 0 c) ∗ fam c (xFree c)) ⊢ (bigSep (Finset.Ico 0 15) (fun k => iprop(tok (nb c k) none 0 c ∗ xFree c (nb c k))) : sProp 𝕄) := by
    rw [big_nb c (fun j => iprop(tok j none 0 c ∗ xFree c j)), fam, fam, fam, bigSep_sep']
  unfold payToks crds bufs
  rw [all_at c (xFree c), all_at c (pFree c), all_at c (rFree c)]
  iintro ⟨#HC, Hpos, ⟨Htb, Hpay, Hw⟩, ⟨Hcb, Hcr⟩, ⟨⟨Hxc, Hx⟩, ⟨Hpc, Hp⟩, ⟨Hrc, Hr⟩, Ha, Hst, Hs0, Hs1⟩, Hwa, Ho, Hin, Hout⟩
  ihave Hat := (at_zero I K c) $$ [Hpos]
  · isplitr; · iexact HC
    iexact Hpos
  ihave Hat := (Entails.of_eq (big_CK (fun k => At c k 0))) $$ Hat
  icases Hat with ⟨Hab, H1, H2, H3, H4, Hw0, Hw1⟩
  ihave H1 := (Entails.of_eq (all_at c (fun j => At c (some (.agS j)) 0))) $$ H1
  ihave H2 := (Entails.of_eq (all_at c (fun j => At c (some (.agR j)) 0))) $$ H2
  ihave H3 := (Entails.of_eq (all_at c (fun j => At c (some (.rsS j)) 0))) $$ H3
  ihave H4 := (Entails.of_eq (all_at c (fun j => At c (some (.rsR j)) 0))) $$ H4
  icases H1 with ⟨S1, H1⟩
  icases H2 with ⟨S2, H2⟩
  icases H3 with ⟨S3, H3⟩
  icases H4 with ⟨S4, H4⟩
  isplitr [S1 S2 S3 S4 Hrc]
  · unfold Sta wAt
    isplitl [Ho]; · iexact Ho
    isplitl [Htb Hx]
    · iapply hb
      isplitl [Htb] <;> iassumption
    isplitl [Hcb]; · iexact Hcb
    isplitl [Hab]; · iexact Hab
    isplitl [H1 H2 H3 H4 Hp Hr Hpay Hcr]
    · iapply hf
      isplitl [H1]; · iexact H1
      isplitl [H2]; · iexact H2
      isplitl [H3]; · iexact H3
      isplitl [H4]; · iexact H4
      isplitl [Hp]; · iexact Hp
      isplitl [Hr]; · iexact Hr
      isplitl [Hpay] <;> iassumption
    isplitl [Hxc]; · iexact Hxc
    isplitl [Hpc]; · iexact Hpc
    isplitl [Hin]; · iexact Hin
    isplitl [Hout]; · iexact Hout
    isplitl [Ha]; · iexact Ha
    isplitl [Hwa]; · iexact Hwa
    isplitl [Hw0 Hw1]; · isplitl [Hw0] <;> iassumption
    isplitl [Hw]; · iexact Hw
    isplitl [Hst]; · iexact Hst
    isplitl [Hs0] <;> iassumption
  · unfold selfAt
    isplitr [Hrc]
    · isplitl [S1]; · iexact S1
      isplitl [S2]; · iexact S2
      isplitl [S3] <;> iassumption
    · iexact Hrc

theorem fin_elim (c : Dev nD) :
    iprop(Fin' I c ∗ selfAt c ∗ rFree c c)
      ⊢ (iprop(owesAny c 128 ∗ bigSep Finset.univ (Done c) ∗ bufs c ∗ wArrs I c ∗ xinP c (I.x c) ∗ outP c (OUT I)) : sProp 𝕄) := by
  have hf : (fam c (Fz c) : sProp 𝕄) ⊢ iprop(fam c (endAt c) ∗ fam c (pFree c) ∗ fam c (rFree c) ∗ fam c (xFree c)) := by
    simp only [fam, ← bigSep_sep']
    exact big_map fun j => show (Fz c j : sProp 𝕄) ⊢ iprop(endAt c j ∗ pFree c j ∗ rFree c j ∗ xFree c j) by
      unfold Fz endAt
      iintro ⟨H1, H2, H3, H4, H5⟩
      isplitl [H1 H2 H3 H4]
      · isplitl [H1]; · iexact H1
        isplitl [H2]; · iexact H2
        isplitl [H3] <;> iassumption
      iexact H5
  unfold Fin' bufs
  rw [all_at c (xFree c), all_at c (pFree c), all_at c (rFree c)]
  iintro ⟨⟨Ho, Hb, Hf, Hxc, Hpc, Hin, Hout, Ha, Hwa, Hw, Hst, Hs0, Hs1⟩, Hs, Hrc⟩
  ihave Hf := hf $$ Hf
  icases Hf with ⟨He, Hp, Hr, Hx⟩
  isplitl [Ho]; · iexact Ho
  isplitl [Hb He Hs Hw]
  · iapply (all_done c)
    isplitl [Hb]; · iexact Hb
    isplitl [Hs]; · iexact Hs
    isplitl [He] <;> iassumption
  isplitl [Hxc Hx Hpc Hp Hrc Hr Ha Hst Hs0 Hs1]
  · isplitl [Hxc Hx]; · isplitl [Hxc] <;> iassumption
    isplitl [Hpc Hp]; · isplitl [Hpc] <;> iassumption
    isplitl [Hrc Hr]; · isplitl [Hrc] <;> iassumption
    isplitl [Ha]; · iexact Ha
    isplitl [Hst]; · iexact Hst
    isplitl [Hs0] <;> iassumption
  isplitl [Hwa]; · iexact Hwa
  isplitl [Hin] <;> iassumption

end Cert.Proof.KernelIdeal
end
-- ==== Proof.KernelIdeal.Deal.lean ====
/- What the launch deals: places in the cells, leave to raise them, and leave to wait. -/
module

public import proofs.«01_k».proof.Proof.KernelIdeal.Start
public import Idealize.ShloMosaic.Lib.Pipeline.Launch
public import Idealize.ShloMosaic.Lib.Pipeline.Kit

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : In F) (K : Dev nD × CK → ℕ)

/-! ## Cells and tokens minted -/

def ourCells : Finset (GSem nD τ sig) := Finset.univ.map ⟨cel, cel_inj⟩

/-- Who raises, whose cell, which cell, in which round. -/
abbrev TK : Type := Dev nD × Dev nD × CK × Fin 4
def tokOf (t : TK) : GSem nD τ sig × ℕ × Dev nD := (cell t.2.1 t.2.2.1, t.2.2.2.val, t.1)
theorem tokOf_inj : Function.Injective tokOf := by
  rintro ⟨p, d, k, r⟩ ⟨p', d', k', r'⟩ h
  have h1 := cel_inj (show cel (d, k) = cel (d', k') from congrArg Prod.fst h)
  have h2 : r.val = r'.val := congrArg (fun x => x.2.1) h
  have h3 : p = p' := congrArg (fun x => x.2.2) h
  obtain ⟨rfl, rfl⟩ := Prod.mk.inj h1
  rw [h3, Fin.ext h2]
def ourToks : Finset (GSem nD τ sig × ℕ × Dev nD) := Finset.univ.map ⟨tokOf, tokOf_inj⟩

/-- Every leave minted for device `c`, whether it has a use for it or not. -/
def allToks (c : Dev nD) : sProp 𝕄 :=
  bigSep Finset.univ fun d : Dev nD => bigSep Finset.univ fun k : CK => bigSep Finset.univ fun r : Fin 4 => tok d k r.val c

omit [FloatOps F] in
theorem fin4_Ico (Φ : ℕ → sProp 𝕄) : (bigSep Finset.univ fun r : Fin 4 => Φ r.val) = bigSep (Finset.Ico 0 4) Φ := by
  rw [show Finset.Ico 0 4 = (Finset.univ : Finset (Fin 4)).image Fin.val from by decide,
    bigSep_image_of_injOn (fun a _ b _ h => Fin.ext h)]

omit [FloatOps F] in
theorem some_at {T : Type} [DecidableEq T] [Fintype T] {Φ : T → sProp 𝕄} (i : T) : (bigSep Finset.univ Φ : sProp 𝕄) ⊢ Φ i := big_at (Finset.mem_univ i)

/-- Two rounds' bounds. -/
theorem fewer (Φ : ℕ → sProp 𝕄) : (bigSep (Finset.Ico 0 4) Φ : sProp 𝕄) ⊢ bigSep (Finset.Ico 0 3) Φ := bigSep_subset (by decide)
theorem three (Φ : ℕ → sProp 𝕄) : (bigSep (Finset.Ico 0 4) Φ : sProp 𝕄) ⊢ iprop(Φ 0 ∗ Φ 1 ∗ Φ 2) := by
  have h : (bigSep (Finset.Ico 0 4) Φ : sProp 𝕄) = iprop(Φ 0 ∗ Φ 1 ∗ Φ 2 ∗ Φ 3) := bigSep_eq_bigSepL_of_eq (S := Finset.Ico 0 4) [0, 1, 2, 3] (by decide) (by decide) Φ
  rw [h]
  iintro ⟨H0, H1, H2, -⟩
  isplitl [H0]; · iexact H0
  isplitl [H1] <;> iassumption
omit [FloatOps F] in
theorem first (Φ : ℕ → sProp 𝕄) : (bigSep (Finset.Ico 0 4) Φ : sProp 𝕄) ⊢ Φ 0 := big_at (by decide)

/-- All rounds of one cell. -/
def tok4 (d : Dev nD) (k : CK) (c : Dev nD) : sProp 𝕄 := bigSep (Finset.Ico 0 4) fun r => tok d k r c
theorem allToks_eq (c : Dev nD) : (allToks c : sProp 𝕄) = bigSep Finset.univ fun d : Dev nD => iprop(tok4 d none c
    ∗ (bigSep Finset.univ fun j => tok4 d (some (.agS j)) c) ∗ (bigSep Finset.univ fun j => tok4 d (some (.agR j)) c)
    ∗ (bigSep Finset.univ fun j => tok4 d (some (.rsS j)) c) ∗ (bigSep Finset.univ fun j => tok4 d (some (.rsR j)) c) ∗ tok4 d (some (.wd 0)) c ∗ tok4 d (some (.wd 1)) c) :=
  bigSep_congr fun d _ => by
    have h : ∀ k : CK, (bigSep Finset.univ fun r : Fin 4 => (tok d k r.val c : sProp 𝕄)) = tok4 d k c := fun k => fin4_Ico fun r => tok d k r c
    rw [bigSep_congr fun k _ => h k, big_CK]

theorem pay_join (c j : Dev nD) : iprop(tok4 c (some (.agS j)) c ∗ tok4 j (some (.agR c)) c ∗ tok4 c (some (.rsS j)) c ∗ tok4 j (some (.rsR c)) c) ⊢ (payP c j : sProp 𝕄) := by
  unfold payP tok4 agTok rsTok
  rw [bigSep_sep' (Finset.Ico 0 4), bigSep_sep' (Finset.Ico 0 3)]
  iintro ⟨H1, H2, H3, H4⟩
  ihave H3 := (fewer (fun r => tok c (some (.rsS j)) r c)) $$ H3
  ihave H4 := (fewer (fun r => tok j (some (.rsR c)) r c)) $$ H4
  isplitl [H1 H2]; · isplitl [H1] <;> iassumption
  isplitl [H3] <;> iassumption

/-- A device picks the leave it uses. -/
theorem pick_toks (c : Dev nD) : (allToks c : sProp 𝕄) ⊢ payToks c := by
  rw [allToks_eq]
  simp only [bigSep_sep']
  have hp : iprop((fam c fun j => tok4 c (some (.agS j)) c) ∗ (fam c fun j => tok4 j (some (.agR c)) c) ∗ (fam c fun j => tok4 c (some (.rsS j)) c) ∗ fam c fun j => tok4 j (some (.rsR c)) c)
      ⊢ (fam c (payP c) : sProp 𝕄) := by
    simp only [fam, ← bigSep_sep']
    exact big_map fun j => pay_join c j
  have hsub : ∀ Φ : Fin 16 → sProp 𝕄, (bigSep Finset.univ Φ : sProp 𝕄) ⊢ fam c Φ := fun Φ => bigSep_subset (Finset.subset_univ _)
  unfold payToks wTok
  iintro ⟨H0, H1, H2, H3, H4, H5, H6⟩
  ihave H0 := (hsub (fun d => tok4 d none c)) $$ H0
  ihave H0 := (show (fam c (fun d => tok4 d none c) : sProp 𝕄) ⊢ fam c (fun d => tok d none 0 c) from big_map fun j => first _) $$ H0
  ihave H1 := (some_at (Φ := fun d : Dev nD => bigSep Finset.univ fun j => tok4 d (some (.agS j)) c) c) $$ H1
  ihave H1 := (hsub (fun j => tok4 c (some (.agS j)) c)) $$ H1
  ihave H2 := (hsub (fun d => bigSep Finset.univ fun j => tok4 d (some (.agR j)) c)) $$ H2
  ihave H2 := (show (fam c (fun d => bigSep Finset.univ fun j => tok4 d (some (.agR j)) c) : sProp 𝕄) ⊢ fam c (fun d => tok4 d (some (.agR c)) c) from big_map fun d => some_at c) $$ H2
  ihave H3 := (some_at (Φ := fun d : Dev nD => bigSep Finset.univ fun j => tok4 d (some (.rsS j)) c) c) $$ H3
  ihave H3 := (hsub (fun j => tok4 c (some (.rsS j)) c)) $$ H3
  ihave H4 := (hsub (fun d => bigSep Finset.univ fun j => tok4 d (some (.rsR j)) c)) $$ H4
  ihave H4 := (show (fam c (fun d => bigSep Finset.univ fun j => tok4 d (some (.rsR j)) c) : sProp 𝕄) ⊢ fam c (fun d => tok4 d (some (.rsR c)) c) from big_map fun d => some_at c) $$ H4
  ihave H5 := (some_at (Φ := fun d : Dev nD => tok4 d (some (.wd 0)) c) c) $$ H5
  ihave H6 := (some_at (Φ := fun d : Dev nD => tok4 d (some (.wd 1)) c) c) $$ H6
  ihave H5 := (show (tok4 c (some (.wd 0)) c : sProp 𝕄) ⊢ _ from three _) $$ H5
  ihave H6 := (show (tok4 c (some (.wd 1)) c : sProp 𝕄) ⊢ _ from three _) $$ H6
  icases H5 with ⟨A0, A1, A2⟩
  icases H6 with ⟨B0, B1, B2⟩
  isplitl [H0]; · iexact H0
  isplitl [H1 H2 H3 H4]
  · iapply hp
    isplitl [H1]; · iexact H1
    isplitl [H2]; · iexact H2
    isplitl [H3] <;> iassumption
  isplitl [A0 B0]; · isplitl [A0] <;> iassumption
  isplitl [A1 B1]; · isplitl [A1] <;> iassumption
  isplitl [A2] <;> iassumption

/-! ## The credit the devices owe one another -/

theorem owed_at (d : Dev nD) (k : ℕ) (c : Dev nD) (s : CK) (l : ℕ) : ob d k (cell c s) l = if obC d k = some (c, s, l) then amt s else 0 := by
  cases e : obC d k with
  | none => rw [ob_none e, if_neg (fun h => by cases h)]; rfl
  | some x =>
    obtain ⟨d', s', l'⟩ := x
    rw [ob_some e, tallyAt_apply]
    by_cases h : cell c s = cell d' s' ∧ l = l'
    · obtain ⟨h1, rfl⟩ := h
      obtain ⟨rfl, rfl⟩ := Prod.mk.inj (cel_inj (h1 : cel (c, s) = cel (d', s')))
      rw [if_pos ⟨rfl, rfl⟩, if_pos rfl]
    · rw [if_neg h, if_neg]
      intro h2
      obtain ⟨h3, h4⟩ := Prod.mk.inj (Option.some.inj h2)
      obtain ⟨h5, h6⟩ := Prod.mk.inj h4
      exact h ⟨by rw [h3, h5], h6.symm⟩

theorem owed_sum (d c : Dev nD) (s : CK) (l : ℕ) : O d 0 (cell c s) l = ∑ k ∈ Finset.Ico 0 128, if obC d k = some (c, s, l) then amt s else 0 := by
  unfold O
  rw [Finset.sum_apply, Finsupp.finset_sum_apply]
  exact Finset.sum_congr rfl fun k _ => owed_at d k c s l

theorem obC_inv {d : Dev nD} {k : ℕ} {c : Dev nD} {s : CK} {l : ℕ} (hk : k < 128) (h : obC d k = some (c, s, l)) :
    (s = none ∧ l = 0 ∧ k < 15 ∧ c.val = (d.val + k + 1) % 16) ∨ (s = some (.agR d) ∧ c ≠ d ∧ l < 4 ∧ k = 16 + 32 * l + c.val)
      ∨ (s = some (.rsR d) ∧ c ≠ d ∧ l < 3 ∧ k = 32 + 32 * l + c.val) := by
  unfold obC at h
  split at h
  · obtain ⟨h1, h⟩ := Prod.mk.inj (Option.some.inj h); obtain ⟨rfl, rfl⟩ := Prod.mk.inj h
    exact .inl ⟨rfl, rfl, by assumption, by rw [← h1]⟩
  · split at h
    · cases h
    · dsimp only at h
      split at h
      · cases h
      · rename_i h2 h3
        split at h
        · obtain ⟨h1, h⟩ := Prod.mk.inj (Option.some.inj h); obtain ⟨rfl, rfl⟩ := Prod.mk.inj h
          have hv : c.val = (k - 16) % 16 := by rw [← h1]
          exact .inr (.inl ⟨rfl, h1 ▸ h3, by omega, by omega⟩)
        · obtain ⟨h1, h⟩ := Prod.mk.inj (Option.some.inj h); obtain ⟨rfl, rfl⟩ := Prod.mk.inj h
          have hv : c.val = (k - 16) % 16 := by rw [← h1]
          exact .inr (.inr ⟨rfl, h1 ▸ h3, by omega, by omega⟩)

/-- What all devices owe one cell in one round, when one raise of one device is all that can. -/
theorem sum_one (c : Dev nD) (s : CK) (l : ℕ) (d₀ : Dev nD) (k₀ : ℕ) (hk₀ : k₀ < 128) (h₀ : obC d₀ k₀ = some (c, s, l))
    (h : ∀ d k, k < 128 → obC d k = some (c, s, l) → d = d₀ ∧ k = k₀) : ∑ d : Dev nD, O d 0 (cell c s) l = amt s := by
  rw [Finset.sum_eq_single d₀ _ (fun h => absurd (Finset.mem_univ _) h), owed_sum,
    Finset.sum_eq_single k₀ _ (fun h => absurd (Finset.mem_Ico.2 ⟨Nat.zero_le _, hk₀⟩) h), if_pos h₀]
  · exact fun k hk hne => if_neg fun e => hne (h _ k (Finset.mem_Ico.1 hk).2 e).2
  · intro d _ hne
    rw [owed_sum]
    exact Finset.sum_eq_zero fun k hk => if_neg fun e => hne (h d k (Finset.mem_Ico.1 hk).2 e).1
theorem sum_none (c : Dev nD) (s : CK) (l : ℕ) (h : ∀ d k, k < 128 → obC d k ≠ some (c, s, l)) : ∑ d : Dev nD, O d 0 (cell c s) l = 0 :=
  Finset.sum_eq_zero fun d _ => by
    rw [owed_sum]
    exact Finset.sum_eq_zero fun k hk => if_neg (h d k (Finset.mem_Ico.1 hk).2)

theorem sum_agR (c j : Dev nD) (hj : j ≠ c) (l : ℕ) : ∑ d : Dev nD, O d 0 (cell c (some (.agR j))) l = if l < 4 then amt (some (.agR j)) else 0 := by
  have hc : c.val < 16 := c.isLt
  by_cases hl : l < 4
  · rw [if_pos hl]
    refine sum_one c _ l j (16 + 32 * l + c.val) (by omega) (obC_ag j c l hj.symm) fun d k hk e => ?_
    rcases obC_inv hk e with ⟨h, -⟩ | ⟨h, -, -, h'⟩ | ⟨h, -⟩
    · cases h
    · injection h with h; injection h with h; exact ⟨h.symm, h'⟩
    · injection h with h; cases h
  · rw [if_neg hl]
    refine sum_none c _ l fun d k hk e => ?_
    rcases obC_inv hk e with ⟨h, -⟩ | ⟨h, -, h', -⟩ | ⟨h, -⟩
    · cases h
    · exact hl h'
    · injection h with h; cases h
theorem sum_rsR (c j : Dev nD) (hj : j ≠ c) (l : ℕ) : ∑ d : Dev nD, O d 0 (cell c (some (.rsR j))) l = if l < 3 then amt (some (.rsR j)) else 0 := by
  have hc : c.val < 16 := c.isLt
  by_cases hl : l < 3
  · rw [if_pos hl]
    refine sum_one c _ l j (32 + 32 * l + c.val) (by omega) (obC_rs j c l hj.symm) fun d k hk e => ?_
    rcases obC_inv hk e with ⟨h, -⟩ | ⟨h, -⟩ | ⟨h, -, -, h'⟩
    · cases h
    · injection h with h; cases h
    · injection h with h; injection h with h; exact ⟨h.symm, h'⟩
  · rw [if_neg hl]
    refine sum_none c _ l fun d k hk e => ?_
    rcases obC_inv hk e with ⟨h, -⟩ | ⟨h, -⟩ | ⟨h, -, h', -⟩
    · cases h
    · injection h with h; cases h
    · exact hl h'
theorem sum_bar (c : Dev nD) (l : ℕ) : ∑ d : Dev nD, O d 0 (cell c none) l = if l < 1 then 15 else 0 := by
  have hc : c.val < 16 := c.isLt
  by_cases hl : l < 1
  · obtain rfl : l = 0 := by omega
    rw [if_pos hl, Finset.sum_congr rfl fun d _ => owed_sum d c none 0, Finset.sum_comm,
      Finset.sum_congr rfl (g := fun k => if k < 15 then 1 else 0) fun k hk => ?_]
    · decide
    have hk' := (Finset.mem_Ico.1 hk).2
    by_cases h15 : k < 15
    · rw [if_pos h15]
      have hd : (c.val + 15 - k) % 16 < nD := Nat.mod_lt _ (by decide)
      rw [Finset.sum_eq_single (⟨(c.val + 15 - k) % 16, hd⟩ : Dev nD) _ (fun h => absurd (Finset.mem_univ _) h),
        if_pos (obC_bar _ k h15 c (by show c.val = ((c.val + 15 - k) % 16 + k + 1) % 16; omega))]
      · rfl
      · intro d _ hne
        refine if_neg fun e => hne ?_
        rcases obC_inv hk' e with ⟨-, -, -, h⟩ | ⟨h, -⟩ | ⟨h, -⟩
        · have hd' : d.val < 16 := d.isLt
          exact Fin.ext (by show d.val = (c.val + 15 - k) % 16; omega)
        · cases h
        · cases h
    · rw [if_neg h15]
      refine Finset.sum_eq_zero fun d _ => if_neg fun e => ?_
      rcases obC_inv hk' e with ⟨-, -, h, -⟩ | ⟨h, -⟩ | ⟨h, -⟩
      · exact h15 h
      · cases h
      · cases h
  · rw [if_neg hl]
    refine sum_none c _ l fun d k hk e => ?_
    rcases obC_inv hk e with ⟨-, h, -⟩ | ⟨h, -⟩ | ⟨h, -⟩
    · omega
    · cases h
    · cases h

/-- The same amount in every round below `n`, cut into rounds. -/
def upTo (g : GSem nD τ sig) (n a : ℕ) : CellTallies nD τ sig ℕ := ∑ r ∈ Finset.Ico 0 n, tallyAt g r a
omit [FloatOps F] in
theorem cred_upTo (g : GSem nD τ sig) (n a : ℕ) : (cred (upTo g n a) : sProp 𝕄) ⊢ bigSep (Finset.Ico 0 n) fun r => cred (tallyAt g r a) :=
  Entails.of_eq (Pipeline.cred_finsetSum _ _)

theorem launch_upTo (g : GSem nD τ sig) (n a : ℕ) (h : ∀ l, ∑ d : Dev nD, O d 0 g l = if l < n then a else 0) :
    tallyOn g (launchCredit (Pipeline.owing fun c => O c 0) 0 g) = upTo g n a := by
  have he : launchCredit (Pipeline.owing fun c => O c 0) 0 g = ∑ r ∈ Finset.Ico 0 n, Finsupp.single r a := by
    refine Finsupp.ext fun l => ?_
    rw [Pipeline.launchCredit_owing, h l, Finsupp.finset_sum_apply, Finset.sum_congr rfl fun r _ => Finsupp.single_apply, Finset.sum_ite_eq']
    refine if_congr ?_ rfl rfl
    rw [Finset.mem_Ico]; omega
  rw [he, upTo]
  unfold tallyAt tallyOn
  exact map_sum (AddMonoidHom.single (fun _ : GSem nD τ sig => Tally ℕ) g) _ _

theorem csem_at (c : Dev nD) : (Pipeline.launchCred (fun c => O c 0) c : sProp 𝕄)
    ⊢ bigSep Finset.univ fun k : CK => cred (tallyOn (cell c k) (launchCredit (Pipeline.owing fun c => O c 0) 0 (cell c k))) := by
  unfold Pipeline.launchCred
  rw [← bigSep_image_of_injOn (f := csem) (s := Finset.univ) (fun a _ b _ h => csem_inj h)
    (fun sm => (cred (tallyOn ((c : Thread nD τ), sm) (launchCredit (Pipeline.owing fun c => O c 0) 0 ((c : Thread nD τ), sm))) : sProp 𝕄))]
  exact bigSep_subset (Finset.subset_univ _)

theorem crds_intro (c : Dev nD) : (Pipeline.launchCred (fun c => O c 0) c : sProp 𝕄) ⊢ crds c := by
  have hsub : ∀ Φ : Fin 16 → sProp 𝕄, (bigSep Finset.univ Φ : sProp 𝕄) ⊢ fam c Φ := fun Φ => bigSep_subset (Finset.subset_univ _)
  have ha : (fam c (fun j => cred (tallyOn (cell c (some (.agR j))) (launchCredit (Pipeline.owing fun c => O c 0) 0 (cell c (some (.agR j)))))) : sProp 𝕄)
      ⊢ fam c fun j => bigSep (Finset.Ico 0 4) fun r => crd c (some (.agR j)) r :=
    bigSep_mono fun j hj => by
      rw [launch_upTo _ 4 _ (sum_agR c j (mem_seg.1 hj).1)]; exact cred_upTo _ _ _
  have hr : (fam c (fun j => cred (tallyOn (cell c (some (.rsR j))) (launchCredit (Pipeline.owing fun c => O c 0) 0 (cell c (some (.rsR j)))))) : sProp 𝕄)
      ⊢ fam c fun j => bigSep (Finset.Ico 0 3) fun r => crd c (some (.rsR j)) r :=
    bigSep_mono fun j hj => by
      rw [launch_upTo _ 3 _ (sum_rsR c j (mem_seg.1 hj).1)]; exact cred_upTo _ _ _
  have hb : upTo (cell c none) 1 15 = tallyAt (cell c none) 0 15 := Finset.sum_singleton _ _
  iintro H
  ihave H := (csem_at c) $$ H
  ihave H := (Entails.of_eq (big_CK _)) $$ H
  icases H with ⟨Hb, -, Ha, -, Hr, -⟩
  ihave Ha := (hsub _) $$ Ha
  ihave Ha := ha $$ Ha
  ihave Hr := (hsub _) $$ Hr
  ihave Hr := hr $$ Hr
  ihave Hb := (Entails.of_eq (congrArg (fun T => (cred T : sProp 𝕄)) ((launch_upTo (cell c none) 1 15 (sum_bar c)).trans hb))) $$ Hb
  unfold crds
  isplitl [Hb]; · iexact Hb
  have hj : iprop((fam c fun j => bigSep (Finset.Ico 0 4) fun r => crd c (some (.agR j)) r) ∗ fam c fun j => bigSep (Finset.Ico 0 3) fun r => crd c (some (.rsR j)) r) ⊢ (fam c (crdP c) : sProp 𝕄) := by
    simp only [fam, ← bigSep_sep']
    exact big_map fun j => .rfl
  iapply hj
  isplitl [Ha] <;> iassumption

/-! ## From the launch's element to what every device holds -/

def u₀ : UU :=
  (initOf (Pipeline.cells cfgs cellOf_inj) (Pipeline.launchToks cfgs cellOf_inj), initOf ourCells ourToks)

/-- What the launch hands device `c`: its cells' books, its places in them, and the leave minted for it. -/
def G (c : Dev nD) : sProp 𝕄 :=
  iprop((bigSep Finset.univ fun k : CK => roundState ER (Sch I) (cell c k) 0)
    ∗ pos0 c ∗ (bigSep Finset.univ fun k : CK => reached ER (cell c k) 0) ∗ allToks c)

/-- The same once the invariants stand. -/
def invs (K : Dev nD × CK → ℕ) : sProp 𝕄 :=
  iprop((bigSep Finset.univ fun ck : Dev nD × CK => cellInv ER (Sch I) (K ck) (cel ck))
    ∗ bigSep Finset.univ fun ck : Dev nD × CK => reached ER (cel ck) 0)
instance (K : Dev nD × CK → ℕ) : BI.Persistent (invs I K) := by unfold invs; infer_instance
def G' (c : Dev nD) : sProp 𝕄 := iprop(∃ K, invs I K ∗ pos0 c ∗ payToks c)

theorem fund_all : BI.own (ER (initOf ourCells ourToks)) ⊢ (|==> bigSep Finset.univ (G I) : sProp 𝕄) := by
  have hX (Φ : GSem nD τ sig → sProp 𝕄) : bigSep ourCells Φ = bigSep Finset.univ fun c : Dev nD => bigSep Finset.univ fun k : CK => Φ (cell c k) := by
    unfold ourCells; rw [bigSep_map, bigSep_univ_prod]; rfl
  have hT : bigSep ourToks (fun x => (dutyTok ER x.1 x.2.1 x.2.2 : sProp 𝕄)) = bigSep Finset.univ fun c : Dev nD => allToks c := by
    unfold ourToks; rw [bigSep_map, bigSep_univ_prod]
    exact bigSep_congr fun c _ => by
      unfold allToks; rw [bigSep_univ_prod]
      exact bigSep_congr fun d _ => by rw [bigSep_univ_prod]; rfl
  iintro HX
  imod (Rounds.fund ER (Sch I) ourCells ourToks) $$ HX with ⟨Hst, Hr, Hat, Htok⟩
  imodintro
  ihave Hst := (Entails.of_eq (hX fun g => roundState ER (Sch I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos0; simp only [bigSep_sep']
  isplitl [Hst]; · iexact Hst
  isplitl [Hat]; · iexact Hat
  isplitl [Hr] <;> iassumption

theorem free_sem (c : Dev nD) : (unscopedSems0 c : sProp 𝕄) = semVal (cell c none) 0 := by
  unfold unscopedSems0; rw [bigSep_eq_bigSepL_of_eq [SemLoc.reg barS] (by decide +kernel) (by decide)]; rfl

/-- All of a device's cells, in the launch's two groups. -/
theorem sems_eq (c : Dev nD) : (bigSep Finset.univ fun k : CK => (semVal (cell c k) 0 : sProp 𝕄))
    = iprop(unscopedSems0 c ∗ Pipeline.ownSems0 (Ix := ℕ) (Name := ℕ) (U := UU) (Lvl := ℕ) (Val := Elt F) (τ := τ) osem c) := by
  rw [big_opt, free_sem]; rfl

theorem alloc (c : Dev nD) :
    iprop(Pipeline.ownSems0 (Ix := ℕ) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Sch I) κ (cell c k)))
          ∗ pos0 c ∗ (bigSep Finset.univ fun k : CK => reached ER (cell c k) 0) ∗ allToks c) := by
  unfold G
  iintro ⟨Hos, Hus, Hst, Hrest⟩
  ihave Hv := (Entails.of_eq (sems_eq c).symm) $$ [Hos Hus]
  · isplitl [Hus] <;> iassumption
  imod (show iprop((bigSep Finset.univ fun k : CK => semVal (cell c k) 0) ∗ bigSep Finset.univ fun k : CK => roundState ER (Sch I) (cell c k) 0)
      ⊢ (|={Set.univ}=> bigSep Finset.univ fun k : CK => iprop(∃ κ : ℕ, cellInv ER (Sch I) κ (cell c k)) : sProp 𝕄) from by
        rw [← bigSep_sep']
        exact (bigSep_mono fun k _ => (Rounds.body_intro ER (Sch I) (cell c k)).trans inv_alloc).trans (bigSep_fupd _ _)) $$ [Hv Hst] with Hinv
  · isplitl [Hv] <;> iassumption
  imodintro
  isplitl [Hinv]; · iexact Hinv
  iexact Hrest

theorem gather : (bigSep Finset.univ fun c : Dev nD => iprop((bigSep Finset.univ fun k : CK => iprop(∃ κ : ℕ, cellInv ER (Sch I) κ (cell c k)))
      ∗ pos0 c ∗ (bigSep Finset.univ fun k : CK => reached ER (cell c k) 0) ∗ allToks c) : sProp 𝕄) ⊢ bigSep Finset.univ (G' I) := by
  rw [bigSep_sep', bigSep_sep', bigSep_sep']
  have hI : (bigSep Finset.univ fun c : Dev nD => bigSep Finset.univ fun k : CK => iprop(∃ κ : ℕ, cellInv ER (Sch I) κ (cell c k)) : sProp 𝕄)
      = bigSep Finset.univ fun ck : Dev nD × CK => iprop(∃ κ : ℕ, cellInv ER (Sch I) κ (cel ck)) := by rw [bigSep_univ_prod]
  have hR : (bigSep Finset.univ fun c : Dev nD => bigSep Finset.univ fun k : CK => (reached ER (cell c k) 0 : sProp 𝕄))
      = bigSep Finset.univ fun ck : Dev nD × CK => reached ER (cel ck) 0 := by rw [bigSep_univ_prod]
  rw [hI, hR]
  iintro ⟨HI, Hat, #HR, Htok⟩
  ihave HK := (BI.bigSep_exists_pi Finset.univ (fun (ck : Dev nD × CK) (κ : ℕ) => (cellInv ER (Sch I) κ (cel ck) : sProp 𝕄))) $$ HI
  icases HK with ⟨%K, #HI⟩
  have hg : ∀ c ∈ (Finset.univ : Finset (Dev nD)), iprop(invs I K ∗ (pos0 c ∗ allToks c)) ⊢ G' I c := fun c _ => by
    unfold G'
    iintro ⟨H1, H2, H3⟩
    iexists K
    isplitl [H1]; · iexact H1
    isplitl [H2]; · iexact H2
    iapply (pick_toks c); iexact H3
  iapply (with_persistent (R := invs I K) hg)
  isplitr
  · unfold invs; isplitl; · iexact HI
    iexact HR
  · iapply (Entails.of_eq (bigSep_sep' Finset.univ (fun c : Dev nD => (pos0 c : sProp 𝕄)) allToks).symm)
    isplitl [Hat]; · iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc I c).trans (bigSep_fupd _ _)).trans (BI.fupd_mono (gather I))

end Cert.Proof.KernelIdeal
end
-- ==== Proof.KernelIdeal.Run.lean ====
/- The whole program: every device's body from what the launch deals it, and the run of them all. -/
module

public import proofs.«01_k».proof.Proof.KernelIdeal.Deal
public import proofs.«01_k».proof.Proof.Gen.KernelIdeal.Points
public import Idealize.ShloMosaic.Lib.Pipeline.CollectiveSegs
public import Idealize.ShloMosaic.Lib.Pipeline.Kit

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-- The memory at the start. -/
def s₀ : MemSt nD τ sig (Elt F) := ⟨m, fun _ => 0, ρ⟩

/-- The rows device `c` is handed. -/
def xstg (c : Dev nD) : (cc0_stg0_0 : Ref sig .tc).ty.Contents (Elt F) :=
  (win0_0.blk (0 : Fin 1)).view.read (Elt F) (m ((c : Thread nD τ).loc main_arg0))

/-- The inputs the memory holds. -/
def inp : In F where
  x c := xstg m c
  wi := fun
    | 0 => fun c => m ((c : Thread nD τ).loc main_arg1)
    | 1 => fun c => m ((c : Thread nD τ).loc main_arg2)
    | 2 => fun c => m ((c : Thread nD τ).loc main_arg3)
  wo := fun
    | 0 => fun c => m ((c : Thread nD τ).loc main_arg4)
    | 1 => fun c => m ((c : Thread nD τ).loc main_arg5)
    | 2 => fun c => m ((c : Thread nD τ).loc main_arg6)

def start (c : Dev nD) : sProp 𝕄 :=
  iprop((∃ K, Ctx (inp m) K ∗ pos0 c ∗ payToks c) ∗ crds c ∗ wArrs (inp m) c)
def Φ₀ (c : Dev nD) : sProp 𝕄 := iprop(start m c ∗ bufs c)
def Φ₁ (c : Dev nD) : sProp 𝕄 := iprop(bufs c ∗ (bigSep Finset.univ fun k : CK => semVal (cell c k) 0) ∗ wArrs (inp m) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => OUT (inp m)
  Φ t := match t with
    | ⟨0, _⟩ => Φ₀ m c
    | ⟨_ + 1, _⟩ => Φ₁ m c
  q _ := fullShare
  owed t := match t with
    | ⟨0, _⟩ => O c 0
    | ⟨_ + 1, _⟩ => 0

/-- The weight arrays as the memory has them. -/
theorem weights_eq (c : Dev nD) : (wArrs (inp m) c : sProp 𝕄)
    = iprop(((((c : Thread nD τ).loc main_arg1) ↦{fullShare} m ((c : Thread nD τ).loc main_arg1)) ∗ (((c : Thread nD τ).loc main_arg4) ↦{fullShare} m ((c : Thread nD τ).loc main_arg4)))
      ∗ ((((c : Thread nD τ).loc main_arg2) ↦{fullShare} m ((c : Thread nD τ).loc main_arg2)) ∗ (((c : Thread nD τ).loc main_arg5) ↦{fullShare} m ((c : Thread nD τ).loc main_arg5)))
      ∗ (((c : Thread nD τ).loc main_arg3) ↦{fullShare} m ((c : Thread nD τ).loc main_arg3)) ∗ (((c : Thread nD τ).loc main_arg6) ↦{fullShare} m ((c : Thread nD τ).loc main_arg6))) := rfl

/-! ## The body -/

/-- A device's body, from what the launch deals it to what the end asks of it. -/
theorem wp_body (c : Dev nD) (Q : PUnit → sProp 𝕄) :
    iprop(start m c ∗ bufs c ∗ owesAny c 0 ∗ xinP c (xstg m c) ∗ outFree c)
      ⊢ iprop((owesAny c 128 ∗ Φ₁ m c ∗ xinP c (xstg m c) ∗ outP c (OUT (inp m)) -∗ Q ⟨⟩) -∗ wpc c (onW (cc0_body (F := F))) Q) := by
  rw [body_eq]
  simp only [Prog.lift, Prog.bind_op, Prog.bind_ret, wpc, wp_deviceId]
  unfold start
  iintro ⟨⟨⟨%K, #HC, Hp, Ht⟩, Hc, Hw⟩, Hb, Ho, Hx, Hf⟩ Hk
  ihave H := (sta_intro (inp m) K c) $$ [Hp Ht Hc Hw Hb Ho Hx Hf]
  · isplitr; · iexact HC
    isplitl [Hp]; · iexact Hp
    isplitl [Ht]; · iexact Ht
    isplitl [Hc]; · iexact Hc
    isplitl [Hb]; · iexact Hb
    isplitl [Hw]; · iexact Hw
    isplitl [Ho]; · iexact Ho
    isplitl [Hx]; · iexact Hx
    iexact Hf
  icases H with ⟨H, Hs, Hr⟩
  iapply (wp_prog (inp m) K c) $$ [H]
  · isplitr; · iexact HC
    iexact H
  iintro H
  ihave H := (fin_elim (inp m) c) $$ [H Hs Hr]
  · isplitl [H]; · iexact H
    isplitl [Hs] <;> iassumption
  icases H with ⟨Ho, Hd, Hb, Hw, Hx, Hout⟩
  imod (close_all (inp m) K c) $$ [Hd] with Hz
  · isplitr; · iexact HC
    iexact Hd
  rw [Prog.pure_eq_ret, wp_ret]; imodintro
  iapply Hk
  unfold Φ₁
  isplitl [Ho]; · iexact Ho
  isplitl [Hb Hz Hw]
  · isplitl [Hb]; · iexact Hb
    isplitl [Hz] <;> iassumption
  isplitl [Hx]; · iexact Hx
  iexact Hout

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = (((c : Thread nD τ).loc b) ↦{fullShare} (X : Buf (Elt F) ((c : Thread nD τ).loc b))) := owns_whole _ _ _ _

def bodyPre (c : Dev nD) : sProp 𝕄 :=
  iprop(Φ₀ m c ∗ (dats m ρ 0 c).owesAt 0 t0_0.castSucc
    ∗ (∃ d, xinP c ((dats m ρ 0 c).before (0 : Fin 2) t0_0 d))
    ∗ (∃ d, outP c ((dats m ρ 0 c).before (1 : Fin 2) t0_0 d)))
def bodyPost (c : Dev nD) : sProp 𝕄 :=
  iprop(Φ₁ m c ∗ (dats m ρ 0 c).owesAt 0 t0_0.succ ∗ xinP c (xstg m c) ∗ outP c (OUT (inp m)))

theorem bigSep_W (Φ : Fin cfg0.W → sProp 𝕄) : bigSep Finset.univ Φ = iprop(Φ (0 : Fin 2) ∗ Φ (1 : Fin 2)) := bigSep_W0 Φ

theorem before_x (c : Dev nD) (d) : (dats m ρ 0 c).before (0 : Fin 2) t0_0 d = xstg m c := by
  unfold Dat.before; rw [if_pos (fetch0_0 t0_0)]; rfl

theorem body_ok (c : Dev nD) : bodyPre m ρ c ⊢ wpc c (onW (cc0_body (F := F))) fun _ => bodyPost m ρ c := by
  unfold bodyPre Φ₀ Dat.owesAt Pipeline.owesWithin
  iintro ⟨⟨Hs, Hb⟩, ⟨%W, %hW, HO⟩, ⟨%d0, Hx⟩, ⟨%d1, Hout⟩⟩
  iapply (wp_body m c fun _ => bodyPost m ρ c) $$ [Hs Hb HO Hx Hout]
  · isplitl [Hs]; · iexact Hs
    isplitl [Hb]; · iexact Hb
    isplitl [HO]; · unfold owesAny; iexists W; iexact HO
    isplitl [Hx]; · iapply (Entails.of_eq (congrArg (xinP c) (before_x m ρ c d0))); iexact Hx
    unfold outFree; iexists _; iexact Hout
  iintro ⟨Ho, Hp, Hx, Hout⟩
  unfold bodyPost Dat.owesAt Pipeline.owesWithin
  isplitl [Hp]; · iexact Hp
  isplitl [Ho]
  · ihave Ho := (show (owesAny c 128 : sProp 𝕄) ⊢ iprop(∃ W, owes (c : Thread nD τ) 0 W) by unfold owesAny; rw [O_last]) $$ Ho
    icases Ho with ⟨%W', Ho⟩
    iexists W'
    isplitr; · ipureintro; exact fun _ _ => Or.inl trivial
    iexact Ho
  isplitl [Hx] <;> iassumption

theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact body_ok m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => O c 0) c ∗ prngReg c (ρ c) ∗ G' (inp m) c)
      ⊢ |={Set.univ}=> iprop(start m c ∗ emp) := by
  rw [Pipeline.unscopedRestP_none, unscopedRest0_eq]
  unfold start G' Ctx invs
  rw [weights_eq]
  iintro ⟨⟨H1, H2, H3, H4, H5, H6⟩, #Hlev, Hcr, -, ⟨%K, ⟨#HI, #HR⟩, Hp, Ht⟩⟩
  ihave Hc := (crds_intro c) $$ Hcr
  imodintro
  isplitl
  · isplitl [Hp Ht]
    · iexists K
      isplitr
      · isplitr; · iexact HI
        isplitr; · iexact HR
        iexact Hlev
      isplitl [Hp] <;> iassumption
    isplitl [Hc]; · iexact Hc
    isplitl [H1 H4]; · isplitl [H1] <;> iassumption
    isplitl [H2 H5]; · isplitl [H2] <;> iassumption
    isplitl [H3]; · iexact H3
    iexact H6
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (bufs_eq c)); iexact Hr

theorem phi1_exit (c : Dev nD) :
    (dats m ρ 0 c).Φ (Fin.last cfg0.N) ⊢ iprop((unscopedSems0 c ∗ wArrs (inp m) c) ∗ Pipeline.ownSems0 osem c ∗ Pipeline.scopedRest cfg0.spec c) := by
  rw [show (dats m ρ 0 c).Φ (Fin.last cfg0.N) = Φ₁ m c from rfl]
  unfold Φ₁
  rw [sems_eq]
  iintro ⟨Hb, ⟨Hu, Ho⟩, Hw⟩
  isplitl [Hu Hw]; · isplitl [Hu] <;> iassumption
  isplitl [Ho]; · iexact Ho
  iapply (Entails.of_eq (bufs_eq c).symm); iexact Hb

theorem stage_not_cell : ∀ (w : Fin 2) (s : Fin (spec0 w).nbuf) (k : CK), csem k ≠ .dma ((spec0 w).sem s) := by decide +kernel

theorem waits (c : Dev nD) : (levAts L lv : sProp 𝕄) ⊢ Pipeline.cellsWaits cfgs (dats m ρ) 0 0 c :=
  Pipeline.cellsWaits_intro cfgs (dats m ρ) 0 0 c fun w s t => by
    have h0 : lv ((c : Thread nD τ), .dma ((spec0 w).sem s)) 0 = 0 := by
      unfold lv; rw [dec_none fun k => stage_not_cell w s k]
    rcases t with ⟨_ | _, ht⟩
    · exact mayWait_of c _ 0 0 (by omega) (.inl h0)
    · exact (mayWait_of c (.dma ((spec0 w).sem s)) 0 128 (by omega) (.inl h0)).trans (Entails.of_eq (by rw [O_last]; rfl))

/-! ## The run -/

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  icombine HSI H gives %h
  isplitr
  · ipureintro; exact Buf.eq_of_forall_mem_univ h
  iexact HSI

/-- The weights read at the end are the ones there at the start. -/
def Kept (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)
    ∧ s.mem ((c : Thread nD τ).loc main_arg5) = m ((c : Thread nD τ).loc main_arg5) ∧ s.mem ((c : Thread nD τ).loc main_arg6) = m ((c : Thread nD τ).loc main_arg6)

theorem read_weights (c : Dev nD) (s' : Phys nD τ sig (Elt F)) : iprop(wArrs (inp m) c ∗ SI s') ⊢ (iprop(⌜Kept m c s'.mem⌝ ∗ SI s') : sProp 𝕄) := by
  rw [weights_eq]
  iintro ⟨⟨⟨H1, H4⟩, ⟨H2, H5⟩, H3, H6⟩, HSI⟩
  ihave H := (read_one _ _ s') $$ [H1 HSI]
  · isplitl [H1] <;> iassumption
  icases H with ⟨%h1, HSI⟩
  ihave H := (read_one _ _ s') $$ [H2 HSI]
  · isplitl [H2] <;> iassumption
  icases H with ⟨%h2, HSI⟩
  ihave H := (read_one _ _ s') $$ [H3 HSI]
  · isplitl [H3] <;> iassumption
  icases H with ⟨%h3, HSI⟩
  ihave H := (read_one _ _ s') $$ [H4 HSI]
  · isplitl [H4] <;> iassumption
  icases H with ⟨%h4, HSI⟩
  ihave H := (read_one _ _ s') $$ [H5 HSI]
  · isplitl [H5] <;> iassumption
  icases H with ⟨%h5, HSI⟩
  ihave H := (read_one _ _ s') $$ [H6 HSI]
  · isplitl [H6] <;> iassumption
  icases H with ⟨%h6, HSI⟩
  isplitr
  · ipureintro; exact ⟨h1, h2, h3, h4, h5, h6⟩
  iexact HSI

def finalA (c : Dev nD) (w : Fin cfg0.W) : Buf (Elt F) ((cfg0.win w).arr.view.loc (c : Thread nD τ)) := (dats m ρ 0 c).arrAt w cfg0.N

def QC : MemSt nD τ sig (Elt F) → Prop := fun s =>
  ∀ c : Dev nD, (∀ w : Fin cfg0.W, s.mem ((cfg0.win w).arr.view.loc (c : Thread nD τ)) = finalA m ρ c w) ∧ Kept m c s

/-- Every fair run of all devices ends, with the result arrays as computed, the inputs as they were, and every counter at zero. -/
theorem run_main : θ_run defs (onTc (τ := τ) (main (F := F))) (s₀ m ρ) (fun r => QC m ρ r.2 ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => O c 0) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => iprop(unscopedSems0 c ∗ wArrs (inp m) c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      iintro ⟨⟨Hu, Hw⟩, -, HSI⟩
      ihave H := (read_weights m c s') $$ [Hw HSI]
      · isplitl [Hw] <;> iassumption
      icases H with ⟨%hk, HSI⟩
      imod (Pipeline.unscopedSems0_read (X := unscopedSems0 c) (c := c) fupd_intro s') $$ [Hu HSI] with H
      · isplitl [Hu] <;> iassumption
      icases H with ⟨%hz, HSI⟩
      imodintro
      isplitr
      · ipureintro; exact ⟨hz, hk⟩
      iexact HSI)
    (hQ := fun _ h hs => ⟨fun c => ⟨fun w => (h c).1 w, (h c).2.2.2⟩, sem_eq_zero hs fun c => (h c).2.2.1⟩)

end Cert.Proof.KernelIdeal
end
-- ==== Proof.KernelIdeal.Final.lean ====
/- What the arrays hold when all devices have ended: the result, and the inputs as they were. -/
module

public import proofs.«01_k».proof.Proof.KernelIdeal.Run
public import Idealize.ShloMosaic.Lib.Pipeline.Value

@[expose] public section

set_option maxRecDepth 65536

noncomputable section

namespace Cert.Proof.KernelIdeal

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- A device is handed its whole block of `x`. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem read_out (f : main_v1.ty.Contents (Elt F)) : (win0_1.blk (0 : Fin 1)).view.read (Elt F) f = f := by
  have hz : (fun a => (win0_1.index (0 : Fin 1)) a * main_v1.ty.shape.size a) = fun _ => 0 :=
    funext fun a => by fin_cases a <;> decide
  exact Memref.read_access_unit_zero (Elt F) main_v1 hz (fun a => by fin_cases a <;> decide) _

theorem final_x (c : Dev nD) : finalA m ρ c (0 : Fin 2) = m ((c : Thread nD τ).loc main_arg0) :=
  (dats m ρ 0 c).arrAt_in (0 : Fin 2) rfl _

theorem final_out (c : Dev nD) : finalA m ρ c (1 : Fin 2) = OUT (inp m) := by
  have h : (win0_1.blk (0 : Fin 1)).view.read (Elt F) (finalA m ρ c (1 : Fin 2)) = OUT (inp m) := by
    unfold finalA
    rw [show cfg0.N = ((0 : Fin 1) : Fin cfg0.N).val + 1 from rfl, (dats m ρ 0 c).arrAt_succ (1 : Fin 2) (0 : Fin 1)]
    rw [if_pos (show (cfg0.win (1 : Fin 2)).flush (0 : Fin 1) = true from flush0_1 t0_0)]
    exact View.read_write_univ _ _
  exact (read_out _).symm.trans h

/-- The run, read at the program's arrays: every device has the result, the inputs are as they were, every counter is at zero. -/
theorem run_final : θ_run defs (onTc (τ := τ) (main (F := F))) ⟨m, fun _ => 0, ρ⟩ (fun r =>
    (∀ c : Dev nD, r.2.mem ((c.tc : Thread nD τ).loc main_v1) = OUT (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c =>
      ⟨((h.1 c).1 (1 : Fin 2)).trans (final_out m ρ c), ((h.1 c).1 (0 : Fin 2)).trans (final_x m ρ c), (h.1 c).2⟩, h.2⟩) (run_main m ρ)

end Cert.Proof.KernelIdeal
end
-- ==== Proof.Math.lean ====
/- The mathematics of the result, over the extended reals: the kernel's layers, summed from the devices' partial products,
   are the reference's layers. -/
module

public import proofs.«01_k».proof.Proof.KernelIdeal.Values
public import proofs.«01_k».proof.Proof.Gen.ReferenceIdeal
public import Idealize.ShloMosaic.Lib.MatmulPlain
public import Idealize.ShloMosaic.Lib.StackMember
public import Idealize.ShloMosaic.Lib.Layout
public import Idealize.ShloMosaic.PureOps.Ideal.Laws

@[expose] public section

set_option maxRecDepth 65536

noncomputable section

namespace Cert.Proof.Math

open Cert.Proof.KernelIdeal
open Idealize.ShloMosaic Idealize.SL.Sem
open Idealize.ShloMosaic.ValueIdx

/-! ## The kernel's partial products -/

section Kernel

open Cert.KernelIdeal Cert.KernelIdeal.Gen

theorem dotI_plain : dot_S256x1024_S1024x2048_S256x2048_1_0_0_1_n_n = DotDims.plain 256 1024 2048 := rfl
theorem dotO_plain : dot_S256x2048_S2048x1024_S256x1024_1_0_0_1_n_n = DotDims.plain 256 2048 1024 := rfl

theorem zero_word : (FloatOps.ofBits .f32 0x00000000#32 : Ideal .f32) = (0 : EReal) := Ideal.ofBits_zero_f32

/-- The first product of a row group, with the negative entries put to zero. -/
theorem hidden_apply (x : Vec Ideal S256x1024 .bf16) (w : Vec Ideal S1024x2048 .f32) (r : Fin 256) (h : Fin 2048) :
    (Cert.KernelIdeal.Gen.k0_pay29 (F := Ideal) x (k0_pay3 w) (ValueIdx.ix2 r h) : EReal) = max (∑ k : Fin 1024, (x (ValueIdx.ix2 r k) : EReal) * (w (ValueIdx.ix2 k h) : EReal)) 0 := by
  have e : shapeCast S1024x2048 (k0_pay3 (F := Ideal) w) shapeCasts_S1x1024x2048_S1024x2048 = truncf .bf16 w bitsLt_bf16_f32 :=
    shapeCast_shapeCast _ _ _
  show max (FloatOps.matmul dot_S256x1024_S1024x2048_S256x2048_1_0_0_1_n_n none x
      (shapeCast S1024x2048 (k0_pay3 (F := Ideal) w) shapeCasts_S1x1024x2048_S1024x2048) (constant S256x2048 .f32 0x00000000#32) (ValueIdx.ix2 r h) : EReal)
      (FloatOps.ofBits .f32 0x00000000#32 : Ideal .f32) = _
  rw [e, dotI_plain, zero_word, Ideal.matmul_plain_apply]
  refine congrArg (max · 0) ?_
  show (FloatOps.ofBits .f32 0x00000000#32 : Ideal .f32) + _ = _
  rw [zero_word]
  exact zero_add _

/-- The second product of a row group. -/
theorem group_apply (y : Vec Ideal S256x2048 .bf16) (w : Vec Ideal S2048x1024 .f32) (r : Fin 256) (c : Fin 1024) :
    (k0_pay30 (F := Ideal) y (k0_pay4 w) (ValueIdx.ix2 r c) : EReal) = ∑ h : Fin 2048, (y (ValueIdx.ix2 r h) : EReal) * (w (ValueIdx.ix2 h c) : EReal) := by
  have e : shapeCast S2048x1024 (k0_pay4 (F := Ideal) w) shapeCasts_S1x2048x1024_S2048x1024 = truncf .bf16 w bitsLt_bf16_f32 :=
    shapeCast_shapeCast _ _ _
  have s : k0_pay30 (F := Ideal) y (k0_pay4 w) = truncf .bf16 (FloatOps.matmul dot_S256x2048_S2048x1024_S256x1024_1_0_0_1_n_n none y
      (shapeCast S2048x1024 (k0_pay4 (F := Ideal) w) shapeCasts_S1x2048x1024_S2048x1024) (constant S256x1024 .f32 0x00000000#32)) bitsLt_bf16_f32 :=
    shapeCast_self _ _
  rw [s]
  show (FloatOps.matmul dot_S256x2048_S2048x1024_S256x1024_1_0_0_1_n_n none y
      (shapeCast S2048x1024 (k0_pay4 (F := Ideal) w) shapeCasts_S1x2048x1024_S2048x1024) (constant S256x1024 .f32 0x00000000#32) (ValueIdx.ix2 r c) : EReal) = _
  rw [e, dotO_plain, Ideal.matmul_plain_apply]
  show (FloatOps.ofBits .f32 0x00000000#32 : Ideal .f32) + _ = _
  rw [zero_word]
  exact zero_add _

/-- A device's share of one entry of a layer: its own hidden columns only. -/
def share (wi : S1024x2048.Idx → EReal) (wo : S2048x1024.Idx → EReal) (x : S1024x1024.Idx → EReal) (r c : Fin 1024) : EReal :=
  ∑ h : Fin 2048, max (∑ k : Fin 1024, x (ValueIdx.ix2 r k) * wi (ValueIdx.ix2 k h)) 0 * wo (ValueIdx.ix2 h c)

theorem rG_emb (r k : Fin 1024) : (rG (rowGrp r)).emb (ValueIdx.ix2 (rowInG r) k) = ValueIdx.ix2 r k := by
  funext a
  apply Fin.ext
  match a with
  | ⟨0, _⟩ =>
    have e : ((rG (rowGrp r)).emb (ValueIdx.ix2 (rowInG r) k) 0 : ℕ) = 256 * (r.val / 256) + r.val % 256 := ValueKit.rect_emb_unit_val _ _ _ _ _
    exact e.trans (Nat.div_add_mod _ _)
  | ⟨1, _⟩ => exact (ValueKit.rect_emb_unit_val _ _ _ _ _).trans (Nat.zero_add _)

theorem part_apply (wi : Vec Ideal S1024x2048 .f32) (wo : Vec Ideal S2048x1024 .f32) (xf : S1024x1024.Idx → Elt Ideal .bf16) (r c : Fin 1024) :
    (part (F := Ideal) wi wo xf (ValueIdx.ix2 r c) : EReal) = share wi wo xf r c := by
  show (mmv (F := Ideal) wi wo xf (rowGrp r) (ValueIdx.ix2 (rowInG r) c) : EReal) = _
  unfold mmv share
  rw [group_apply]
  refine Finset.sum_congr rfl fun h _ => ?_
  rw [hidden_apply]
  refine congrArg (fun s => max s 0 * _) (Finset.sum_congr rfl fun k _ => congrArg (· * _) ?_)
  show xf ((rG (rowGrp r)).emb (ValueIdx.ix2 (rowInG r) k)) = _
  rw [rG_emb]

/-! ## The sum over the devices -/

theorem rOwn_emb (d : Dev nD) (i : Fin 64) (c : Fin 1024) (h : 64 * d.val + i.val < 1024) :
    (rOwn d).emb (ValueIdx.ix2 i c) = ValueIdx.ix2 (⟨64 * d.val + i.val, h⟩ : Fin 1024) c := by
  funext a
  apply Fin.ext
  match a with
  | ⟨0, _⟩ => exact (ValueKit.rect_emb_unit_val _ _ _ _ _).trans (congrArg (· + i.val) (congrFun (k0_off1_eq d) 0))
  | ⟨1, _⟩ => exact (ValueKit.rect_emb_unit_val _ _ _ _ _).trans ((congrArg (· + c.val) (congrFun (k0_off1_eq d) 1)).trans (Nat.zero_add _))

theorem rS_emb (j : Fin 16) (i : Fin 64) (c : Fin 1024) : (rS j).emb (ValueIdx.ix3 (⟨0, Nat.one_pos⟩ : Fin 1) i c) = ValueIdx.ix3 j i c := by
  funext a
  apply Fin.ext
  match a with
  | ⟨0, _⟩ => exact (ValueKit.rect_emb_unit_val _ _ _ _ _).trans (Nat.add_zero _)
  | ⟨1, _⟩ => exact (ValueKit.rect_emb_unit_val _ _ _ _ _).trans (Nat.zero_add _)
  | ⟨2, _⟩ => exact (ValueKit.rect_emb_unit_val _ _ _ _ _).trans (Nat.zero_add _)

/-- One addition of the accumulation. -/
theorem add_apply (a : Vec Ideal S64x1024 .f32) (rb : S16x64x1024.Idx → Elt Ideal .bf16) (j : Fin 16) (i : Fin 64) (c : Fin 1024) :
    (k0_pay12 (F := Ideal) a (rM.view.readAt (Elt Ideal) (rS j).toLoadRect rb) (ValueIdx.ix2 i c) : EReal) = (a (ValueIdx.ix2 i c) : EReal) + (rb (ValueIdx.ix3 j i c) : EReal) := by
  have s : k0_pay12 (F := Ideal) a (rM.view.readAt (Elt Ideal) (rS j).toLoadRect rb)
      = addf a (extf .f32 (shapeCast S64x1024 (rM.view.readAt (Elt Ideal) (rS j).toLoadRect rb) shapeCasts_S1x64x1024_S64x1024) bitsLt_bf16_f32) :=
    shapeCast_self _ _
  rw [s]
  show (a (ValueIdx.ix2 i c) : EReal) + (shapeCast S64x1024 (rM.view.readAt (Elt Ideal) (rS j).toLoadRect rb) shapeCasts_S1x64x1024_S64x1024 (ValueIdx.ix2 i c) : EReal) = _
  refine congrArg ((a (ValueIdx.ix2 i c) : EReal) + ·) ?_
  have q : Shape.reshapeEquiv (by exact shapeCasts_S1x64x1024_S64x1024) (ValueIdx.ix2 i c) = ValueIdx.ix3 (⟨0, Nat.one_pos⟩ : Fin 1) i c := reshapeEquiv_ix2_1ab _ _ _
  show rb ((rS j).emb (Shape.reshapeEquiv _ (ValueIdx.ix2 i c))) = _
  rw [q, rS_emb]

theorem own_apply (pf : S1024x1024.Idx → Elt Ideal .bf16) (d : Dev nD) (i : Fin 64) (c : Fin 1024) (h : 64 * d.val + i.val < 1024) :
    (k0_pay11 (F := Ideal) (pM.view.readAt (Elt Ideal) (rOwn d).toLoadRect pf) (ValueIdx.ix2 i c) : EReal) = pf (ValueIdx.ix2 (⟨64 * d.val + i.val, h⟩ : Fin 1024) c) := by
  have s : k0_pay11 (F := Ideal) (pM.view.readAt (Elt Ideal) (rOwn d).toLoadRect pf)
      = extf .f32 (pM.view.readAt (Elt Ideal) (rOwn d).toLoadRect pf) bitsLt_bf16_f32 := shapeCast_self _ _
  rw [s]
  show (pf ((rOwn d).emb (ValueIdx.ix2 i c)) : EReal) = _
  rw [rOwn_emb d i c h]

theorem row_lt (d : Dev nD) (i : Fin 64) : 64 * d.val + i.val < 1024 := by
  have := d.isLt; have := nD_eq; have := i.isLt; omega

/-- A sum taken with one term first and passed over afterwards. -/
theorem sum_first (q : Fin 16 → EReal) (d : Fin 16) :
    q d + ∑ j : Fin 16, (if j = d then 0 else q j) = ∑ j : Fin 16, q j := by
  have e : ∀ j, q j = (if j = d then q j else 0) + (if j = d then 0 else q j) := fun j => by split <;> simp
  rw [Finset.sum_congr rfl fun j _ => e j, Finset.sum_add_distrib, Finset.sum_ite_eq' Finset.univ d q, if_pos (Finset.mem_univ d)]

theorem acc_apply (p : Dev nD → S1024x1024.Idx → Elt Ideal .bf16) (d : Dev nD) (i : Fin 64) (c : Fin 1024) (n : ℕ) :
    (accv (F := Ideal) (p d) (recv (F := Ideal) p d) d n (ValueIdx.ix2 i c) : EReal)
      = (p d (ValueIdx.ix2 (⟨64 * d.val + i.val, row_lt d i⟩ : Fin 1024) c) : EReal)
        + ∑ j ∈ Finset.range n, if h : j < 16 then (if (⟨j, h⟩ : Fin 16) = d then (0 : EReal) else p ⟨j, h⟩ (ValueIdx.ix2 (⟨64 * d.val + i.val, row_lt d i⟩ : Fin 1024) c)) else 0 := by
  induction n with
  | zero => exact (own_apply (p d) d i c (row_lt d i)).trans (by simp)
  | succ n ih =>
    rw [Finset.sum_range_succ, ← add_assoc, ← ih]
    by_cases h : n < 16
    · by_cases e : n = d.val
      · rw [dif_pos h, if_pos (Fin.ext e), add_zero]
        rw [accv, dif_pos h, if_pos e]
      · rw [dif_pos h, if_neg (fun he => e (congrArg Fin.val he))]
        rw [accv, dif_pos h, if_neg e, add_apply]
        rfl
    · rw [dif_neg h, add_zero, accv, dif_neg h]

variable (I : In Ideal)

/-- One layer of the kernel: every entry the sum of the devices' shares. -/
theorem layer_apply (l : ℕ) (r c : Fin 1024) :
    (XF I (l + 1) (ValueIdx.ix2 r c) : EReal) = ∑ d : Fin 16, share (I.wi (lay l) d) (I.wo (lay l) d) (XF I l) r c := by
  show (k0_pay56 (F := Ideal) (k0_pay55 (ACC I l (rowDev r) 16)) (ValueIdx.ix2 (rowIn r) c) : EReal) = _
  have s : k0_pay56 (F := Ideal) (k0_pay55 (ACC I l (rowDev r) 16)) = truncf .bf16 (ACC I l (rowDev r) 16) bitsLt_bf16_f32 := shapeCast_self _ _
  rw [s]
  show (accv (F := Ideal) (PF I l (rowDev r)) (recv (F := Ideal) (PF I l) (rowDev r)) (rowDev r) 16 (ValueIdx.ix2 (rowIn r) c) : EReal) = _
  rw [acc_apply]
  have hr : (⟨64 * (rowDev r).val + (rowIn r).val, row_lt (rowDev r) (rowIn r)⟩ : Fin 1024) = r := Fin.ext (Nat.div_add_mod r.val 64)
  rw [hr, Finset.sum_range]
  refine Eq.trans ?_ (Finset.sum_congr rfl fun d _ => part_apply (I.wi (lay l) d) (I.wo (lay l) d) (XF I l) r c)
  refine Eq.trans ?_ (sum_first (fun d => PF I l d (ValueIdx.ix2 r c)) (rowDev r))
  refine congrArg ((PF I l (rowDev r) (ValueIdx.ix2 r c) : EReal) + ·) (Finset.sum_congr rfl fun j _ => ?_)
  rw [dif_pos j.isLt]

end Kernel

/-! ## The reference's layers -/

section Reference

open Cert.ReferenceIdeal Cert.ReferenceIdeal.Gen

theorem refI_plain : dot_S1024x1024_S1024x32768_S1024x32768_1_0_0_1_n_n = DotDims.plain 1024 1024 32768 := rfl
theorem refO_plain : dot_S1024x32768_S32768x1024_S1024x1024_1_0_0_1_n_n = DotDims.plain 1024 32768 1024 := rfl

/-- One layer of the reference, as its program takes it. -/
def refLayer (x : FVec Ideal S1024x1024 .f32) (wi : FVec Ideal S1024x32768 .f32) (wo : FVec Ideal S32768x1024 .f32) : FVec Ideal S1024x1024 .f32 :=
  Host.dotGeneral dot_S1024x32768_S32768x1024_S1024x1024_1_0_0_1_n_n none
    (maximumf (Host.dotGeneral dot_S1024x1024_S1024x32768_S1024x32768_1_0_0_1_n_n none x wi)
      (broadcastInDim S1024x32768 ![] bcast_S_S1024x32768 (constant S_ .f32 0x00000000#32))) wo

theorem refLayer_apply (x : FVec Ideal S1024x1024 .f32) (wi : FVec Ideal S1024x32768 .f32) (wo : FVec Ideal S32768x1024 .f32) (r c : Fin 1024) :
    (refLayer x wi wo (ValueIdx.ix2 r c) : EReal)
      = ∑ h : Fin 32768, max (∑ k : Fin 1024, (x (ValueIdx.ix2 r k) : EReal) * (wi (ValueIdx.ix2 k h) : EReal)) 0 * (wo (ValueIdx.ix2 h c) : EReal) := by
  unfold refLayer
  rw [refO_plain, StackMember.dotGeneral_plain_apply]
  refine Finset.sum_congr rfl fun h _ => congrArg (· * (wo (ValueIdx.ix2 h c) : EReal)) ?_
  show max (Host.dotGeneral dot_S1024x1024_S1024x32768_S1024x32768_1_0_0_1_n_n none x wi (ValueIdx.ix2 r h) : EReal) (FloatOps.ofBits .f32 0x00000000#32 : Ideal .f32) = _
  rw [refI_plain, StackMember.dotGeneral_plain_apply, zero_word]

/-- The hidden columns, device by device. -/
theorem sum_devices (f : Fin 32768 → EReal) :
    ∑ h : Fin 32768, f h = ∑ d : Fin 16, ∑ h : Fin 2048, f ⟨d.val * 2048 + h.val, by have := d.isLt; have := h.isLt; omega⟩ := by
  rw [← Fintype.sum_prod_type' (f := fun (d : Fin 16) (h : Fin 2048) => f ⟨d.val * 2048 + h.val, by have := d.isLt; have := h.isLt; omega⟩)]
  refine (Fintype.sum_equiv (finProdFinEquiv (m := 16) (n := 2048)) _ _ fun x => congrArg f (Fin.ext ?_)).symm
  show x.1.val * 2048 + x.2.val = x.2.val + 2048 * x.1.val
  omega

/-- One layer of the kernel is one layer of the reference, when the devices hold the blocks of the reference's weights. -/
theorem layer_eq (I : In Ideal) (l : ℕ) (x : FVec Ideal S1024x1024 .f32) (wi : FVec Ideal S1024x32768 .f32) (wo : FVec Ideal S32768x1024 .f32)
    (hx : ∀ i, (XF I l i : EReal) = x i)
    (hi : ∀ c : Fin 16, I.wi (lay l) c = Layout.block ⟨2, ![1024, 2048]⟩ ⟨2, ![1024, 32768]⟩ 1 16 c wi)
    (ho : ∀ c : Fin 16, I.wo (lay l) c = Layout.block ⟨2, ![2048, 1024]⟩ ⟨2, ![32768, 1024]⟩ 0 16 c wo)
    (i : S1024x1024.Idx) : (XF I (l + 1) i : EReal) = refLayer x wi wo i := by
  rw [ValueIdx.eq_ix2 i]
  refine (layer_apply I l (i 0) (i 1)).trans (Eq.trans ?_ ((refLayer_apply x wi wo (i 0) (i 1)).trans (sum_devices _)).symm)
  refine Finset.sum_congr rfl fun d _ => Finset.sum_congr rfl fun h _ => ?_
  rw [hi d, ho d]
  refine congrArg₂ (fun a b => max a 0 * b) (Finset.sum_congr rfl fun k _ => congrArg₂ (fun a b => a * b) (hx _) (congrArg wi ?_)) (congrArg wo ?_)
  · funext a
    match a with
    | ⟨0, _⟩ => rfl
    | ⟨1, _⟩ => rfl
  · funext a
    match a with
    | ⟨0, _⟩ => rfl
    | ⟨1, _⟩ => rfl

/-- The rows the kernel starts from are the reference's. -/
theorem start_eq (I : In Ideal) (x : FVec Ideal S1024x1024 .bf16)
    (hx : ∀ c : Fin 16, I.x c = Layout.block ⟨2, ![64, 1024]⟩ ⟨2, ![1024, 1024]⟩ 0 16 c x)
    (i : S1024x1024.Idx) : (XF I 0 i : EReal) = extf .f32 x bitsLt_bf16_f32 i := by
  have s : ∀ v : Vec Ideal Cert.KernelIdeal.S64x1024 .bf16, Cert.KernelIdeal.Gen.k0_pay2 (F := Ideal) v = v := fun v =>
    (shapeCast_self _ _).trans (shapeCast_self _ _)
  show (Cert.KernelIdeal.Gen.k0_pay2 (F := Ideal) (I.x (rowDev (i 0))) (ValueIdx.ix2 (rowIn (i 0)) (i 1)) : EReal) = x i
  rw [s, hx]
  refine congrArg x (funext fun a => Fin.ext ?_)
  match a with
  | ⟨0, _⟩ => exact Nat.div_add_mod' (i 0).val 64
  | ⟨1, _⟩ => rfl

/-- The kernel's result is the reference's. -/
theorem out_eq (I : In Ideal) (x : FVec Ideal S1024x1024 .bf16) (w1 w2 w3 : FVec Ideal S1024x32768 .f32) (v1 v2 v3 : FVec Ideal S32768x1024 .f32)
    (hx : ∀ c : Fin 16, I.x c = Layout.block ⟨2, ![64, 1024]⟩ ⟨2, ![1024, 1024]⟩ 0 16 c x)
    (h1 : ∀ c : Fin 16, I.wi 0 c = Layout.block ⟨2, ![1024, 2048]⟩ ⟨2, ![1024, 32768]⟩ 1 16 c w1)
    (h2 : ∀ c : Fin 16, I.wi 1 c = Layout.block ⟨2, ![1024, 2048]⟩ ⟨2, ![1024, 32768]⟩ 1 16 c w2)
    (h3 : ∀ c : Fin 16, I.wi 2 c = Layout.block ⟨2, ![1024, 2048]⟩ ⟨2, ![1024, 32768]⟩ 1 16 c w3)
    (g1 : ∀ c : Fin 16, I.wo 0 c = Layout.block ⟨2, ![2048, 1024]⟩ ⟨2, ![32768, 1024]⟩ 0 16 c v1)
    (g2 : ∀ c : Fin 16, I.wo 1 c = Layout.block ⟨2, ![2048, 1024]⟩ ⟨2, ![32768, 1024]⟩ 0 16 c v2)
    (g3 : ∀ c : Fin 16, I.wo 2 c = Layout.block ⟨2, ![2048, 1024]⟩ ⟨2, ![32768, 1024]⟩ 0 16 c v3) :
    OUT I = refLayer (refLayer (refLayer (extf .f32 x bitsLt_bf16_f32) w1 v1) w2 v2) w3 v3 := by
  have e := layer_eq I 2 _ w3 v3 (layer_eq I 1 _ w2 v2 (layer_eq I 0 _ w1 v1 (start_eq I x hx) h1 g1) h2 g2) h3 g3
  exact funext e

end Reference

end Cert.Proof.Math
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Final
public import proofs.«01_k».proof.Proof.KernelIdeal.Final
public import proofs.«01_k».proof.Proof.Math
public import Idealize.ShloMosaic.Lib.Quiescent
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- The kernel at the bit patterns ends on every device, its inputs as they were, every counter at zero. -/
theorem quiescent_kernel : Cert.quiescent_Kernel := fun m g _ =>
  (θ_run Cert.Kernel.defs _ _).mono (fun _ h => ⟨fun c => (h.1 c).2, h.2⟩) (Cert.Proof.Kernel.run_final (F := Bits) m g)

/-- So does the kernel over the extended reals. -/
theorem quiescent_kernelIdeal : Cert.quiescent_KernelIdeal := fun m g _ =>
  (θ_run Cert.KernelIdeal.defs _ _).mono (fun _ h => ⟨fun c => (h.1 c).2, h.2⟩) (Cert.Proof.KernelIdeal.run_final (F := Ideal) m g)

/-- So does the reference; it has no counters. -/
theorem quiescent_referenceIdeal : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Over the extended reals every device's result is the whole reference's result. -/
theorem algebraic : Cert.algebraic_KernelIdeal_ReferenceIdeal := fun m g m' g' _ hin => by
  have e := Math.out_eq (KernelIdeal.inp m) _ _ _ _ _ _ _
    (fun c => (KernelIdeal.xstg_eq m c).trans (hin c).1)
    (fun c => (hin c).2.1) (fun c => (hin c).2.2.1) (fun c => (hin c).2.2.2.1)
    (fun c => (hin c).2.2.2.2.1) (fun c => (hin c).2.2.2.2.2.1) (fun c => (hin c).2.2.2.2.2.2)
  exact ⟨_, (θ_run Cert.KernelIdeal.defs _ _).mono (fun _ h c => ⟨(h.1 c).1.trans e, (h.1 c).2⟩) (KernelIdeal.run_final (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof
end
